-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S16x128x2048 : Shape := ⟨3, ![16, 128, 2048]⟩
abbrev S8x128x768 : Shape := ⟨3, ![8, 128, 768]⟩
abbrev S7x64x384 : Shape := ⟨3, ![7, 64, 384]⟩
abbrev S2x64x384 : Shape := ⟨3, ![2, 64, 384]⟩
abbrev S7x128x640 : Shape := ⟨3, ![7, 128, 640]⟩
abbrev S2x128x640 : Shape := ⟨3, ![2, 128, 640]⟩
abbrev S2x2x128x640 : Shape := ⟨4, ![2, 2, 128, 640]⟩
abbrev S8 : Shape := ⟨1, ![8]⟩
abbrev S7 : Shape := ⟨1, ![7]⟩
abbrev S2 : Shape := ⟨1, ![2]⟩
abbrev S_ : Shape := ⟨0, ![]⟩
abbrev S128x1024 : Shape := ⟨2, ![128, 1024]⟩
abbrev S128x2048 : Shape := ⟨2, ![128, 2048]⟩
abbrev S1x128x2048 : Shape := ⟨3, ![1, 128, 2048]⟩
abbrev S128x640 : Shape := ⟨2, ![128, 640]⟩
abbrev S1x128x640 : Shape := ⟨3, ![1, 128, 640]⟩
abbrev S1 : Shape := ⟨1, ![1]⟩
abbrev S1x128x768 : Shape := ⟨3, ![1, 128, 768]⟩
abbrev S128x768 : Shape := ⟨2, ![128, 768]⟩
abbrev S1x1x128x640 : Shape := ⟨4, ![1, 1, 128, 640]⟩
abbrev S64x384 : Shape := ⟨2, ![64, 384]⟩
abbrev S1x64x384 : Shape := ⟨3, ![1, 64, 384]⟩

abbrev nBuf : Space → Nat
  | .hbm => 3
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S16x128x2048, .bf16⟩
  | .local _ .vmem, ⟨0, _⟩ => ⟨S2048x1024, .bf16⟩
  | .local _ .vmem, ⟨1, _⟩ => ⟨S1024x2048, .bf16⟩
  | .local _ .vmem, ⟨2, _⟩ => ⟨S16x128x2048, .bf16⟩
  | .local _ .vmem, ⟨3, _⟩ => ⟨S16x128x2048, .bf16⟩
  | .local _ .vmem, ⟨4, _⟩ => ⟨S8x128x768, .bf16⟩
  | .local _ .vmem, ⟨5, _⟩ => ⟨S7x64x384, .bf16⟩
  | .local _ .vmem, ⟨6, _⟩ => ⟨S7x64x384, .bf16⟩
  | .local _ .vmem, ⟨7, _⟩ => ⟨S7x64x384, .bf16⟩
  | .local _ .vmem, ⟨8, _⟩ => ⟨S7x64x384, .bf16⟩
  | .local _ .vmem, ⟨9, _⟩ => ⟨S2x64x384, .bf16⟩
  | .local _ .vmem, ⟨10, _⟩ => ⟨S2x64x384, .bf16⟩
  | .local _ .vmem, ⟨11, _⟩ => ⟨S2x64x384, .bf16⟩
  | .local _ .vmem, ⟨12, _⟩ => ⟨S2x64x384, .bf16⟩
  | .local _ .vmem, ⟨13, _⟩ => ⟨S7x128x640, .bf16⟩
  | .local _ .vmem, ⟨14, _⟩ => ⟨S7x128x640, .bf16⟩
  | .local _ .vmem, ⟨15, _⟩ => ⟨S7x128x640, .bf16⟩
  | .local _ .vmem, ⟨16, _⟩ => ⟨S7x128x640, .bf16⟩
  | .local _ .vmem, ⟨17, _⟩ => ⟨S2x128x640, .bf16⟩
  | .local _ .vmem, ⟨18, _⟩ => ⟨S2x128x640, .bf16⟩
  | .local _ .vmem, ⟨19, _⟩ => ⟨S2x128x640, .bf16⟩
  | .local _ .vmem, ⟨20, _⟩ => ⟨S2x128x640, .bf16⟩
  | .local _ .vmem, ⟨21, _⟩ => ⟨S2x2x128x640, .bf16⟩
  | .local _ .vmem, ⟨22, _⟩ => ⟨S2x128x640, .bf16⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 267 → Bool
  | ⟨i, _⟩ => dmaSemScopedAt i

abbrev sig : RefSig :=
  (ofTc nBuf bufTy 1 267 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_82 : BitVec 32 := 1#32
  let v197 : BitVec 32 := Scalar.muli v193 c1_i32_82
  let v198 : BitVec 32 := Scalar.addi c0_i32_83 v197
  v198.toNat
def k0_dev2 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_85 : BitVec 32 := 1#32
  let v199 : BitVec 32 := Scalar.muli v189 c1_i32_85
  let v200 : BitVec 32 := Scalar.addi c0_i32_86 v199
  v200.toNat
def k0_dev3 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_88 : BitVec 32 := 1#32
  let v201 : BitVec 32 := Scalar.muli v191 c1_i32_88
  let v202 : BitVec 32 := Scalar.addi c0_i32_89 v201
  v202.toNat
def k0_off1 (d0 : Dev nD) (c0_i32_92 : BitVec 32) : Fin 2 → Nat :=
  let c2_i32_91 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let v203 : BitVec 32 := Scalar.muli c2_i32_91 v187
  let v204 : BitVec 32 := Scalar.addi v203 c0_i32_92
  let c128_i32 : BitVec 32 := 128#32
  let v205 : BitVec 32 := Scalar.muli v204 c128_i32
  let v206 : Index := Scalar.indexCast v205
  let c0 : Index := 0#32
  ![v206.toNat, 0]
def k0_off2 (d0 : Dev nD) (c0_i32_92 : BitVec 32) : Fin 3 → Nat :=
  let c2_i32_91 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let v203 : BitVec 32 := Scalar.muli c2_i32_91 v187
  let v204 : BitVec 32 := Scalar.addi v203 c0_i32_92
  let v213 : Index := Scalar.indexCast v204
  let c0_95 : Index := 0#32
  let c0_96 : Index := 0#32
  ![v213.toNat, 0, 0]
def k0_dev4 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_138 : BitVec 32 := 1#32
  let v267 : BitVec 32 := Scalar.muli v189 c1_i32_138
  let v268 : BitVec 32 := Scalar.addi c0_i32_139 v267
  v268.toNat
def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_148 : BitVec 32 := 1#32
  let v277 : BitVec 32 := Scalar.muli v189 c1_i32_148
  let v278 : BitVec 32 := Scalar.addi c0_i32_149 v277
  v278.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_158 : BitVec 32 := 1#32
  let v287 : BitVec 32 := Scalar.muli v191 c1_i32_158
  let v288 : BitVec 32 := Scalar.addi c0_i32_159 v287
  v288.toNat
def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_168 : BitVec 32 := 1#32
  let v297 : BitVec 32 := Scalar.muli v191 c1_i32_168
  let v298 : BitVec 32 := Scalar.addi c0_i32_169 v297
  v298.toNat
def k0_off3 (d0 : Dev nD) (c0_i32_174 : BitVec 32) : Fin 3 → Nat :=
  let c2_i32_176 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32 : BitVec 32 := 32#32
  let v307 : BitVec 32 := Scalar.addi v187 c32_i32
  let v308 : BitVec 32 := Scalar.addi v307 c0_i32_174
  let c8_i32_175 : BitVec 32 := 8#32
  let v309 : BitVec 32 := Scalar.remsi v308 c8_i32_175
  let v310 : BitVec 32 := Scalar.muli c2_i32_176 v309
  let c1_i32_177 : BitVec 32 := 1#32
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v311 : BitVec 32 := Scalar.subi c1_i32_177 v195
  let v312 : BitVec 32 := Scalar.addi v310 v311
  let c0_i32_185 : BitVec 32 := 0#32
  let c0_i32_186 : BitVec 32 := 0#32
  ![v312.toNat, 0, 0]
def k0_off3_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_181 : BitVec 32 := 1#32
  let v313 : BitVec 32 := Scalar.muli v193 c1_i32_181
  let v314 : BitVec 32 := Scalar.addi c0_i32_182 v313
  v314.toNat
def k0_off4 (d0 : Dev nD) (c_m1_i32 : BitVec 32) (c0_i32_190 : BitVec 32) : Fin 2 → Nat :=
  let c2_i32_189 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_187 : BitVec 32 := 32#32
  let v323 : BitVec 32 := Scalar.addi v187 c32_i32_187
  let v324 : BitVec 32 := Scalar.addi v323 c_m1_i32
  let c8_i32_188 : BitVec 32 := 8#32
  let v325 : BitVec 32 := Scalar.remsi v324 c8_i32_188
  let v326 : BitVec 32 := Scalar.muli c2_i32_189 v325
  let v327 : BitVec 32 := Scalar.addi v326 c0_i32_190
  let c128_i32_191 : BitVec 32 := 128#32
  let v328 : BitVec 32 := Scalar.muli v327 c128_i32_191
  let v329 : Index := Scalar.indexCast v328
  let c0_192 : Index := 0#32
  ![v329.toNat, 0]
def k0_off4_at (r : Fin 14) : BitVec 32 × BitVec 32 :=
  if r.val < 7 then
    if r.val < 3 then
      if r.val < 1 then
        (4294967295#32, 0#32)
      else
        if r.val < 2 then
          (4294967295#32, 1#32)
        else
          (1#32, 0#32)
    else
      if r.val < 5 then
        if r.val < 4 then
          (1#32, 1#32)
        else
          (4294967294#32, 0#32)
      else
        if r.val < 6 then
          (4294967294#32, 1#32)
        else
          (2#32, 0#32)
  else
    if r.val < 10 then
      if r.val < 8 then
        (2#32, 1#32)
      else
        if r.val < 9 then
          (4294967293#32, 0#32)
        else
          (4294967293#32, 1#32)
    else
      if r.val < 12 then
        if r.val < 11 then
          (3#32, 0#32)
        else
          (3#32, 1#32)
      else
        if r.val < 13 then
          (4#32, 0#32)
        else
          (4#32, 1#32)
def k0_off5 (d0 : Dev nD) (c_m1_i32 : BitVec 32) (c0_i32_190 : BitVec 32) : Fin 3 → Nat :=
  let c2_i32_189 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_187 : BitVec 32 := 32#32
  let v323 : BitVec 32 := Scalar.addi v187 c32_i32_187
  let v324 : BitVec 32 := Scalar.addi v323 c_m1_i32
  let c8_i32_188 : BitVec 32 := 8#32
  let v325 : BitVec 32 := Scalar.remsi v324 c8_i32_188
  let v326 : BitVec 32 := Scalar.muli c2_i32_189 v325
  let v327 : BitVec 32 := Scalar.addi v326 c0_i32_190
  let v336 : Index := Scalar.indexCast v327
  let c0_196 : Index := 0#32
  let c0_197 : Index := 0#32
  ![v336.toNat, 0, 0]
def k0_off5_at (r : Fin 28) : BitVec 32 × BitVec 32 :=
  if r.val < 14 then
    if r.val < 7 then
      if r.val < 3 then
        if r.val < 1 then
          (4294967295#32, 0#32)
        else
          if r.val < 2 then
            (4294967295#32, 1#32)
          else
            (1#32, 0#32)
      else
        if r.val < 5 then
          if r.val < 4 then
            (1#32, 1#32)
          else
            (4294967294#32, 0#32)
        else
          if r.val < 6 then
            (4294967294#32, 1#32)
          else
            (2#32, 0#32)
    else
      if r.val < 10 then
        if r.val < 8 then
          (2#32, 1#32)
        else
          if r.val < 9 then
            (4294967293#32, 0#32)
          else
            (4294967293#32, 1#32)
      else
        if r.val < 12 then
          if r.val < 11 then
            (3#32, 0#32)
          else
            (3#32, 1#32)
        else
          if r.val < 13 then
            (4#32, 0#32)
          else
            (4#32, 1#32)
  else
    if r.val < 21 then
      if r.val < 17 then
        if r.val < 15 then
          (4294967292#32, 0#32)
        else
          if r.val < 16 then
            (4294967292#32, 1#32)
          else
            (4294967291#32, 0#32)
      else
        if r.val < 19 then
          if r.val < 18 then
            (4294967291#32, 1#32)
          else
            (5#32, 0#32)
        else
          if r.val < 20 then
            (5#32, 1#32)
          else
            (4294967290#32, 0#32)
    else
      if r.val < 24 then
        if r.val < 22 then
          (4294967290#32, 1#32)
        else
          if r.val < 23 then
            (6#32, 0#32)
          else
            (6#32, 1#32)
      else
        if r.val < 26 then
          if r.val < 25 then
            (4294967289#32, 0#32)
          else
            (4294967289#32, 1#32)
        else
          if r.val < 27 then
            (7#32, 0#32)
          else
            (7#32, 1#32)
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_215 : BitVec 32 := 1#32
  let v360 : BitVec 32 := Scalar.muli v193 c1_i32_215
  let v361 : BitVec 32 := Scalar.addi c0_i32_216 v360
  v361.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_250 : BitVec 32 := 1#32
  let v407 : BitVec 32 := Scalar.muli v193 c1_i32_250
  let v408 : BitVec 32 := Scalar.addi c0_i32_251 v407
  v408.toNat
def k0_dev11 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_282 : BitVec 32 := 1#32
  let v443 : BitVec 32 := Scalar.muli v189 c1_i32_282
  let v444 : BitVec 32 := Scalar.addi c0_i32_283 v443
  v444.toNat
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_315 : BitVec 32 := 1#32
  let v479 : BitVec 32 := Scalar.muli v189 c1_i32_315
  let v480 : BitVec 32 := Scalar.addi c0_i32_316 v479
  v480.toNat
def k0_dev13 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_348 : BitVec 32 := 1#32
  let v515 : BitVec 32 := Scalar.muli v191 c1_i32_348
  let v516 : BitVec 32 := Scalar.addi c0_i32_349 v515
  v516.toNat
def k0_dev14 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_381 : BitVec 32 := 1#32
  let v551 : BitVec 32 := Scalar.muli v191 c1_i32_381
  let v552 : BitVec 32 := Scalar.addi c0_i32_382 v551
  v552.toNat
def k0_dev15 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_415 : BitVec 32 := 1#32
  let v598 : BitVec 32 := Scalar.muli v193 c1_i32_415
  let v599 : BitVec 32 := Scalar.addi c0_i32_416 v598
  v599.toNat
def k0_dev16 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_450 : BitVec 32 := 1#32
  let v645 : BitVec 32 := Scalar.muli v193 c1_i32_450
  let v646 : BitVec 32 := Scalar.addi c0_i32_451 v645
  v646.toNat
def k0_dev17 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_492 : BitVec 32 := 1#32
  let v687 : BitVec 32 := Scalar.muli v189 c1_i32_492
  let v688 : BitVec 32 := Scalar.addi c0_i32_493 v687
  v688.toNat
def k0_dev18 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_534 : BitVec 32 := 1#32
  let v729 : BitVec 32 := Scalar.muli v189 c1_i32_534
  let v730 : BitVec 32 := Scalar.addi c0_i32_535 v729
  v730.toNat
def k0_dev19 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_576 : BitVec 32 := 1#32
  let v771 : BitVec 32 := Scalar.muli v191 c1_i32_576
  let v772 : BitVec 32 := Scalar.addi c0_i32_577 v771
  v772.toNat
def k0_dev20 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_618 : BitVec 32 := 1#32
  let v813 : BitVec 32 := Scalar.muli v191 c1_i32_618
  let v814 : BitVec 32 := Scalar.addi c0_i32_619 v813
  v814.toNat
def k0_dev21 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_652 : BitVec 32 := 1#32
  let v860 : BitVec 32 := Scalar.muli v193 c1_i32_652
  let v861 : BitVec 32 := Scalar.addi c0_i32_653 v860
  v861.toNat
def k0_dev22 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_687 : BitVec 32 := 1#32
  let v907 : BitVec 32 := Scalar.muli v193 c1_i32_687
  let v908 : BitVec 32 := Scalar.addi c0_i32_688 v907
  v908.toNat
def k0_dev23 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_728 : BitVec 32 := 1#32
  let v949 : BitVec 32 := Scalar.muli v189 c1_i32_728
  let v950 : BitVec 32 := Scalar.addi c0_i32_729 v949
  v950.toNat
def k0_dev24 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_770 : BitVec 32 := 1#32
  let v991 : BitVec 32 := Scalar.muli v189 c1_i32_770
  let v992 : BitVec 32 := Scalar.addi c0_i32_771 v991
  v992.toNat
def k0_dev25 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_812 : BitVec 32 := 1#32
  let v1033 : BitVec 32 := Scalar.muli v191 c1_i32_812
  let v1034 : BitVec 32 := Scalar.addi c0_i32_813 v1033
  v1034.toNat
def k0_dev26 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_854 : BitVec 32 := 1#32
  let v1075 : BitVec 32 := Scalar.muli v191 c1_i32_854
  let v1076 : BitVec 32 := Scalar.addi c0_i32_855 v1075
  v1076.toNat
def k0_dev27 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_889 : BitVec 32 := 1#32
  let v1122 : BitVec 32 := Scalar.muli v193 c1_i32_889
  let v1123 : BitVec 32 := Scalar.addi c0_i32_890 v1122
  v1123.toNat
def k0_dev28 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_929 : BitVec 32 := 1#32
  let v1164 : BitVec 32 := Scalar.muli v189 c1_i32_929
  let v1165 : BitVec 32 := Scalar.addi c0_i32_930 v1164
  v1165.toNat
def k0_dev29 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_971 : BitVec 32 := 1#32
  let v1206 : BitVec 32 := Scalar.muli v189 c1_i32_971
  let v1207 : BitVec 32 := Scalar.addi c0_i32_972 v1206
  v1207.toNat
def k0_dev30 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1013 : BitVec 32 := 1#32
  let v1248 : BitVec 32 := Scalar.muli v191 c1_i32_1013
  let v1249 : BitVec 32 := Scalar.addi c0_i32_1014 v1248
  v1249.toNat
def k0_dev31 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1055 : BitVec 32 := 1#32
  let v1290 : BitVec 32 := Scalar.muli v191 c1_i32_1055
  let v1291 : BitVec 32 := Scalar.addi c0_i32_1056 v1290
  v1291.toNat
def k0_dev32 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1095 : BitVec 32 := 1#32
  let v1332 : BitVec 32 := Scalar.muli v189 c1_i32_1095
  let v1333 : BitVec 32 := Scalar.addi c0_i32_1096 v1332
  v1333.toNat
def k0_dev33 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1137 : BitVec 32 := 1#32
  let v1374 : BitVec 32 := Scalar.muli v189 c1_i32_1137
  let v1375 : BitVec 32 := Scalar.addi c0_i32_1138 v1374
  v1375.toNat
def k0_dev34 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1179 : BitVec 32 := 1#32
  let v1416 : BitVec 32 := Scalar.muli v191 c1_i32_1179
  let v1417 : BitVec 32 := Scalar.addi c0_i32_1180 v1416
  v1417.toNat
def k0_dev35 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1221 : BitVec 32 := 1#32
  let v1458 : BitVec 32 := Scalar.muli v191 c1_i32_1221
  let v1459 : BitVec 32 := Scalar.addi c0_i32_1222 v1458
  v1459.toNat
def k0_dev36 (d0 : Dev nD) : Nat :=
  let c0_i32_1262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1261 : BitVec 32 := 1#32
  let v1500 : BitVec 32 := Scalar.muli v189 c1_i32_1261
  let v1501 : BitVec 32 := Scalar.addi c0_i32_1262 v1500
  v1501.toNat
def k0_dev37 (d0 : Dev nD) : Nat :=
  let c0_i32_1304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1303 : BitVec 32 := 1#32
  let v1542 : BitVec 32 := Scalar.muli v189 c1_i32_1303
  let v1543 : BitVec 32 := Scalar.addi c0_i32_1304 v1542
  v1543.toNat
def k0_dev38 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1345 : BitVec 32 := 1#32
  let v1584 : BitVec 32 := Scalar.muli v191 c1_i32_1345
  let v1585 : BitVec 32 := Scalar.addi c0_i32_1346 v1584
  v1585.toNat
def k0_dev39 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1387 : BitVec 32 := 1#32
  let v1626 : BitVec 32 := Scalar.muli v191 c1_i32_1387
  let v1627 : BitVec 32 := Scalar.addi c0_i32_1388 v1626
  v1627.toNat
def k0_off6 (d0 : Dev nD) : Fin 4 → Nat :=
  let c0_i32_1488 : BitVec 32 := 0#32
  let c1_i32_1487 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_2 : BitVec 32 := 0#32
  let c0_i32 : BitVec 32 := 0#32
  let v4 : BitVec 1 := Scalar.cmpi .eq v2 c0_i32
  let v5 : BitVec 32 := Scalar.extui v4
  let v14 : BitVec 32 := Scalar.muli c0_i32_2 v5
  let v15 : BitVec 32 := Scalar.addi v3 v14
  let c1_i32_6 : BitVec 32 := 1#32
  let c1_i32_3 : BitVec 32 := 1#32
  let v16 : BitVec 1 := Scalar.cmpi .eq v2 c1_i32_3
  let v17 : BitVec 32 := Scalar.extui v16
  let v26 : BitVec 32 := Scalar.muli c1_i32_6 v17
  let v27 : BitVec 32 := Scalar.addi v15 v26
  let c1_i32_10 : BitVec 32 := 1#32
  let c2_i32_7 : BitVec 32 := 2#32
  let v28 : BitVec 1 := Scalar.cmpi .eq v2 c2_i32_7
  let v29 : BitVec 32 := Scalar.extui v28
  let v38 : BitVec 32 := Scalar.muli c1_i32_10 v29
  let v39 : BitVec 32 := Scalar.addi v27 v38
  let c0_i32_16 : BitVec 32 := 0#32
  let c3_i32_11 : BitVec 32 := 3#32
  let v40 : BitVec 1 := Scalar.cmpi .eq v2 c3_i32_11
  let v41 : BitVec 32 := Scalar.extui v40
  let v50 : BitVec 32 := Scalar.muli c0_i32_16 v41
  let v51 : BitVec 32 := Scalar.addi v39 v50
  let c0_i32_21 : BitVec 32 := 0#32
  let c4_i32_17 : BitVec 32 := 4#32
  let v52 : BitVec 1 := Scalar.cmpi .eq v2 c4_i32_17
  let v53 : BitVec 32 := Scalar.extui v52
  let v62 : BitVec 32 := Scalar.muli c0_i32_21 v53
  let v63 : BitVec 32 := Scalar.addi v51 v62
  let c1_i32_26 : BitVec 32 := 1#32
  let c5_i32_22 : BitVec 32 := 5#32
  let v64 : BitVec 1 := Scalar.cmpi .eq v2 c5_i32_22
  let v65 : BitVec 32 := Scalar.extui v64
  let v74 : BitVec 32 := Scalar.muli c1_i32_26 v65
  let v75 : BitVec 32 := Scalar.addi v63 v74
  let c1_i32_31 : BitVec 32 := 1#32
  let c6_i32_27 : BitVec 32 := 6#32
  let v76 : BitVec 1 := Scalar.cmpi .eq v2 c6_i32_27
  let v77 : BitVec 32 := Scalar.extui v76
  let v86 : BitVec 32 := Scalar.muli c1_i32_31 v77
  let v87 : BitVec 32 := Scalar.addi v75 v86
  let c0_i32_36 : BitVec 32 := 0#32
  let c7_i32_32 : BitVec 32 := 7#32
  let v88 : BitVec 1 := Scalar.cmpi .eq v2 c7_i32_32
  let v89 : BitVec 32 := Scalar.extui v88
  let v98 : BitVec 32 := Scalar.muli c0_i32_36 v89
  let v99 : BitVec 32 := Scalar.addi v87 v98
  let c0_i32_41 : BitVec 32 := 0#32
  let c8_i32_37 : BitVec 32 := 8#32
  let v100 : BitVec 1 := Scalar.cmpi .eq v2 c8_i32_37
  let v101 : BitVec 32 := Scalar.extui v100
  let v110 : BitVec 32 := Scalar.muli c0_i32_41 v101
  let v111 : BitVec 32 := Scalar.addi v99 v110
  let c1_i32_46 : BitVec 32 := 1#32
  let c9_i32_42 : BitVec 32 := 9#32
  let v112 : BitVec 1 := Scalar.cmpi .eq v2 c9_i32_42
  let v113 : BitVec 32 := Scalar.extui v112
  let v122 : BitVec 32 := Scalar.muli c1_i32_46 v113
  let v123 : BitVec 32 := Scalar.addi v111 v122
  let c1_i32_51 : BitVec 32 := 1#32
  let c10_i32_47 : BitVec 32 := 10#32
  let v124 : BitVec 1 := Scalar.cmpi .eq v2 c10_i32_47
  let v125 : BitVec 32 := Scalar.extui v124
  let v134 : BitVec 32 := Scalar.muli c1_i32_51 v125
  let v135 : BitVec 32 := Scalar.addi v123 v134
  let c0_i32_56 : BitVec 32 := 0#32
  let c11_i32_52 : BitVec 32 := 11#32
  let v136 : BitVec 1 := Scalar.cmpi .eq v2 c11_i32_52
  let v137 : BitVec 32 := Scalar.extui v136
  let v146 : BitVec 32 := Scalar.muli c0_i32_56 v137
  let v147 : BitVec 32 := Scalar.addi v135 v146
  let c0_i32_62 : BitVec 32 := 0#32
  let c12_i32_57 : BitVec 32 := 12#32
  let v148 : BitVec 1 := Scalar.cmpi .eq v2 c12_i32_57
  let v149 : BitVec 32 := Scalar.extui v148
  let v158 : BitVec 32 := Scalar.muli c0_i32_62 v149
  let v159 : BitVec 32 := Scalar.addi v147 v158
  let c1_i32_68 : BitVec 32 := 1#32
  let c13_i32_63 : BitVec 32 := 13#32
  let v160 : BitVec 1 := Scalar.cmpi .eq v2 c13_i32_63
  let v161 : BitVec 32 := Scalar.extui v160
  let v170 : BitVec 32 := Scalar.muli c1_i32_68 v161
  let v171 : BitVec 32 := Scalar.addi v159 v170
  let c1_i32_74 : BitVec 32 := 1#32
  let c14_i32_69 : BitVec 32 := 14#32
  let v172 : BitVec 1 := Scalar.cmpi .eq v2 c14_i32_69
  let v173 : BitVec 32 := Scalar.extui v172
  let v182 : BitVec 32 := Scalar.muli c1_i32_74 v173
  let v183 : BitVec 32 := Scalar.addi v171 v182
  let c0_i32_80 : BitVec 32 := 0#32
  let c15_i32_75 : BitVec 32 := 15#32
  let v184 : BitVec 1 := Scalar.cmpi .eq v2 c15_i32_75
  let v185 : BitVec 32 := Scalar.extui v184
  let v194 : BitVec 32 := Scalar.muli c0_i32_80 v185
  let v195 : BitVec 32 := Scalar.addi v183 v194
  let v1740 : BitVec 32 := Scalar.subi c1_i32_1487 v195
  let c0_i32_1496 : BitVec 32 := 0#32
  let c0_i32_1497 : BitVec 32 := 0#32
  ![0, v1740.toNat, 0, 0]
def k0_dev40 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_1492 : BitVec 32 := 1#32
  let v1741 : BitVec 32 := Scalar.muli v193 c1_i32_1492
  let v1742 : BitVec 32 := Scalar.addi c0_i32_1493 v1741
  v1742.toNat
def k0_off7 (d0 : Dev nD) : Fin 4 → Nat :=
  let c1_i32_1499 : BitVec 32 := 1#32
  let c1_i32_1498 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_2 : BitVec 32 := 0#32
  let c0_i32 : BitVec 32 := 0#32
  let v4 : BitVec 1 := Scalar.cmpi .eq v2 c0_i32
  let v5 : BitVec 32 := Scalar.extui v4
  let v14 : BitVec 32 := Scalar.muli c0_i32_2 v5
  let v15 : BitVec 32 := Scalar.addi v3 v14
  let c1_i32_6 : BitVec 32 := 1#32
  let c1_i32_3 : BitVec 32 := 1#32
  let v16 : BitVec 1 := Scalar.cmpi .eq v2 c1_i32_3
  let v17 : BitVec 32 := Scalar.extui v16
  let v26 : BitVec 32 := Scalar.muli c1_i32_6 v17
  let v27 : BitVec 32 := Scalar.addi v15 v26
  let c1_i32_10 : BitVec 32 := 1#32
  let c2_i32_7 : BitVec 32 := 2#32
  let v28 : BitVec 1 := Scalar.cmpi .eq v2 c2_i32_7
  let v29 : BitVec 32 := Scalar.extui v28
  let v38 : BitVec 32 := Scalar.muli c1_i32_10 v29
  let v39 : BitVec 32 := Scalar.addi v27 v38
  let c0_i32_16 : BitVec 32 := 0#32
  let c3_i32_11 : BitVec 32 := 3#32
  let v40 : BitVec 1 := Scalar.cmpi .eq v2 c3_i32_11
  let v41 : BitVec 32 := Scalar.extui v40
  let v50 : BitVec 32 := Scalar.muli c0_i32_16 v41
  let v51 : BitVec 32 := Scalar.addi v39 v50
  let c0_i32_21 : BitVec 32 := 0#32
  let c4_i32_17 : BitVec 32 := 4#32
  let v52 : BitVec 1 := Scalar.cmpi .eq v2 c4_i32_17
  let v53 : BitVec 32 := Scalar.extui v52
  let v62 : BitVec 32 := Scalar.muli c0_i32_21 v53
  let v63 : BitVec 32 := Scalar.addi v51 v62
  let c1_i32_26 : BitVec 32 := 1#32
  let c5_i32_22 : BitVec 32 := 5#32
  let v64 : BitVec 1 := Scalar.cmpi .eq v2 c5_i32_22
  let v65 : BitVec 32 := Scalar.extui v64
  let v74 : BitVec 32 := Scalar.muli c1_i32_26 v65
  let v75 : BitVec 32 := Scalar.addi v63 v74
  let c1_i32_31 : BitVec 32 := 1#32
  let c6_i32_27 : BitVec 32 := 6#32
  let v76 : BitVec 1 := Scalar.cmpi .eq v2 c6_i32_27
  let v77 : BitVec 32 := Scalar.extui v76
  let v86 : BitVec 32 := Scalar.muli c1_i32_31 v77
  let v87 : BitVec 32 := Scalar.addi v75 v86
  let c0_i32_36 : BitVec 32 := 0#32
  let c7_i32_32 : BitVec 32 := 7#32
  let v88 : BitVec 1 := Scalar.cmpi .eq v2 c7_i32_32
  let v89 : BitVec 32 := Scalar.extui v88
  let v98 : BitVec 32 := Scalar.muli c0_i32_36 v89
  let v99 : BitVec 32 := Scalar.addi v87 v98
  let c0_i32_41 : BitVec 32 := 0#32
  let c8_i32_37 : BitVec 32 := 8#32
  let v100 : BitVec 1 := Scalar.cmpi .eq v2 c8_i32_37
  let v101 : BitVec 32 := Scalar.extui v100
  let v110 : BitVec 32 := Scalar.muli c0_i32_41 v101
  let v111 : BitVec 32 := Scalar.addi v99 v110
  let c1_i32_46 : BitVec 32 := 1#32
  let c9_i32_42 : BitVec 32 := 9#32
  let v112 : BitVec 1 := Scalar.cmpi .eq v2 c9_i32_42
  let v113 : BitVec 32 := Scalar.extui v112
  let v122 : BitVec 32 := Scalar.muli c1_i32_46 v113
  let v123 : BitVec 32 := Scalar.addi v111 v122
  let c1_i32_51 : BitVec 32 := 1#32
  let c10_i32_47 : BitVec 32 := 10#32
  let v124 : BitVec 1 := Scalar.cmpi .eq v2 c10_i32_47
  let v125 : BitVec 32 := Scalar.extui v124
  let v134 : BitVec 32 := Scalar.muli c1_i32_51 v125
  let v135 : BitVec 32 := Scalar.addi v123 v134
  let c0_i32_56 : BitVec 32 := 0#32
  let c11_i32_52 : BitVec 32 := 11#32
  let v136 : BitVec 1 := Scalar.cmpi .eq v2 c11_i32_52
  let v137 : BitVec 32 := Scalar.extui v136
  let v146 : BitVec 32 := Scalar.muli c0_i32_56 v137
  let v147 : BitVec 32 := Scalar.addi v135 v146
  let c0_i32_62 : BitVec 32 := 0#32
  let c12_i32_57 : BitVec 32 := 12#32
  let v148 : BitVec 1 := Scalar.cmpi .eq v2 c12_i32_57
  let v149 : BitVec 32 := Scalar.extui v148
  let v158 : BitVec 32 := Scalar.muli c0_i32_62 v149
  let v159 : BitVec 32 := Scalar.addi v147 v158
  let c1_i32_68 : BitVec 32 := 1#32
  let c13_i32_63 : BitVec 32 := 13#32
  let v160 : BitVec 1 := Scalar.cmpi .eq v2 c13_i32_63
  let v161 : BitVec 32 := Scalar.extui v160
  let v170 : BitVec 32 := Scalar.muli c1_i32_68 v161
  let v171 : BitVec 32 := Scalar.addi v159 v170
  let c1_i32_74 : BitVec 32 := 1#32
  let c14_i32_69 : BitVec 32 := 14#32
  let v172 : BitVec 1 := Scalar.cmpi .eq v2 c14_i32_69
  let v173 : BitVec 32 := Scalar.extui v172
  let v182 : BitVec 32 := Scalar.muli c1_i32_74 v173
  let v183 : BitVec 32 := Scalar.addi v171 v182
  let c0_i32_80 : BitVec 32 := 0#32
  let c15_i32_75 : BitVec 32 := 15#32
  let v184 : BitVec 1 := Scalar.cmpi .eq v2 c15_i32_75
  let v185 : BitVec 32 := Scalar.extui v184
  let v194 : BitVec 32 := Scalar.muli c0_i32_80 v185
  let v195 : BitVec 32 := Scalar.addi v183 v194
  let v1751 : BitVec 32 := Scalar.subi c1_i32_1498 v195
  let c0_i32_1507 : BitVec 32 := 0#32
  let c0_i32_1508 : BitVec 32 := 0#32
  ![1, v1751.toNat, 0, 0]
def k0_dev41 (d0 : Dev nD) : Nat :=
  let c0_i32_1504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_1503 : BitVec 32 := 1#32
  let v1752 : BitVec 32 := Scalar.muli v193 c1_i32_1503
  let v1753 : BitVec 32 := Scalar.addi c0_i32_1504 v1752
  v1753.toNat
def k0_off8 (d0 : Dev nD) (c0_i32_1591 : BitVec 32) : Fin 3 → Nat :=
  let c2_i32_1593 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_1590 : BitVec 32 := 32#32
  let v1818 : BitVec 32 := Scalar.addi v187 c32_i32_1590
  let v1819 : BitVec 32 := Scalar.addi v1818 c0_i32_1591
  let c8_i32_1592 : BitVec 32 := 8#32
  let v1820 : BitVec 32 := Scalar.remsi v1819 c8_i32_1592
  let v1821 : BitVec 32 := Scalar.muli c2_i32_1593 v1820
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v1822 : BitVec 32 := Scalar.addi v1821 v195
  let v1826 : Index := Scalar.indexCast v1822
  let c0_1597 : Index := 0#32
  let c0_1598 : Index := 0#32
  ![v1826.toNat, 0, 0]
def k0_off8_at (r : Fin 15) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 11 then
      if r.val < 9 then
        if r.val < 8 then
          4#32
        else
          4294967292#32
      else
        if r.val < 10 then
          4294967291#32
        else
          5#32
    else
      if r.val < 13 then
        if r.val < 12 then
          4294967290#32
        else
          6#32
      else
        if r.val < 14 then
          4294967289#32
        else
          7#32
def k0_off9 (d0 : Dev nD) (c0_i32_1591 : BitVec 32) : Fin 3 → Nat :=
  let c2_i32_1593 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_1590 : BitVec 32 := 32#32
  let v1818 : BitVec 32 := Scalar.addi v187 c32_i32_1590
  let v1819 : BitVec 32 := Scalar.addi v1818 c0_i32_1591
  let c8_i32_1592 : BitVec 32 := 8#32
  let v1820 : BitVec 32 := Scalar.remsi v1819 c8_i32_1592
  let v1821 : BitVec 32 := Scalar.muli c2_i32_1593 v1820
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v1822 : BitVec 32 := Scalar.addi v1821 v195
  let v1833 : Index := Scalar.indexCast v1822
  let c0_1599 : Index := 0#32
  let c0_1600 : Index := 0#32
  ![v1833.toNat, 0, 0]
def k0_off9_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_off10 (d0 : Dev nD) : Fin 3 → Nat :=
  let c2_i32_1804 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let v2074 : BitVec 32 := Scalar.muli c2_i32_1804 v187
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v2075 : BitVec 32 := Scalar.addi v2074 v195
  let v2076 : Index := Scalar.indexCast v2075
  let c0_1805 : Index := 0#32
  let c0_1806 : Index := 0#32
  ![v2076.toNat, 0, 0]
def k0_dev42 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1823 : BitVec 32 := 1#32
  let v2095 : BitVec 32 := Scalar.muli v189 c1_i32_1823
  let v2096 : BitVec 32 := Scalar.addi c0_i32_1824 v2095
  v2096.toNat
def k0_dev43 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1833 : BitVec 32 := 1#32
  let v2105 : BitVec 32 := Scalar.muli v189 c1_i32_1833
  let v2106 : BitVec 32 := Scalar.addi c0_i32_1834 v2105
  v2106.toNat
def k0_dev44 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1843 : BitVec 32 := 1#32
  let v2115 : BitVec 32 := Scalar.muli v191 c1_i32_1843
  let v2116 : BitVec 32 := Scalar.addi c0_i32_1844 v2115
  v2116.toNat
def k0_dev45 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1853 : BitVec 32 := 1#32
  let v2125 : BitVec 32 := Scalar.muli v191 c1_i32_1853
  let v2126 : BitVec 32 := Scalar.addi c0_i32_1854 v2125
  v2126.toNat
def k0_dev46 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1885 : BitVec 32 := 1#32
  let v2161 : BitVec 32 := Scalar.muli v189 c1_i32_1885
  let v2162 : BitVec 32 := Scalar.addi c0_i32_1886 v2161
  v2162.toNat
def k0_dev47 (d0 : Dev nD) : Nat :=
  let c0_i32_1918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_1917 : BitVec 32 := 1#32
  let v2197 : BitVec 32 := Scalar.muli v189 c1_i32_1917
  let v2198 : BitVec 32 := Scalar.addi c0_i32_1918 v2197
  v2198.toNat
def k0_dev48 (d0 : Dev nD) : Nat :=
  let c0_i32_1950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1949 : BitVec 32 := 1#32
  let v2233 : BitVec 32 := Scalar.muli v191 c1_i32_1949
  let v2234 : BitVec 32 := Scalar.addi c0_i32_1950 v2233
  v2234.toNat
def k0_dev49 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_1981 : BitVec 32 := 1#32
  let v2269 : BitVec 32 := Scalar.muli v191 c1_i32_1981
  let v2270 : BitVec 32 := Scalar.addi c0_i32_1982 v2269
  v2270.toNat
def k0_dev50 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2022 : BitVec 32 := 1#32
  let v2311 : BitVec 32 := Scalar.muli v189 c1_i32_2022
  let v2312 : BitVec 32 := Scalar.addi c0_i32_2023 v2311
  v2312.toNat
def k0_dev51 (d0 : Dev nD) : Nat :=
  let c0_i32_2064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2063 : BitVec 32 := 1#32
  let v2353 : BitVec 32 := Scalar.muli v189 c1_i32_2063
  let v2354 : BitVec 32 := Scalar.addi c0_i32_2064 v2353
  v2354.toNat
def k0_dev52 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2104 : BitVec 32 := 1#32
  let v2395 : BitVec 32 := Scalar.muli v191 c1_i32_2104
  let v2396 : BitVec 32 := Scalar.addi c0_i32_2105 v2395
  v2396.toNat
def k0_dev53 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2145 : BitVec 32 := 1#32
  let v2437 : BitVec 32 := Scalar.muli v191 c1_i32_2145
  let v2438 : BitVec 32 := Scalar.addi c0_i32_2146 v2437
  v2438.toNat
def k0_dev54 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2186 : BitVec 32 := 1#32
  let v2479 : BitVec 32 := Scalar.muli v189 c1_i32_2186
  let v2480 : BitVec 32 := Scalar.addi c0_i32_2187 v2479
  v2480.toNat
def k0_dev55 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2227 : BitVec 32 := 1#32
  let v2521 : BitVec 32 := Scalar.muli v189 c1_i32_2227
  let v2522 : BitVec 32 := Scalar.addi c0_i32_2228 v2521
  v2522.toNat
def k0_dev56 (d0 : Dev nD) : Nat :=
  let c0_i32_2269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2268 : BitVec 32 := 1#32
  let v2563 : BitVec 32 := Scalar.muli v191 c1_i32_2268
  let v2564 : BitVec 32 := Scalar.addi c0_i32_2269 v2563
  v2564.toNat
def k0_dev57 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2309 : BitVec 32 := 1#32
  let v2605 : BitVec 32 := Scalar.muli v191 c1_i32_2309
  let v2606 : BitVec 32 := Scalar.addi c0_i32_2310 v2605
  v2606.toNat
def k0_dev58 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2350 : BitVec 32 := 1#32
  let v2647 : BitVec 32 := Scalar.muli v189 c1_i32_2350
  let v2648 : BitVec 32 := Scalar.addi c0_i32_2351 v2647
  v2648.toNat
def k0_dev59 (d0 : Dev nD) : Nat :=
  let c0_i32_2392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2391 : BitVec 32 := 1#32
  let v2689 : BitVec 32 := Scalar.muli v189 c1_i32_2391
  let v2690 : BitVec 32 := Scalar.addi c0_i32_2392 v2689
  v2690.toNat
def k0_dev60 (d0 : Dev nD) : Nat :=
  let c0_i32_2433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2432 : BitVec 32 := 1#32
  let v2731 : BitVec 32 := Scalar.muli v191 c1_i32_2432
  let v2732 : BitVec 32 := Scalar.addi c0_i32_2433 v2731
  v2732.toNat
def k0_dev61 (d0 : Dev nD) : Nat :=
  let c0_i32_2474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2473 : BitVec 32 := 1#32
  let v2773 : BitVec 32 := Scalar.muli v191 c1_i32_2473
  let v2774 : BitVec 32 := Scalar.addi c0_i32_2474 v2773
  v2774.toNat
def k0_dev62 (d0 : Dev nD) : Nat :=
  let c0_i32_2515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2514 : BitVec 32 := 1#32
  let v2815 : BitVec 32 := Scalar.muli v189 c1_i32_2514
  let v2816 : BitVec 32 := Scalar.addi c0_i32_2515 v2815
  v2816.toNat
def k0_dev63 (d0 : Dev nD) : Nat :=
  let c0_i32_2556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2555 : BitVec 32 := 1#32
  let v2857 : BitVec 32 := Scalar.muli v189 c1_i32_2555
  let v2858 : BitVec 32 := Scalar.addi c0_i32_2556 v2857
  v2858.toNat
def k0_dev64 (d0 : Dev nD) : Nat :=
  let c0_i32_2597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2596 : BitVec 32 := 1#32
  let v2899 : BitVec 32 := Scalar.muli v191 c1_i32_2596
  let v2900 : BitVec 32 := Scalar.addi c0_i32_2597 v2899
  v2900.toNat
def k0_dev65 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2637 : BitVec 32 := 1#32
  let v2941 : BitVec 32 := Scalar.muli v191 c1_i32_2637
  let v2942 : BitVec 32 := Scalar.addi c0_i32_2638 v2941
  v2942.toNat
def k0_dev66 (d0 : Dev nD) : Nat :=
  let c0_i32_2679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2678 : BitVec 32 := 1#32
  let v2983 : BitVec 32 := Scalar.muli v189 c1_i32_2678
  let v2984 : BitVec 32 := Scalar.addi c0_i32_2679 v2983
  v2984.toNat
def k0_dev67 (d0 : Dev nD) : Nat :=
  let c0_i32_2720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_2719 : BitVec 32 := 1#32
  let v3025 : BitVec 32 := Scalar.muli v189 c1_i32_2719
  let v3026 : BitVec 32 := Scalar.addi c0_i32_2720 v3025
  v3026.toNat
def k0_dev68 (d0 : Dev nD) : Nat :=
  let c0_i32_2761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2760 : BitVec 32 := 1#32
  let v3067 : BitVec 32 := Scalar.muli v191 c1_i32_2760
  let v3068 : BitVec 32 := Scalar.addi c0_i32_2761 v3067
  v3068.toNat
def k0_dev69 (d0 : Dev nD) : Nat :=
  let c0_i32_2802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_2801 : BitVec 32 := 1#32
  let v3109 : BitVec 32 := Scalar.muli v191 c1_i32_2801
  let v3110 : BitVec 32 := Scalar.addi c0_i32_2802 v3109
  v3110.toNat
def k0_off11 (d0 : Dev nD) : Fin 3 → Nat :=
  let c2_i32_2829 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2826 : BitVec 32 := 32#32
  let v3141 : BitVec 32 := Scalar.addi v187 c32_i32_2826
  let c1_i32_2827 : BitVec 32 := 1#32
  let v3142 : BitVec 32 := Scalar.addi v3141 c1_i32_2827
  let c8_i32_2828 : BitVec 32 := 8#32
  let v3143 : BitVec 32 := Scalar.remsi v3142 c8_i32_2828
  let v3144 : BitVec 32 := Scalar.muli c2_i32_2829 v3143
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3145 : BitVec 32 := Scalar.addi v3144 v195
  let v3149 : Index := Scalar.indexCast v3145
  let c0_2831 : Index := 0#32
  let c0_2832 : Index := 0#32
  ![v3149.toNat, 0, 0]
def k0_off12 (d0 : Dev nD) : Fin 3 → Nat :=
  let c2_i32_2855 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2852 : BitVec 32 := 32#32
  let v3175 : BitVec 32 := Scalar.addi v187 c32_i32_2852
  let c1_i32_2853 : BitVec 32 := 1#32
  let v3176 : BitVec 32 := Scalar.addi v3175 c1_i32_2853
  let c8_i32_2854 : BitVec 32 := 8#32
  let v3177 : BitVec 32 := Scalar.remsi v3176 c8_i32_2854
  let v3178 : BitVec 32 := Scalar.muli c2_i32_2855 v3177
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3179 : BitVec 32 := Scalar.addi v3178 v195
  let v3183 : Index := Scalar.indexCast v3179
  let c64 : Index := 64#32
  let c0_2857 : Index := 0#32
  ![v3183.toNat, 64, 0]
def k0_off13 (d0 : Dev nD) : Fin 3 → Nat :=
  let c2_i32_2880 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2877 : BitVec 32 := 32#32
  let v3209 : BitVec 32 := Scalar.addi v187 c32_i32_2877
  let c_m1_i32_2878 : BitVec 32 := 4294967295#32
  let v3210 : BitVec 32 := Scalar.addi v3209 c_m1_i32_2878
  let c8_i32_2879 : BitVec 32 := 8#32
  let v3211 : BitVec 32 := Scalar.remsi v3210 c8_i32_2879
  let v3212 : BitVec 32 := Scalar.muli c2_i32_2880 v3211
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3213 : BitVec 32 := Scalar.addi v3212 v195
  let v3217 : Index := Scalar.indexCast v3213
  let c0_2882 : Index := 0#32
  let c384 : Index := 384#32
  ![v3217.toNat, 0, 384]
def k0_off14 (d0 : Dev nD) : Fin 3 → Nat :=
  let c2_i32_2905 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2902 : BitVec 32 := 32#32
  let v3243 : BitVec 32 := Scalar.addi v187 c32_i32_2902
  let c_m1_i32_2903 : BitVec 32 := 4294967295#32
  let v3244 : BitVec 32 := Scalar.addi v3243 c_m1_i32_2903
  let c8_i32_2904 : BitVec 32 := 8#32
  let v3245 : BitVec 32 := Scalar.remsi v3244 c8_i32_2904
  let v3246 : BitVec 32 := Scalar.muli c2_i32_2905 v3245
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3247 : BitVec 32 := Scalar.addi v3246 v195
  let v3251 : Index := Scalar.indexCast v3247
  let c64_2907 : Index := 64#32
  let c384_2908 : Index := 384#32
  ![v3251.toNat, 64, 384]
def k0_off15 (d0 : Dev nD) : Fin 4 → Nat :=
  let c0_2994 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_2 : BitVec 32 := 0#32
  let c0_i32 : BitVec 32 := 0#32
  let v4 : BitVec 1 := Scalar.cmpi .eq v2 c0_i32
  let v5 : BitVec 32 := Scalar.extui v4
  let v14 : BitVec 32 := Scalar.muli c0_i32_2 v5
  let v15 : BitVec 32 := Scalar.addi v3 v14
  let c1_i32_6 : BitVec 32 := 1#32
  let c1_i32_3 : BitVec 32 := 1#32
  let v16 : BitVec 1 := Scalar.cmpi .eq v2 c1_i32_3
  let v17 : BitVec 32 := Scalar.extui v16
  let v26 : BitVec 32 := Scalar.muli c1_i32_6 v17
  let v27 : BitVec 32 := Scalar.addi v15 v26
  let c1_i32_10 : BitVec 32 := 1#32
  let c2_i32_7 : BitVec 32 := 2#32
  let v28 : BitVec 1 := Scalar.cmpi .eq v2 c2_i32_7
  let v29 : BitVec 32 := Scalar.extui v28
  let v38 : BitVec 32 := Scalar.muli c1_i32_10 v29
  let v39 : BitVec 32 := Scalar.addi v27 v38
  let c0_i32_16 : BitVec 32 := 0#32
  let c3_i32_11 : BitVec 32 := 3#32
  let v40 : BitVec 1 := Scalar.cmpi .eq v2 c3_i32_11
  let v41 : BitVec 32 := Scalar.extui v40
  let v50 : BitVec 32 := Scalar.muli c0_i32_16 v41
  let v51 : BitVec 32 := Scalar.addi v39 v50
  let c0_i32_21 : BitVec 32 := 0#32
  let c4_i32_17 : BitVec 32 := 4#32
  let v52 : BitVec 1 := Scalar.cmpi .eq v2 c4_i32_17
  let v53 : BitVec 32 := Scalar.extui v52
  let v62 : BitVec 32 := Scalar.muli c0_i32_21 v53
  let v63 : BitVec 32 := Scalar.addi v51 v62
  let c1_i32_26 : BitVec 32 := 1#32
  let c5_i32_22 : BitVec 32 := 5#32
  let v64 : BitVec 1 := Scalar.cmpi .eq v2 c5_i32_22
  let v65 : BitVec 32 := Scalar.extui v64
  let v74 : BitVec 32 := Scalar.muli c1_i32_26 v65
  let v75 : BitVec 32 := Scalar.addi v63 v74
  let c1_i32_31 : BitVec 32 := 1#32
  let c6_i32_27 : BitVec 32 := 6#32
  let v76 : BitVec 1 := Scalar.cmpi .eq v2 c6_i32_27
  let v77 : BitVec 32 := Scalar.extui v76
  let v86 : BitVec 32 := Scalar.muli c1_i32_31 v77
  let v87 : BitVec 32 := Scalar.addi v75 v86
  let c0_i32_36 : BitVec 32 := 0#32
  let c7_i32_32 : BitVec 32 := 7#32
  let v88 : BitVec 1 := Scalar.cmpi .eq v2 c7_i32_32
  let v89 : BitVec 32 := Scalar.extui v88
  let v98 : BitVec 32 := Scalar.muli c0_i32_36 v89
  let v99 : BitVec 32 := Scalar.addi v87 v98
  let c0_i32_41 : BitVec 32 := 0#32
  let c8_i32_37 : BitVec 32 := 8#32
  let v100 : BitVec 1 := Scalar.cmpi .eq v2 c8_i32_37
  let v101 : BitVec 32 := Scalar.extui v100
  let v110 : BitVec 32 := Scalar.muli c0_i32_41 v101
  let v111 : BitVec 32 := Scalar.addi v99 v110
  let c1_i32_46 : BitVec 32 := 1#32
  let c9_i32_42 : BitVec 32 := 9#32
  let v112 : BitVec 1 := Scalar.cmpi .eq v2 c9_i32_42
  let v113 : BitVec 32 := Scalar.extui v112
  let v122 : BitVec 32 := Scalar.muli c1_i32_46 v113
  let v123 : BitVec 32 := Scalar.addi v111 v122
  let c1_i32_51 : BitVec 32 := 1#32
  let c10_i32_47 : BitVec 32 := 10#32
  let v124 : BitVec 1 := Scalar.cmpi .eq v2 c10_i32_47
  let v125 : BitVec 32 := Scalar.extui v124
  let v134 : BitVec 32 := Scalar.muli c1_i32_51 v125
  let v135 : BitVec 32 := Scalar.addi v123 v134
  let c0_i32_56 : BitVec 32 := 0#32
  let c11_i32_52 : BitVec 32 := 11#32
  let v136 : BitVec 1 := Scalar.cmpi .eq v2 c11_i32_52
  let v137 : BitVec 32 := Scalar.extui v136
  let v146 : BitVec 32 := Scalar.muli c0_i32_56 v137
  let v147 : BitVec 32 := Scalar.addi v135 v146
  let c0_i32_62 : BitVec 32 := 0#32
  let c12_i32_57 : BitVec 32 := 12#32
  let v148 : BitVec 1 := Scalar.cmpi .eq v2 c12_i32_57
  let v149 : BitVec 32 := Scalar.extui v148
  let v158 : BitVec 32 := Scalar.muli c0_i32_62 v149
  let v159 : BitVec 32 := Scalar.addi v147 v158
  let c1_i32_68 : BitVec 32 := 1#32
  let c13_i32_63 : BitVec 32 := 13#32
  let v160 : BitVec 1 := Scalar.cmpi .eq v2 c13_i32_63
  let v161 : BitVec 32 := Scalar.extui v160
  let v170 : BitVec 32 := Scalar.muli c1_i32_68 v161
  let v171 : BitVec 32 := Scalar.addi v159 v170
  let c1_i32_74 : BitVec 32 := 1#32
  let c14_i32_69 : BitVec 32 := 14#32
  let v172 : BitVec 1 := Scalar.cmpi .eq v2 c14_i32_69
  let v173 : BitVec 32 := Scalar.extui v172
  let v182 : BitVec 32 := Scalar.muli c1_i32_74 v173
  let v183 : BitVec 32 := Scalar.addi v171 v182
  let c0_i32_80 : BitVec 32 := 0#32
  let c15_i32_75 : BitVec 32 := 15#32
  let v184 : BitVec 1 := Scalar.cmpi .eq v2 c15_i32_75
  let v185 : BitVec 32 := Scalar.extui v184
  let v194 : BitVec 32 := Scalar.muli c0_i32_80 v185
  let v195 : BitVec 32 := Scalar.addi v183 v194
  let v3314 : Index := Scalar.indexCast v195
  let c0_2995 : Index := 0#32
  let c0_2996 : Index := 0#32
  ![0, v3314.toNat, 0, 0]
def k0_off16 (d0 : Dev nD) : Fin 3 → Nat :=
  let c2_i32_3000 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2997 : BitVec 32 := 32#32
  let v3319 : BitVec 32 := Scalar.addi v187 c32_i32_2997
  let c1_i32_2998 : BitVec 32 := 1#32
  let v3320 : BitVec 32 := Scalar.addi v3319 c1_i32_2998
  let c8_i32_2999 : BitVec 32 := 8#32
  let v3321 : BitVec 32 := Scalar.remsi v3320 c8_i32_2999
  let v3322 : BitVec 32 := Scalar.muli c2_i32_3000 v3321
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3323 : BitVec 32 := Scalar.addi v3322 v195
  let v3327 : Index := Scalar.indexCast v3323
  let c0_3002 : Index := 0#32
  let c768 : Index := 768#32
  ![v3327.toNat, 0, 768]
def k0_off17 (d0 : Dev nD) : Fin 3 → Nat :=
  let c2_i32_3000 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_2997 : BitVec 32 := 32#32
  let v3319 : BitVec 32 := Scalar.addi v187 c32_i32_2997
  let c1_i32_2998 : BitVec 32 := 1#32
  let v3320 : BitVec 32 := Scalar.addi v3319 c1_i32_2998
  let c8_i32_2999 : BitVec 32 := 8#32
  let v3321 : BitVec 32 := Scalar.remsi v3320 c8_i32_2999
  let v3322 : BitVec 32 := Scalar.muli c2_i32_3000 v3321
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3323 : BitVec 32 := Scalar.addi v3322 v195
  let c0_i32_3007 : BitVec 32 := 0#32
  let c768_i32 : BitVec 32 := 768#32
  ![v3323.toNat, 0, 768]
def k0_dev70 (d0 : Dev nD) : Nat :=
  let c0_i32_3006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_3005 : BitVec 32 := 1#32
  let v3331 : BitVec 32 := Scalar.muli v193 c1_i32_3005
  let v3332 : BitVec 32 := Scalar.addi c0_i32_3006 v3331
  v3332.toNat
def k0_off18 (d0 : Dev nD) : Fin 4 → Nat :=
  let c1_3032 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_2 : BitVec 32 := 0#32
  let c0_i32 : BitVec 32 := 0#32
  let v4 : BitVec 1 := Scalar.cmpi .eq v2 c0_i32
  let v5 : BitVec 32 := Scalar.extui v4
  let v14 : BitVec 32 := Scalar.muli c0_i32_2 v5
  let v15 : BitVec 32 := Scalar.addi v3 v14
  let c1_i32_6 : BitVec 32 := 1#32
  let c1_i32_3 : BitVec 32 := 1#32
  let v16 : BitVec 1 := Scalar.cmpi .eq v2 c1_i32_3
  let v17 : BitVec 32 := Scalar.extui v16
  let v26 : BitVec 32 := Scalar.muli c1_i32_6 v17
  let v27 : BitVec 32 := Scalar.addi v15 v26
  let c1_i32_10 : BitVec 32 := 1#32
  let c2_i32_7 : BitVec 32 := 2#32
  let v28 : BitVec 1 := Scalar.cmpi .eq v2 c2_i32_7
  let v29 : BitVec 32 := Scalar.extui v28
  let v38 : BitVec 32 := Scalar.muli c1_i32_10 v29
  let v39 : BitVec 32 := Scalar.addi v27 v38
  let c0_i32_16 : BitVec 32 := 0#32
  let c3_i32_11 : BitVec 32 := 3#32
  let v40 : BitVec 1 := Scalar.cmpi .eq v2 c3_i32_11
  let v41 : BitVec 32 := Scalar.extui v40
  let v50 : BitVec 32 := Scalar.muli c0_i32_16 v41
  let v51 : BitVec 32 := Scalar.addi v39 v50
  let c0_i32_21 : BitVec 32 := 0#32
  let c4_i32_17 : BitVec 32 := 4#32
  let v52 : BitVec 1 := Scalar.cmpi .eq v2 c4_i32_17
  let v53 : BitVec 32 := Scalar.extui v52
  let v62 : BitVec 32 := Scalar.muli c0_i32_21 v53
  let v63 : BitVec 32 := Scalar.addi v51 v62
  let c1_i32_26 : BitVec 32 := 1#32
  let c5_i32_22 : BitVec 32 := 5#32
  let v64 : BitVec 1 := Scalar.cmpi .eq v2 c5_i32_22
  let v65 : BitVec 32 := Scalar.extui v64
  let v74 : BitVec 32 := Scalar.muli c1_i32_26 v65
  let v75 : BitVec 32 := Scalar.addi v63 v74
  let c1_i32_31 : BitVec 32 := 1#32
  let c6_i32_27 : BitVec 32 := 6#32
  let v76 : BitVec 1 := Scalar.cmpi .eq v2 c6_i32_27
  let v77 : BitVec 32 := Scalar.extui v76
  let v86 : BitVec 32 := Scalar.muli c1_i32_31 v77
  let v87 : BitVec 32 := Scalar.addi v75 v86
  let c0_i32_36 : BitVec 32 := 0#32
  let c7_i32_32 : BitVec 32 := 7#32
  let v88 : BitVec 1 := Scalar.cmpi .eq v2 c7_i32_32
  let v89 : BitVec 32 := Scalar.extui v88
  let v98 : BitVec 32 := Scalar.muli c0_i32_36 v89
  let v99 : BitVec 32 := Scalar.addi v87 v98
  let c0_i32_41 : BitVec 32 := 0#32
  let c8_i32_37 : BitVec 32 := 8#32
  let v100 : BitVec 1 := Scalar.cmpi .eq v2 c8_i32_37
  let v101 : BitVec 32 := Scalar.extui v100
  let v110 : BitVec 32 := Scalar.muli c0_i32_41 v101
  let v111 : BitVec 32 := Scalar.addi v99 v110
  let c1_i32_46 : BitVec 32 := 1#32
  let c9_i32_42 : BitVec 32 := 9#32
  let v112 : BitVec 1 := Scalar.cmpi .eq v2 c9_i32_42
  let v113 : BitVec 32 := Scalar.extui v112
  let v122 : BitVec 32 := Scalar.muli c1_i32_46 v113
  let v123 : BitVec 32 := Scalar.addi v111 v122
  let c1_i32_51 : BitVec 32 := 1#32
  let c10_i32_47 : BitVec 32 := 10#32
  let v124 : BitVec 1 := Scalar.cmpi .eq v2 c10_i32_47
  let v125 : BitVec 32 := Scalar.extui v124
  let v134 : BitVec 32 := Scalar.muli c1_i32_51 v125
  let v135 : BitVec 32 := Scalar.addi v123 v134
  let c0_i32_56 : BitVec 32 := 0#32
  let c11_i32_52 : BitVec 32 := 11#32
  let v136 : BitVec 1 := Scalar.cmpi .eq v2 c11_i32_52
  let v137 : BitVec 32 := Scalar.extui v136
  let v146 : BitVec 32 := Scalar.muli c0_i32_56 v137
  let v147 : BitVec 32 := Scalar.addi v135 v146
  let c0_i32_62 : BitVec 32 := 0#32
  let c12_i32_57 : BitVec 32 := 12#32
  let v148 : BitVec 1 := Scalar.cmpi .eq v2 c12_i32_57
  let v149 : BitVec 32 := Scalar.extui v148
  let v158 : BitVec 32 := Scalar.muli c0_i32_62 v149
  let v159 : BitVec 32 := Scalar.addi v147 v158
  let c1_i32_68 : BitVec 32 := 1#32
  let c13_i32_63 : BitVec 32 := 13#32
  let v160 : BitVec 1 := Scalar.cmpi .eq v2 c13_i32_63
  let v161 : BitVec 32 := Scalar.extui v160
  let v170 : BitVec 32 := Scalar.muli c1_i32_68 v161
  let v171 : BitVec 32 := Scalar.addi v159 v170
  let c1_i32_74 : BitVec 32 := 1#32
  let c14_i32_69 : BitVec 32 := 14#32
  let v172 : BitVec 1 := Scalar.cmpi .eq v2 c14_i32_69
  let v173 : BitVec 32 := Scalar.extui v172
  let v182 : BitVec 32 := Scalar.muli c1_i32_74 v173
  let v183 : BitVec 32 := Scalar.addi v171 v182
  let c0_i32_80 : BitVec 32 := 0#32
  let c15_i32_75 : BitVec 32 := 15#32
  let v184 : BitVec 1 := Scalar.cmpi .eq v2 c15_i32_75
  let v185 : BitVec 32 := Scalar.extui v184
  let v194 : BitVec 32 := Scalar.muli c0_i32_80 v185
  let v195 : BitVec 32 := Scalar.addi v183 v194
  let v3358 : Index := Scalar.indexCast v195
  let c0_3033 : Index := 0#32
  let c0_3034 : Index := 0#32
  ![1, v3358.toNat, 0, 0]
def k0_off19 (d0 : Dev nD) : Fin 3 → Nat :=
  let c2_i32_3038 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3035 : BitVec 32 := 32#32
  let v3363 : BitVec 32 := Scalar.addi v187 c32_i32_3035
  let c_m1_i32_3036 : BitVec 32 := 4294967295#32
  let v3364 : BitVec 32 := Scalar.addi v3363 c_m1_i32_3036
  let c8_i32_3037 : BitVec 32 := 8#32
  let v3365 : BitVec 32 := Scalar.remsi v3364 c8_i32_3037
  let v3366 : BitVec 32 := Scalar.muli c2_i32_3038 v3365
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3367 : BitVec 32 := Scalar.addi v3366 v195
  let v3371 : Index := Scalar.indexCast v3367
  let c0_3040 : Index := 0#32
  let c1408 : Index := 1408#32
  ![v3371.toNat, 0, 1408]
def k0_off20 (d0 : Dev nD) : Fin 3 → Nat :=
  let c2_i32_3038 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3035 : BitVec 32 := 32#32
  let v3363 : BitVec 32 := Scalar.addi v187 c32_i32_3035
  let c_m1_i32_3036 : BitVec 32 := 4294967295#32
  let v3364 : BitVec 32 := Scalar.addi v3363 c_m1_i32_3036
  let c8_i32_3037 : BitVec 32 := 8#32
  let v3365 : BitVec 32 := Scalar.remsi v3364 c8_i32_3037
  let v3366 : BitVec 32 := Scalar.muli c2_i32_3038 v3365
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3367 : BitVec 32 := Scalar.addi v3366 v195
  let c0_i32_3045 : BitVec 32 := 0#32
  let c1408_i32 : BitVec 32 := 1408#32
  ![v3367.toNat, 0, 1408]
def k0_dev71 (d0 : Dev nD) : Nat :=
  let c0_i32_3044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_3043 : BitVec 32 := 1#32
  let v3375 : BitVec 32 := Scalar.muli v193 c1_i32_3043
  let v3376 : BitVec 32 := Scalar.addi c0_i32_3044 v3375
  v3376.toNat
def k0_off21 (d0 : Dev nD) (c1_i32_3058 : BitVec 32) : Fin 3 → Nat :=
  let c2_i32_3060 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3057 : BitVec 32 := 32#32
  let v3391 : BitVec 32 := Scalar.addi v187 c32_i32_3057
  let v3392 : BitVec 32 := Scalar.addi v3391 c1_i32_3058
  let c8_i32_3059 : BitVec 32 := 8#32
  let v3393 : BitVec 32 := Scalar.remsi v3392 c8_i32_3059
  let v3394 : BitVec 32 := Scalar.muli c2_i32_3060 v3393
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3395 : BitVec 32 := Scalar.addi v3394 v195
  let c0_i32_3065 : BitVec 32 := 0#32
  let c0_i32_3066 : BitVec 32 := 0#32
  ![v3395.toNat, 0, 0]
def k0_off21_at (r : Fin 7) : BitVec 32 :=
  if r.val < 3 then
    if r.val < 1 then
      1#32
    else
      if r.val < 2 then
        0#32
      else
        4294967295#32
  else
    if r.val < 5 then
      if r.val < 4 then
        4294967294#32
      else
        4294967293#32
    else
      if r.val < 6 then
        4294967292#32
      else
        4294967291#32
def k0_dev72 (d0 : Dev nD) : Nat :=
  let c0_i32_3064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3063 : BitVec 32 := 1#32
  let v3396 : BitVec 32 := Scalar.muli v189 c1_i32_3063
  let v3397 : BitVec 32 := Scalar.addi c0_i32_3064 v3396
  v3397.toNat
def k0_off22 (d0 : Dev nD) (c1_i32_3070 : BitVec 32) : Fin 3 → Nat :=
  let c2_i32_3072 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3069 : BitVec 32 := 32#32
  let v3406 : BitVec 32 := Scalar.addi v187 c32_i32_3069
  let v3407 : BitVec 32 := Scalar.addi v3406 c1_i32_3070
  let c8_i32_3071 : BitVec 32 := 8#32
  let v3408 : BitVec 32 := Scalar.remsi v3407 c8_i32_3071
  let v3409 : BitVec 32 := Scalar.muli c2_i32_3072 v3408
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3410 : BitVec 32 := Scalar.addi v3409 v195
  let c64_i32 : BitVec 32 := 64#32
  let c0_i32_3077 : BitVec 32 := 0#32
  ![v3410.toNat, 64, 0]
def k0_off22_at (r : Fin 7) : BitVec 32 :=
  if r.val < 3 then
    if r.val < 1 then
      1#32
    else
      if r.val < 2 then
        0#32
      else
        4294967295#32
  else
    if r.val < 5 then
      if r.val < 4 then
        4294967294#32
      else
        4294967293#32
    else
      if r.val < 6 then
        4294967292#32
      else
        4294967291#32
def k0_dev73 (d0 : Dev nD) : Nat :=
  let c0_i32_3076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3075 : BitVec 32 := 1#32
  let v3411 : BitVec 32 := Scalar.muli v189 c1_i32_3075
  let v3412 : BitVec 32 := Scalar.addi c0_i32_3076 v3411
  v3412.toNat
def k0_off23 (d0 : Dev nD) (c_m1_i32_3081 : BitVec 32) : Fin 3 → Nat :=
  let c2_i32_3083 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3080 : BitVec 32 := 32#32
  let v3421 : BitVec 32 := Scalar.addi v187 c32_i32_3080
  let v3422 : BitVec 32 := Scalar.addi v3421 c_m1_i32_3081
  let c8_i32_3082 : BitVec 32 := 8#32
  let v3423 : BitVec 32 := Scalar.remsi v3422 c8_i32_3082
  let v3424 : BitVec 32 := Scalar.muli c2_i32_3083 v3423
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3425 : BitVec 32 := Scalar.addi v3424 v195
  let c0_i32_3088 : BitVec 32 := 0#32
  let c384_i32 : BitVec 32 := 384#32
  ![v3425.toNat, 0, 384]
def k0_off23_at (r : Fin 7) : BitVec 32 :=
  if r.val < 3 then
    if r.val < 1 then
      4294967295#32
    else
      if r.val < 2 then
        0#32
      else
        1#32
  else
    if r.val < 5 then
      if r.val < 4 then
        2#32
      else
        3#32
    else
      if r.val < 6 then
        4#32
      else
        5#32
def k0_dev74 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3086 : BitVec 32 := 1#32
  let v3426 : BitVec 32 := Scalar.muli v191 c1_i32_3086
  let v3427 : BitVec 32 := Scalar.addi c0_i32_3087 v3426
  v3427.toNat
def k0_off24 (d0 : Dev nD) (c_m1_i32_3092 : BitVec 32) : Fin 3 → Nat :=
  let c2_i32_3094 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3091 : BitVec 32 := 32#32
  let v3436 : BitVec 32 := Scalar.addi v187 c32_i32_3091
  let v3437 : BitVec 32 := Scalar.addi v3436 c_m1_i32_3092
  let c8_i32_3093 : BitVec 32 := 8#32
  let v3438 : BitVec 32 := Scalar.remsi v3437 c8_i32_3093
  let v3439 : BitVec 32 := Scalar.muli c2_i32_3094 v3438
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3440 : BitVec 32 := Scalar.addi v3439 v195
  let c64_i32_3099 : BitVec 32 := 64#32
  let c384_i32_3100 : BitVec 32 := 384#32
  ![v3440.toNat, 64, 384]
def k0_off24_at (r : Fin 7) : BitVec 32 :=
  if r.val < 3 then
    if r.val < 1 then
      4294967295#32
    else
      if r.val < 2 then
        0#32
      else
        1#32
  else
    if r.val < 5 then
      if r.val < 4 then
        2#32
      else
        3#32
    else
      if r.val < 6 then
        4#32
      else
        5#32
def k0_dev75 (d0 : Dev nD) : Nat :=
  let c0_i32_3098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3097 : BitVec 32 := 1#32
  let v3441 : BitVec 32 := Scalar.muli v191 c1_i32_3097
  let v3442 : BitVec 32 := Scalar.addi c0_i32_3098 v3441
  v3442.toNat
def k0_off25 (d0 : Dev nD) (c1_i32_3134 : BitVec 32) (c0_i32_3137 : BitVec 32) : Fin 3 → Nat :=
  let c2_i32_3136 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3133 : BitVec 32 := 32#32
  let v3479 : BitVec 32 := Scalar.addi v187 c32_i32_3133
  let v3480 : BitVec 32 := Scalar.addi v3479 c1_i32_3134
  let c8_i32_3135 : BitVec 32 := 8#32
  let v3481 : BitVec 32 := Scalar.remsi v3480 c8_i32_3135
  let v3482 : BitVec 32 := Scalar.muli c2_i32_3136 v3481
  let v3483 : BitVec 32 := Scalar.addi v3482 c0_i32_3137
  let c0_i32_3142 : BitVec 32 := 0#32
  let c768_i32_3143 : BitVec 32 := 768#32
  ![v3483.toNat, 0, 768]
def k0_off25_at (r : Fin 14) : BitVec 32 × BitVec 32 :=
  if r.val < 7 then
    if r.val < 3 then
      if r.val < 1 then
        (1#32, 0#32)
      else
        if r.val < 2 then
          (1#32, 1#32)
        else
          (0#32, 0#32)
    else
      if r.val < 5 then
        if r.val < 4 then
          (0#32, 1#32)
        else
          (4294967295#32, 0#32)
      else
        if r.val < 6 then
          (4294967295#32, 1#32)
        else
          (4294967294#32, 0#32)
  else
    if r.val < 10 then
      if r.val < 8 then
        (4294967294#32, 1#32)
      else
        if r.val < 9 then
          (4294967293#32, 0#32)
        else
          (4294967293#32, 1#32)
    else
      if r.val < 12 then
        if r.val < 11 then
          (4294967292#32, 0#32)
        else
          (4294967292#32, 1#32)
      else
        if r.val < 13 then
          (4294967291#32, 0#32)
        else
          (4294967291#32, 1#32)
def k0_dev76 (d0 : Dev nD) : Nat :=
  let c0_i32_3141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3140 : BitVec 32 := 1#32
  let v3484 : BitVec 32 := Scalar.muli v189 c1_i32_3140
  let v3485 : BitVec 32 := Scalar.addi c0_i32_3141 v3484
  v3485.toNat
def k0_dev77 (d0 : Dev nD) : Nat :=
  let c0_i32_3154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3153 : BitVec 32 := 1#32
  let v3499 : BitVec 32 := Scalar.muli v189 c1_i32_3153
  let v3500 : BitVec 32 := Scalar.addi c0_i32_3154 v3499
  v3500.toNat
def k0_off26 (d0 : Dev nD) (c_m1_i32_3160 : BitVec 32) (c0_i32_3163 : BitVec 32) : Fin 3 → Nat :=
  let c2_i32_3162 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3159 : BitVec 32 := 32#32
  let v3509 : BitVec 32 := Scalar.addi v187 c32_i32_3159
  let v3510 : BitVec 32 := Scalar.addi v3509 c_m1_i32_3160
  let c8_i32_3161 : BitVec 32 := 8#32
  let v3511 : BitVec 32 := Scalar.remsi v3510 c8_i32_3161
  let v3512 : BitVec 32 := Scalar.muli c2_i32_3162 v3511
  let v3513 : BitVec 32 := Scalar.addi v3512 c0_i32_3163
  let c0_i32_3168 : BitVec 32 := 0#32
  let c1408_i32_3169 : BitVec 32 := 1408#32
  ![v3513.toNat, 0, 1408]
def k0_off26_at (r : Fin 14) : BitVec 32 × BitVec 32 :=
  if r.val < 7 then
    if r.val < 3 then
      if r.val < 1 then
        (4294967295#32, 0#32)
      else
        if r.val < 2 then
          (4294967295#32, 1#32)
        else
          (0#32, 0#32)
    else
      if r.val < 5 then
        if r.val < 4 then
          (0#32, 1#32)
        else
          (1#32, 0#32)
      else
        if r.val < 6 then
          (1#32, 1#32)
        else
          (2#32, 0#32)
  else
    if r.val < 10 then
      if r.val < 8 then
        (2#32, 1#32)
      else
        if r.val < 9 then
          (3#32, 0#32)
        else
          (3#32, 1#32)
    else
      if r.val < 12 then
        if r.val < 11 then
          (4#32, 0#32)
        else
          (4#32, 1#32)
      else
        if r.val < 13 then
          (5#32, 0#32)
        else
          (5#32, 1#32)
def k0_dev78 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3166 : BitVec 32 := 1#32
  let v3514 : BitVec 32 := Scalar.muli v191 c1_i32_3166
  let v3515 : BitVec 32 := Scalar.addi c0_i32_3167 v3514
  v3515.toNat
def k0_dev79 (d0 : Dev nD) : Nat :=
  let c0_i32_3180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3179 : BitVec 32 := 1#32
  let v3529 : BitVec 32 := Scalar.muli v191 c1_i32_3179
  let v3530 : BitVec 32 := Scalar.addi c0_i32_3180 v3529
  v3530.toNat
def k0_dev80 (d0 : Dev nD) : Nat :=
  let c0_i32_3200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3199 : BitVec 32 := 1#32
  let v3552 : BitVec 32 := Scalar.muli v189 c1_i32_3199
  let v3553 : BitVec 32 := Scalar.addi c0_i32_3200 v3552
  v3553.toNat
def k0_dev81 (d0 : Dev nD) : Nat :=
  let c0_i32_3220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3219 : BitVec 32 := 1#32
  let v3575 : BitVec 32 := Scalar.muli v189 c1_i32_3219
  let v3576 : BitVec 32 := Scalar.addi c0_i32_3220 v3575
  v3576.toNat
def k0_dev82 (d0 : Dev nD) : Nat :=
  let c0_i32_3240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3239 : BitVec 32 := 1#32
  let v3598 : BitVec 32 := Scalar.muli v191 c1_i32_3239
  let v3599 : BitVec 32 := Scalar.addi c0_i32_3240 v3598
  v3599.toNat
def k0_dev83 (d0 : Dev nD) : Nat :=
  let c0_i32_3260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3259 : BitVec 32 := 1#32
  let v3621 : BitVec 32 := Scalar.muli v191 c1_i32_3259
  let v3622 : BitVec 32 := Scalar.addi c0_i32_3260 v3621
  v3622.toNat
def k0_off27 (d0 : Dev nD) (c0_i32_3266 : BitVec 32) : Fin 3 → Nat :=
  let c2_i32_3268 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c0_i32_0 : BitVec 32 := 0#32
  let c0_i32 : BitVec 32 := 0#32
  let v4 : BitVec 1 := Scalar.cmpi .eq v2 c0_i32
  let v5 : BitVec 32 := Scalar.extui v4
  let v6 : BitVec 32 := Scalar.muli c0_i32_0 v5
  let v7 : BitVec 32 := Scalar.addi v3 v6
  let c0_i32_4 : BitVec 32 := 0#32
  let c1_i32_3 : BitVec 32 := 1#32
  let v16 : BitVec 1 := Scalar.cmpi .eq v2 c1_i32_3
  let v17 : BitVec 32 := Scalar.extui v16
  let v18 : BitVec 32 := Scalar.muli c0_i32_4 v17
  let v19 : BitVec 32 := Scalar.addi v7 v18
  let c7_i32 : BitVec 32 := 7#32
  let c2_i32_7 : BitVec 32 := 2#32
  let v28 : BitVec 1 := Scalar.cmpi .eq v2 c2_i32_7
  let v29 : BitVec 32 := Scalar.extui v28
  let v30 : BitVec 32 := Scalar.muli c7_i32 v29
  let v31 : BitVec 32 := Scalar.addi v19 v30
  let c7_i32_12 : BitVec 32 := 7#32
  let c3_i32_11 : BitVec 32 := 3#32
  let v40 : BitVec 1 := Scalar.cmpi .eq v2 c3_i32_11
  let v41 : BitVec 32 := Scalar.extui v40
  let v42 : BitVec 32 := Scalar.muli c7_i32_12 v41
  let v43 : BitVec 32 := Scalar.addi v31 v42
  let c1_i32_18 : BitVec 32 := 1#32
  let c4_i32_17 : BitVec 32 := 4#32
  let v52 : BitVec 1 := Scalar.cmpi .eq v2 c4_i32_17
  let v53 : BitVec 32 := Scalar.extui v52
  let v54 : BitVec 32 := Scalar.muli c1_i32_18 v53
  let v55 : BitVec 32 := Scalar.addi v43 v54
  let c1_i32_23 : BitVec 32 := 1#32
  let c5_i32_22 : BitVec 32 := 5#32
  let v64 : BitVec 1 := Scalar.cmpi .eq v2 c5_i32_22
  let v65 : BitVec 32 := Scalar.extui v64
  let v66 : BitVec 32 := Scalar.muli c1_i32_23 v65
  let v67 : BitVec 32 := Scalar.addi v55 v66
  let c6_i32_28 : BitVec 32 := 6#32
  let c6_i32_27 : BitVec 32 := 6#32
  let v76 : BitVec 1 := Scalar.cmpi .eq v2 c6_i32_27
  let v77 : BitVec 32 := Scalar.extui v76
  let v78 : BitVec 32 := Scalar.muli c6_i32_28 v77
  let v79 : BitVec 32 := Scalar.addi v67 v78
  let c6_i32_33 : BitVec 32 := 6#32
  let c7_i32_32 : BitVec 32 := 7#32
  let v88 : BitVec 1 := Scalar.cmpi .eq v2 c7_i32_32
  let v89 : BitVec 32 := Scalar.extui v88
  let v90 : BitVec 32 := Scalar.muli c6_i32_33 v89
  let v91 : BitVec 32 := Scalar.addi v79 v90
  let c2_i32_38 : BitVec 32 := 2#32
  let c8_i32_37 : BitVec 32 := 8#32
  let v100 : BitVec 1 := Scalar.cmpi .eq v2 c8_i32_37
  let v101 : BitVec 32 := Scalar.extui v100
  let v102 : BitVec 32 := Scalar.muli c2_i32_38 v101
  let v103 : BitVec 32 := Scalar.addi v91 v102
  let c2_i32_43 : BitVec 32 := 2#32
  let c9_i32_42 : BitVec 32 := 9#32
  let v112 : BitVec 1 := Scalar.cmpi .eq v2 c9_i32_42
  let v113 : BitVec 32 := Scalar.extui v112
  let v114 : BitVec 32 := Scalar.muli c2_i32_43 v113
  let v115 : BitVec 32 := Scalar.addi v103 v114
  let c5_i32_48 : BitVec 32 := 5#32
  let c10_i32_47 : BitVec 32 := 10#32
  let v124 : BitVec 1 := Scalar.cmpi .eq v2 c10_i32_47
  let v125 : BitVec 32 := Scalar.extui v124
  let v126 : BitVec 32 := Scalar.muli c5_i32_48 v125
  let v127 : BitVec 32 := Scalar.addi v115 v126
  let c5_i32_53 : BitVec 32 := 5#32
  let c11_i32_52 : BitVec 32 := 11#32
  let v136 : BitVec 1 := Scalar.cmpi .eq v2 c11_i32_52
  let v137 : BitVec 32 := Scalar.extui v136
  let v138 : BitVec 32 := Scalar.muli c5_i32_53 v137
  let v139 : BitVec 32 := Scalar.addi v127 v138
  let c3_i32_58 : BitVec 32 := 3#32
  let c12_i32_57 : BitVec 32 := 12#32
  let v148 : BitVec 1 := Scalar.cmpi .eq v2 c12_i32_57
  let v149 : BitVec 32 := Scalar.extui v148
  let v150 : BitVec 32 := Scalar.muli c3_i32_58 v149
  let v151 : BitVec 32 := Scalar.addi v139 v150
  let c3_i32_64 : BitVec 32 := 3#32
  let c13_i32_63 : BitVec 32 := 13#32
  let v160 : BitVec 1 := Scalar.cmpi .eq v2 c13_i32_63
  let v161 : BitVec 32 := Scalar.extui v160
  let v162 : BitVec 32 := Scalar.muli c3_i32_64 v161
  let v163 : BitVec 32 := Scalar.addi v151 v162
  let c4_i32_70 : BitVec 32 := 4#32
  let c14_i32_69 : BitVec 32 := 14#32
  let v172 : BitVec 1 := Scalar.cmpi .eq v2 c14_i32_69
  let v173 : BitVec 32 := Scalar.extui v172
  let v174 : BitVec 32 := Scalar.muli c4_i32_70 v173
  let v175 : BitVec 32 := Scalar.addi v163 v174
  let c4_i32_76 : BitVec 32 := 4#32
  let c15_i32_75 : BitVec 32 := 15#32
  let v184 : BitVec 1 := Scalar.cmpi .eq v2 c15_i32_75
  let v185 : BitVec 32 := Scalar.extui v184
  let v186 : BitVec 32 := Scalar.muli c4_i32_76 v185
  let v187 : BitVec 32 := Scalar.addi v175 v186
  let c32_i32_3265 : BitVec 32 := 32#32
  let v3631 : BitVec 32 := Scalar.addi v187 c32_i32_3265
  let v3632 : BitVec 32 := Scalar.addi v3631 c0_i32_3266
  let c8_i32_3267 : BitVec 32 := 8#32
  let v3633 : BitVec 32 := Scalar.remsi v3632 c8_i32_3267
  let v3634 : BitVec 32 := Scalar.muli c2_i32_3268 v3633
  let c0_i32_2 : BitVec 32 := 0#32
  let v14 : BitVec 32 := Scalar.muli c0_i32_2 v5
  let v15 : BitVec 32 := Scalar.addi v3 v14
  let c1_i32_6 : BitVec 32 := 1#32
  let v26 : BitVec 32 := Scalar.muli c1_i32_6 v17
  let v27 : BitVec 32 := Scalar.addi v15 v26
  let c1_i32_10 : BitVec 32 := 1#32
  let v38 : BitVec 32 := Scalar.muli c1_i32_10 v29
  let v39 : BitVec 32 := Scalar.addi v27 v38
  let c0_i32_16 : BitVec 32 := 0#32
  let v50 : BitVec 32 := Scalar.muli c0_i32_16 v41
  let v51 : BitVec 32 := Scalar.addi v39 v50
  let c0_i32_21 : BitVec 32 := 0#32
  let v62 : BitVec 32 := Scalar.muli c0_i32_21 v53
  let v63 : BitVec 32 := Scalar.addi v51 v62
  let c1_i32_26 : BitVec 32 := 1#32
  let v74 : BitVec 32 := Scalar.muli c1_i32_26 v65
  let v75 : BitVec 32 := Scalar.addi v63 v74
  let c1_i32_31 : BitVec 32 := 1#32
  let v86 : BitVec 32 := Scalar.muli c1_i32_31 v77
  let v87 : BitVec 32 := Scalar.addi v75 v86
  let c0_i32_36 : BitVec 32 := 0#32
  let v98 : BitVec 32 := Scalar.muli c0_i32_36 v89
  let v99 : BitVec 32 := Scalar.addi v87 v98
  let c0_i32_41 : BitVec 32 := 0#32
  let v110 : BitVec 32 := Scalar.muli c0_i32_41 v101
  let v111 : BitVec 32 := Scalar.addi v99 v110
  let c1_i32_46 : BitVec 32 := 1#32
  let v122 : BitVec 32 := Scalar.muli c1_i32_46 v113
  let v123 : BitVec 32 := Scalar.addi v111 v122
  let c1_i32_51 : BitVec 32 := 1#32
  let v134 : BitVec 32 := Scalar.muli c1_i32_51 v125
  let v135 : BitVec 32 := Scalar.addi v123 v134
  let c0_i32_56 : BitVec 32 := 0#32
  let v146 : BitVec 32 := Scalar.muli c0_i32_56 v137
  let v147 : BitVec 32 := Scalar.addi v135 v146
  let c0_i32_62 : BitVec 32 := 0#32
  let v158 : BitVec 32 := Scalar.muli c0_i32_62 v149
  let v159 : BitVec 32 := Scalar.addi v147 v158
  let c1_i32_68 : BitVec 32 := 1#32
  let v170 : BitVec 32 := Scalar.muli c1_i32_68 v161
  let v171 : BitVec 32 := Scalar.addi v159 v170
  let c1_i32_74 : BitVec 32 := 1#32
  let v182 : BitVec 32 := Scalar.muli c1_i32_74 v173
  let v183 : BitVec 32 := Scalar.addi v171 v182
  let c0_i32_80 : BitVec 32 := 0#32
  let v194 : BitVec 32 := Scalar.muli c0_i32_80 v185
  let v195 : BitVec 32 := Scalar.addi v183 v194
  let v3635 : BitVec 32 := Scalar.addi v3634 v195
  let c0_i32_3273 : BitVec 32 := 0#32
  let c0_i32_3274 : BitVec 32 := 0#32
  ![v3635.toNat, 0, 0]
def k0_off27_at (r : Fin 8) : BitVec 32 :=
  if r.val < 4 then
    if r.val < 2 then
      if r.val < 1 then
        0#32
      else
        1#32
    else
      if r.val < 3 then
        4294967295#32
      else
        4#32
  else
    if r.val < 6 then
      if r.val < 5 then
        4294967293#32
      else
        3#32
    else
      if r.val < 7 then
        4294967294#32
      else
        2#32
def k0_dev84 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_3271 : BitVec 32 := 1#32
  let v3636 : BitVec 32 := Scalar.muli v193 c1_i32_3271
  let v3637 : BitVec 32 := Scalar.addi c0_i32_3272 v3636
  v3637.toNat
def k0_dev85 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3292 : BitVec 32 := 1#32
  let v3659 : BitVec 32 := Scalar.muli v189 c1_i32_3292
  let v3660 : BitVec 32 := Scalar.addi c0_i32_3293 v3659
  v3660.toNat
def k0_dev86 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3313 : BitVec 32 := 1#32
  let v3682 : BitVec 32 := Scalar.muli v189 c1_i32_3313
  let v3683 : BitVec 32 := Scalar.addi c0_i32_3314 v3682
  v3683.toNat
def k0_dev87 (d0 : Dev nD) : Nat :=
  let c0_i32_3335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3334 : BitVec 32 := 1#32
  let v3705 : BitVec 32 := Scalar.muli v191 c1_i32_3334
  let v3706 : BitVec 32 := Scalar.addi c0_i32_3335 v3705
  v3706.toNat
def k0_dev88 (d0 : Dev nD) : Nat :=
  let c0_i32_3356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3355 : BitVec 32 := 1#32
  let v3728 : BitVec 32 := Scalar.muli v191 c1_i32_3355
  let v3729 : BitVec 32 := Scalar.addi c0_i32_3356 v3728
  v3729.toNat
def k0_dev89 (d0 : Dev nD) : Nat :=
  let c0_i32_3383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3382 : BitVec 32 := 1#32
  let v3757 : BitVec 32 := Scalar.muli v189 c1_i32_3382
  let v3758 : BitVec 32 := Scalar.addi c0_i32_3383 v3757
  v3758.toNat
def k0_dev90 (d0 : Dev nD) : Nat :=
  let c0_i32_3410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3409 : BitVec 32 := 1#32
  let v3786 : BitVec 32 := Scalar.muli v189 c1_i32_3409
  let v3787 : BitVec 32 := Scalar.addi c0_i32_3410 v3786
  v3787.toNat
def k0_dev91 (d0 : Dev nD) : Nat :=
  let c0_i32_3437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3436 : BitVec 32 := 1#32
  let v3815 : BitVec 32 := Scalar.muli v191 c1_i32_3436
  let v3816 : BitVec 32 := Scalar.addi c0_i32_3437 v3815
  v3816.toNat
def k0_dev92 (d0 : Dev nD) : Nat :=
  let c0_i32_3464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3463 : BitVec 32 := 1#32
  let v3844 : BitVec 32 := Scalar.muli v191 c1_i32_3463
  let v3845 : BitVec 32 := Scalar.addi c0_i32_3464 v3844
  v3845.toNat
def k0_dev93 (d0 : Dev nD) : Nat :=
  let c0_i32_3476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_3475 : BitVec 32 := 1#32
  let v3859 : BitVec 32 := Scalar.muli v193 c1_i32_3475
  let v3860 : BitVec 32 := Scalar.addi c0_i32_3476 v3859
  v3860.toNat
def k0_dev94 (d0 : Dev nD) : Nat :=
  let c0_i32_3488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_3487 : BitVec 32 := 1#32
  let v3874 : BitVec 32 := Scalar.muli v193 c1_i32_3487
  let v3875 : BitVec 32 := Scalar.addi c0_i32_3488 v3874
  v3875.toNat
def k0_dev95 (d0 : Dev nD) : Nat :=
  let c0_i32_3516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3515 : BitVec 32 := 1#32
  let v3903 : BitVec 32 := Scalar.muli v189 c1_i32_3515
  let v3904 : BitVec 32 := Scalar.addi c0_i32_3516 v3903
  v3904.toNat
def k0_dev96 (d0 : Dev nD) : Nat :=
  let c0_i32_3544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3543 : BitVec 32 := 1#32
  let v3932 : BitVec 32 := Scalar.muli v189 c1_i32_3543
  let v3933 : BitVec 32 := Scalar.addi c0_i32_3544 v3932
  v3933.toNat
def k0_dev97 (d0 : Dev nD) : Nat :=
  let c0_i32_3572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3571 : BitVec 32 := 1#32
  let v3961 : BitVec 32 := Scalar.muli v191 c1_i32_3571
  let v3962 : BitVec 32 := Scalar.addi c0_i32_3572 v3961
  v3962.toNat
def k0_dev98 (d0 : Dev nD) : Nat :=
  let c0_i32_3600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3599 : BitVec 32 := 1#32
  let v3990 : BitVec 32 := Scalar.muli v191 c1_i32_3599
  let v3991 : BitVec 32 := Scalar.addi c0_i32_3600 v3990
  v3991.toNat
def k0_dev99 (d0 : Dev nD) : Nat :=
  let c0_i32_3627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3626 : BitVec 32 := 1#32
  let v4019 : BitVec 32 := Scalar.muli v189 c1_i32_3626
  let v4020 : BitVec 32 := Scalar.addi c0_i32_3627 v4019
  v4020.toNat
def k0_dev100 (d0 : Dev nD) : Nat :=
  let c0_i32_3654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3653 : BitVec 32 := 1#32
  let v4048 : BitVec 32 := Scalar.muli v189 c1_i32_3653
  let v4049 : BitVec 32 := Scalar.addi c0_i32_3654 v4048
  v4049.toNat
def k0_dev101 (d0 : Dev nD) : Nat :=
  let c0_i32_3681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3680 : BitVec 32 := 1#32
  let v4077 : BitVec 32 := Scalar.muli v191 c1_i32_3680
  let v4078 : BitVec 32 := Scalar.addi c0_i32_3681 v4077
  v4078.toNat
def k0_dev102 (d0 : Dev nD) : Nat :=
  let c0_i32_3708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3707 : BitVec 32 := 1#32
  let v4106 : BitVec 32 := Scalar.muli v191 c1_i32_3707
  let v4107 : BitVec 32 := Scalar.addi c0_i32_3708 v4106
  v4107.toNat
def k0_dev103 (d0 : Dev nD) : Nat :=
  let c0_i32_3736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3735 : BitVec 32 := 1#32
  let v4135 : BitVec 32 := Scalar.muli v189 c1_i32_3735
  let v4136 : BitVec 32 := Scalar.addi c0_i32_3736 v4135
  v4136.toNat
def k0_dev104 (d0 : Dev nD) : Nat :=
  let c0_i32_3764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3763 : BitVec 32 := 1#32
  let v4164 : BitVec 32 := Scalar.muli v189 c1_i32_3763
  let v4165 : BitVec 32 := Scalar.addi c0_i32_3764 v4164
  v4165.toNat
def k0_dev105 (d0 : Dev nD) : Nat :=
  let c0_i32_3792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3791 : BitVec 32 := 1#32
  let v4193 : BitVec 32 := Scalar.muli v191 c1_i32_3791
  let v4194 : BitVec 32 := Scalar.addi c0_i32_3792 v4193
  v4194.toNat
def k0_dev106 (d0 : Dev nD) : Nat :=
  let c0_i32_3820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3819 : BitVec 32 := 1#32
  let v4222 : BitVec 32 := Scalar.muli v191 c1_i32_3819
  let v4223 : BitVec 32 := Scalar.addi c0_i32_3820 v4222
  v4223.toNat
def k0_dev107 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3846 : BitVec 32 := 1#32
  let v4251 : BitVec 32 := Scalar.muli v189 c1_i32_3846
  let v4252 : BitVec 32 := Scalar.addi c0_i32_3847 v4251
  v4252.toNat
def k0_dev108 (d0 : Dev nD) : Nat :=
  let c0_i32_3874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3873 : BitVec 32 := 1#32
  let v4280 : BitVec 32 := Scalar.muli v189 c1_i32_3873
  let v4281 : BitVec 32 := Scalar.addi c0_i32_3874 v4280
  v4281.toNat
def k0_dev109 (d0 : Dev nD) : Nat :=
  let c0_i32_3901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3900 : BitVec 32 := 1#32
  let v4309 : BitVec 32 := Scalar.muli v191 c1_i32_3900
  let v4310 : BitVec 32 := Scalar.addi c0_i32_3901 v4309
  v4310.toNat
def k0_dev110 (d0 : Dev nD) : Nat :=
  let c0_i32_3928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_3927 : BitVec 32 := 1#32
  let v4338 : BitVec 32 := Scalar.muli v191 c1_i32_3927
  let v4339 : BitVec 32 := Scalar.addi c0_i32_3928 v4338
  v4339.toNat
def k0_dev111 (d0 : Dev nD) : Nat :=
  let c0_i32_3956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3955 : BitVec 32 := 1#32
  let v4367 : BitVec 32 := Scalar.muli v189 c1_i32_3955
  let v4368 : BitVec 32 := Scalar.addi c0_i32_3956 v4367
  v4368.toNat
def k0_dev112 (d0 : Dev nD) : Nat :=
  let c0_i32_3984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_3983 : BitVec 32 := 1#32
  let v4396 : BitVec 32 := Scalar.muli v189 c1_i32_3983
  let v4397 : BitVec 32 := Scalar.addi c0_i32_3984 v4396
  v4397.toNat
def k0_dev113 (d0 : Dev nD) : Nat :=
  let c0_i32_4012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4011 : BitVec 32 := 1#32
  let v4425 : BitVec 32 := Scalar.muli v191 c1_i32_4011
  let v4426 : BitVec 32 := Scalar.addi c0_i32_4012 v4425
  v4426.toNat
def k0_dev114 (d0 : Dev nD) : Nat :=
  let c0_i32_4040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4039 : BitVec 32 := 1#32
  let v4454 : BitVec 32 := Scalar.muli v191 c1_i32_4039
  let v4455 : BitVec 32 := Scalar.addi c0_i32_4040 v4454
  v4455.toNat
def k0_dev115 (d0 : Dev nD) : Nat :=
  let c0_i32_4067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4066 : BitVec 32 := 1#32
  let v4483 : BitVec 32 := Scalar.muli v189 c1_i32_4066
  let v4484 : BitVec 32 := Scalar.addi c0_i32_4067 v4483
  v4484.toNat
def k0_dev116 (d0 : Dev nD) : Nat :=
  let c0_i32_4094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4093 : BitVec 32 := 1#32
  let v4512 : BitVec 32 := Scalar.muli v189 c1_i32_4093
  let v4513 : BitVec 32 := Scalar.addi c0_i32_4094 v4512
  v4513.toNat
def k0_dev117 (d0 : Dev nD) : Nat :=
  let c0_i32_4121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4120 : BitVec 32 := 1#32
  let v4541 : BitVec 32 := Scalar.muli v191 c1_i32_4120
  let v4542 : BitVec 32 := Scalar.addi c0_i32_4121 v4541
  v4542.toNat
def k0_dev118 (d0 : Dev nD) : Nat :=
  let c0_i32_4148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4147 : BitVec 32 := 1#32
  let v4570 : BitVec 32 := Scalar.muli v191 c1_i32_4147
  let v4571 : BitVec 32 := Scalar.addi c0_i32_4148 v4570
  v4571.toNat
def k0_dev119 (d0 : Dev nD) : Nat :=
  let c0_i32_4160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_4159 : BitVec 32 := 1#32
  let v4585 : BitVec 32 := Scalar.muli v193 c1_i32_4159
  let v4586 : BitVec 32 := Scalar.addi c0_i32_4160 v4585
  v4586.toNat
def k0_dev120 (d0 : Dev nD) : Nat :=
  let c0_i32_4188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4187 : BitVec 32 := 1#32
  let v4614 : BitVec 32 := Scalar.muli v189 c1_i32_4187
  let v4615 : BitVec 32 := Scalar.addi c0_i32_4188 v4614
  v4615.toNat
def k0_dev121 (d0 : Dev nD) : Nat :=
  let c0_i32_4216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4215 : BitVec 32 := 1#32
  let v4643 : BitVec 32 := Scalar.muli v189 c1_i32_4215
  let v4644 : BitVec 32 := Scalar.addi c0_i32_4216 v4643
  v4644.toNat
def k0_dev122 (d0 : Dev nD) : Nat :=
  let c0_i32_4244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4243 : BitVec 32 := 1#32
  let v4672 : BitVec 32 := Scalar.muli v191 c1_i32_4243
  let v4673 : BitVec 32 := Scalar.addi c0_i32_4244 v4672
  v4673.toNat
def k0_dev123 (d0 : Dev nD) : Nat :=
  let c0_i32_4272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4271 : BitVec 32 := 1#32
  let v4701 : BitVec 32 := Scalar.muli v191 c1_i32_4271
  let v4702 : BitVec 32 := Scalar.addi c0_i32_4272 v4701
  v4702.toNat
def k0_dev124 (d0 : Dev nD) : Nat :=
  let c0_i32_4299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4298 : BitVec 32 := 1#32
  let v4730 : BitVec 32 := Scalar.muli v189 c1_i32_4298
  let v4731 : BitVec 32 := Scalar.addi c0_i32_4299 v4730
  v4731.toNat
def k0_dev125 (d0 : Dev nD) : Nat :=
  let c0_i32_4326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4325 : BitVec 32 := 1#32
  let v4759 : BitVec 32 := Scalar.muli v189 c1_i32_4325
  let v4760 : BitVec 32 := Scalar.addi c0_i32_4326 v4759
  v4760.toNat
def k0_dev126 (d0 : Dev nD) : Nat :=
  let c0_i32_4353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4352 : BitVec 32 := 1#32
  let v4788 : BitVec 32 := Scalar.muli v191 c1_i32_4352
  let v4789 : BitVec 32 := Scalar.addi c0_i32_4353 v4788
  v4789.toNat
def k0_dev127 (d0 : Dev nD) : Nat :=
  let c0_i32_4380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4379 : BitVec 32 := 1#32
  let v4817 : BitVec 32 := Scalar.muli v191 c1_i32_4379
  let v4818 : BitVec 32 := Scalar.addi c0_i32_4380 v4817
  v4818.toNat
def k0_dev128 (d0 : Dev nD) : Nat :=
  let c0_i32_4392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_4391 : BitVec 32 := 1#32
  let v4832 : BitVec 32 := Scalar.muli v193 c1_i32_4391
  let v4833 : BitVec 32 := Scalar.addi c0_i32_4392 v4832
  v4833.toNat
def k0_dev129 (d0 : Dev nD) : Nat :=
  let c0_i32_4404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_4403 : BitVec 32 := 1#32
  let v4847 : BitVec 32 := Scalar.muli v193 c1_i32_4403
  let v4848 : BitVec 32 := Scalar.addi c0_i32_4404 v4847
  v4848.toNat
def k0_dev130 (d0 : Dev nD) : Nat :=
  let c0_i32_4432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4431 : BitVec 32 := 1#32
  let v4876 : BitVec 32 := Scalar.muli v189 c1_i32_4431
  let v4877 : BitVec 32 := Scalar.addi c0_i32_4432 v4876
  v4877.toNat
def k0_dev131 (d0 : Dev nD) : Nat :=
  let c0_i32_4460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c4_i32 : BitVec 32 := 4#32
  let c0_i32 : BitVec 32 := 0#32
  let v4 : BitVec 1 := Scalar.cmpi .eq v2 c0_i32
  let v5 : BitVec 32 := Scalar.extui v4
  let v8 : BitVec 32 := Scalar.muli c4_i32 v5
  let v9 : BitVec 32 := Scalar.addi v3 v8
  let c5_i32 : BitVec 32 := 5#32
  let c1_i32_3 : BitVec 32 := 1#32
  let v16 : BitVec 1 := Scalar.cmpi .eq v2 c1_i32_3
  let v17 : BitVec 32 := Scalar.extui v16
  let v20 : BitVec 32 := Scalar.muli c5_i32 v17
  let v21 : BitVec 32 := Scalar.addi v9 v20
  let c1_i32_8 : BitVec 32 := 1#32
  let c2_i32_7 : BitVec 32 := 2#32
  let v28 : BitVec 1 := Scalar.cmpi .eq v2 c2_i32_7
  let v29 : BitVec 32 := Scalar.extui v28
  let v32 : BitVec 32 := Scalar.muli c1_i32_8 v29
  let v33 : BitVec 32 := Scalar.addi v21 v32
  let c0_i32_13 : BitVec 32 := 0#32
  let c3_i32_11 : BitVec 32 := 3#32
  let v40 : BitVec 1 := Scalar.cmpi .eq v2 c3_i32_11
  let v41 : BitVec 32 := Scalar.extui v40
  let v44 : BitVec 32 := Scalar.muli c0_i32_13 v41
  let v45 : BitVec 32 := Scalar.addi v33 v44
  let c8_i32 : BitVec 32 := 8#32
  let c4_i32_17 : BitVec 32 := 4#32
  let v52 : BitVec 1 := Scalar.cmpi .eq v2 c4_i32_17
  let v53 : BitVec 32 := Scalar.extui v52
  let v56 : BitVec 32 := Scalar.muli c8_i32 v53
  let v57 : BitVec 32 := Scalar.addi v45 v56
  let c9_i32 : BitVec 32 := 9#32
  let c5_i32_22 : BitVec 32 := 5#32
  let v64 : BitVec 1 := Scalar.cmpi .eq v2 c5_i32_22
  let v65 : BitVec 32 := Scalar.extui v64
  let v68 : BitVec 32 := Scalar.muli c9_i32 v65
  let v69 : BitVec 32 := Scalar.addi v57 v68
  let c2_i32_29 : BitVec 32 := 2#32
  let c6_i32_27 : BitVec 32 := 6#32
  let v76 : BitVec 1 := Scalar.cmpi .eq v2 c6_i32_27
  let v77 : BitVec 32 := Scalar.extui v76
  let v80 : BitVec 32 := Scalar.muli c2_i32_29 v77
  let v81 : BitVec 32 := Scalar.addi v69 v80
  let c3_i32_34 : BitVec 32 := 3#32
  let c7_i32_32 : BitVec 32 := 7#32
  let v88 : BitVec 1 := Scalar.cmpi .eq v2 c7_i32_32
  let v89 : BitVec 32 := Scalar.extui v88
  let v92 : BitVec 32 := Scalar.muli c3_i32_34 v89
  let v93 : BitVec 32 := Scalar.addi v81 v92
  let c12_i32 : BitVec 32 := 12#32
  let c8_i32_37 : BitVec 32 := 8#32
  let v100 : BitVec 1 := Scalar.cmpi .eq v2 c8_i32_37
  let v101 : BitVec 32 := Scalar.extui v100
  let v104 : BitVec 32 := Scalar.muli c12_i32 v101
  let v105 : BitVec 32 := Scalar.addi v93 v104
  let c13_i32 : BitVec 32 := 13#32
  let c9_i32_42 : BitVec 32 := 9#32
  let v112 : BitVec 1 := Scalar.cmpi .eq v2 c9_i32_42
  let v113 : BitVec 32 := Scalar.extui v112
  let v116 : BitVec 32 := Scalar.muli c13_i32 v113
  let v117 : BitVec 32 := Scalar.addi v105 v116
  let c6_i32_49 : BitVec 32 := 6#32
  let c10_i32_47 : BitVec 32 := 10#32
  let v124 : BitVec 1 := Scalar.cmpi .eq v2 c10_i32_47
  let v125 : BitVec 32 := Scalar.extui v124
  let v128 : BitVec 32 := Scalar.muli c6_i32_49 v125
  let v129 : BitVec 32 := Scalar.addi v117 v128
  let c7_i32_54 : BitVec 32 := 7#32
  let c11_i32_52 : BitVec 32 := 11#32
  let v136 : BitVec 1 := Scalar.cmpi .eq v2 c11_i32_52
  let v137 : BitVec 32 := Scalar.extui v136
  let v140 : BitVec 32 := Scalar.muli c7_i32_54 v137
  let v141 : BitVec 32 := Scalar.addi v129 v140
  let c15_i32_59 : BitVec 32 := 15#32
  let c12_i32_57 : BitVec 32 := 12#32
  let v148 : BitVec 1 := Scalar.cmpi .eq v2 c12_i32_57
  let v149 : BitVec 32 := Scalar.extui v148
  let v152 : BitVec 32 := Scalar.muli c15_i32_59 v149
  let v153 : BitVec 32 := Scalar.addi v141 v152
  let c14_i32_65 : BitVec 32 := 14#32
  let c13_i32_63 : BitVec 32 := 13#32
  let v160 : BitVec 1 := Scalar.cmpi .eq v2 c13_i32_63
  let v161 : BitVec 32 := Scalar.extui v160
  let v164 : BitVec 32 := Scalar.muli c14_i32_65 v161
  let v165 : BitVec 32 := Scalar.addi v153 v164
  let c10_i32_71 : BitVec 32 := 10#32
  let c14_i32_69 : BitVec 32 := 14#32
  let v172 : BitVec 1 := Scalar.cmpi .eq v2 c14_i32_69
  let v173 : BitVec 32 := Scalar.extui v172
  let v176 : BitVec 32 := Scalar.muli c10_i32_71 v173
  let v177 : BitVec 32 := Scalar.addi v165 v176
  let c11_i32_77 : BitVec 32 := 11#32
  let c15_i32_75 : BitVec 32 := 15#32
  let v184 : BitVec 1 := Scalar.cmpi .eq v2 c15_i32_75
  let v185 : BitVec 32 := Scalar.extui v184
  let v188 : BitVec 32 := Scalar.muli c11_i32_77 v185
  let v189 : BitVec 32 := Scalar.addi v177 v188
  let c1_i32_4459 : BitVec 32 := 1#32
  let v4905 : BitVec 32 := Scalar.muli v189 c1_i32_4459
  let v4906 : BitVec 32 := Scalar.addi c0_i32_4460 v4905
  v4906.toNat
def k0_dev132 (d0 : Dev nD) : Nat :=
  let c0_i32_4488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4487 : BitVec 32 := 1#32
  let v4934 : BitVec 32 := Scalar.muli v191 c1_i32_4487
  let v4935 : BitVec 32 := Scalar.addi c0_i32_4488 v4934
  v4935.toNat
def k0_dev133 (d0 : Dev nD) : Nat :=
  let c0_i32_4516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c3_i32 : BitVec 32 := 3#32
  let c0_i32 : BitVec 32 := 0#32
  let v4 : BitVec 1 := Scalar.cmpi .eq v2 c0_i32
  let v5 : BitVec 32 := Scalar.extui v4
  let v10 : BitVec 32 := Scalar.muli c3_i32 v5
  let v11 : BitVec 32 := Scalar.addi v3 v10
  let c2_i32 : BitVec 32 := 2#32
  let c1_i32_3 : BitVec 32 := 1#32
  let v16 : BitVec 1 := Scalar.cmpi .eq v2 c1_i32_3
  let v17 : BitVec 32 := Scalar.extui v16
  let v22 : BitVec 32 := Scalar.muli c2_i32 v17
  let v23 : BitVec 32 := Scalar.addi v11 v22
  let c6_i32 : BitVec 32 := 6#32
  let c2_i32_7 : BitVec 32 := 2#32
  let v28 : BitVec 1 := Scalar.cmpi .eq v2 c2_i32_7
  let v29 : BitVec 32 := Scalar.extui v28
  let v34 : BitVec 32 := Scalar.muli c6_i32 v29
  let v35 : BitVec 32 := Scalar.addi v23 v34
  let c7_i32_14 : BitVec 32 := 7#32
  let c3_i32_11 : BitVec 32 := 3#32
  let v40 : BitVec 1 := Scalar.cmpi .eq v2 c3_i32_11
  let v41 : BitVec 32 := Scalar.extui v40
  let v46 : BitVec 32 := Scalar.muli c7_i32_14 v41
  let v47 : BitVec 32 := Scalar.addi v35 v46
  let c0_i32_19 : BitVec 32 := 0#32
  let c4_i32_17 : BitVec 32 := 4#32
  let v52 : BitVec 1 := Scalar.cmpi .eq v2 c4_i32_17
  let v53 : BitVec 32 := Scalar.extui v52
  let v58 : BitVec 32 := Scalar.muli c0_i32_19 v53
  let v59 : BitVec 32 := Scalar.addi v47 v58
  let c1_i32_24 : BitVec 32 := 1#32
  let c5_i32_22 : BitVec 32 := 5#32
  let v64 : BitVec 1 := Scalar.cmpi .eq v2 c5_i32_22
  let v65 : BitVec 32 := Scalar.extui v64
  let v70 : BitVec 32 := Scalar.muli c1_i32_24 v65
  let v71 : BitVec 32 := Scalar.addi v59 v70
  let c10_i32 : BitVec 32 := 10#32
  let c6_i32_27 : BitVec 32 := 6#32
  let v76 : BitVec 1 := Scalar.cmpi .eq v2 c6_i32_27
  let v77 : BitVec 32 := Scalar.extui v76
  let v82 : BitVec 32 := Scalar.muli c10_i32 v77
  let v83 : BitVec 32 := Scalar.addi v71 v82
  let c11_i32 : BitVec 32 := 11#32
  let c7_i32_32 : BitVec 32 := 7#32
  let v88 : BitVec 1 := Scalar.cmpi .eq v2 c7_i32_32
  let v89 : BitVec 32 := Scalar.extui v88
  let v94 : BitVec 32 := Scalar.muli c11_i32 v89
  let v95 : BitVec 32 := Scalar.addi v83 v94
  let c4_i32_39 : BitVec 32 := 4#32
  let c8_i32_37 : BitVec 32 := 8#32
  let v100 : BitVec 1 := Scalar.cmpi .eq v2 c8_i32_37
  let v101 : BitVec 32 := Scalar.extui v100
  let v106 : BitVec 32 := Scalar.muli c4_i32_39 v101
  let v107 : BitVec 32 := Scalar.addi v95 v106
  let c5_i32_44 : BitVec 32 := 5#32
  let c9_i32_42 : BitVec 32 := 9#32
  let v112 : BitVec 1 := Scalar.cmpi .eq v2 c9_i32_42
  let v113 : BitVec 32 := Scalar.extui v112
  let v118 : BitVec 32 := Scalar.muli c5_i32_44 v113
  let v119 : BitVec 32 := Scalar.addi v107 v118
  let c14_i32 : BitVec 32 := 14#32
  let c10_i32_47 : BitVec 32 := 10#32
  let v124 : BitVec 1 := Scalar.cmpi .eq v2 c10_i32_47
  let v125 : BitVec 32 := Scalar.extui v124
  let v130 : BitVec 32 := Scalar.muli c14_i32 v125
  let v131 : BitVec 32 := Scalar.addi v119 v130
  let c15_i32 : BitVec 32 := 15#32
  let c11_i32_52 : BitVec 32 := 11#32
  let v136 : BitVec 1 := Scalar.cmpi .eq v2 c11_i32_52
  let v137 : BitVec 32 := Scalar.extui v136
  let v142 : BitVec 32 := Scalar.muli c15_i32 v137
  let v143 : BitVec 32 := Scalar.addi v131 v142
  let c8_i32_60 : BitVec 32 := 8#32
  let c12_i32_57 : BitVec 32 := 12#32
  let v148 : BitVec 1 := Scalar.cmpi .eq v2 c12_i32_57
  let v149 : BitVec 32 := Scalar.extui v148
  let v154 : BitVec 32 := Scalar.muli c8_i32_60 v149
  let v155 : BitVec 32 := Scalar.addi v143 v154
  let c9_i32_66 : BitVec 32 := 9#32
  let c13_i32_63 : BitVec 32 := 13#32
  let v160 : BitVec 1 := Scalar.cmpi .eq v2 c13_i32_63
  let v161 : BitVec 32 := Scalar.extui v160
  let v166 : BitVec 32 := Scalar.muli c9_i32_66 v161
  let v167 : BitVec 32 := Scalar.addi v155 v166
  let c13_i32_72 : BitVec 32 := 13#32
  let c14_i32_69 : BitVec 32 := 14#32
  let v172 : BitVec 1 := Scalar.cmpi .eq v2 c14_i32_69
  let v173 : BitVec 32 := Scalar.extui v172
  let v178 : BitVec 32 := Scalar.muli c13_i32_72 v173
  let v179 : BitVec 32 := Scalar.addi v167 v178
  let c12_i32_78 : BitVec 32 := 12#32
  let c15_i32_75 : BitVec 32 := 15#32
  let v184 : BitVec 1 := Scalar.cmpi .eq v2 c15_i32_75
  let v185 : BitVec 32 := Scalar.extui v184
  let v190 : BitVec 32 := Scalar.muli c12_i32_78 v185
  let v191 : BitVec 32 := Scalar.addi v179 v190
  let c1_i32_4515 : BitVec 32 := 1#32
  let v4963 : BitVec 32 := Scalar.muli v191 c1_i32_4515
  let v4964 : BitVec 32 := Scalar.addi c0_i32_4516 v4963
  v4964.toNat
def k0_dev134 (d0 : Dev nD) : Nat :=
  let c0_i32_4560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_4559 : BitVec 32 := 1#32
  let v5010 : BitVec 32 := Scalar.muli v193 c1_i32_4559
  let v5011 : BitVec 32 := Scalar.addi c0_i32_4560 v5010
  v5011.toNat
def k0_dev135 (d0 : Dev nD) : Nat :=
  let c0_i32_4572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 v2
  let c1_i32_1 : BitVec 32 := 1#32
  let c0_i32 : BitVec 32 := 0#32
  let v4 : BitVec 1 := Scalar.cmpi .eq v2 c0_i32
  let v5 : BitVec 32 := Scalar.extui v4
  let v12 : BitVec 32 := Scalar.muli c1_i32_1 v5
  let v13 : BitVec 32 := Scalar.addi v3 v12
  let c0_i32_5 : BitVec 32 := 0#32
  let c1_i32_3 : BitVec 32 := 1#32
  let v16 : BitVec 1 := Scalar.cmpi .eq v2 c1_i32_3
  let v17 : BitVec 32 := Scalar.extui v16
  let v24 : BitVec 32 := Scalar.muli c0_i32_5 v17
  let v25 : BitVec 32 := Scalar.addi v13 v24
  let c3_i32_9 : BitVec 32 := 3#32
  let c2_i32_7 : BitVec 32 := 2#32
  let v28 : BitVec 1 := Scalar.cmpi .eq v2 c2_i32_7
  let v29 : BitVec 32 := Scalar.extui v28
  let v36 : BitVec 32 := Scalar.muli c3_i32_9 v29
  let v37 : BitVec 32 := Scalar.addi v25 v36
  let c2_i32_15 : BitVec 32 := 2#32
  let c3_i32_11 : BitVec 32 := 3#32
  let v40 : BitVec 1 := Scalar.cmpi .eq v2 c3_i32_11
  let v41 : BitVec 32 := Scalar.extui v40
  let v48 : BitVec 32 := Scalar.muli c2_i32_15 v41
  let v49 : BitVec 32 := Scalar.addi v37 v48
  let c5_i32_20 : BitVec 32 := 5#32
  let c4_i32_17 : BitVec 32 := 4#32
  let v52 : BitVec 1 := Scalar.cmpi .eq v2 c4_i32_17
  let v53 : BitVec 32 := Scalar.extui v52
  let v60 : BitVec 32 := Scalar.muli c5_i32_20 v53
  let v61 : BitVec 32 := Scalar.addi v49 v60
  let c4_i32_25 : BitVec 32 := 4#32
  let c5_i32_22 : BitVec 32 := 5#32
  let v64 : BitVec 1 := Scalar.cmpi .eq v2 c5_i32_22
  let v65 : BitVec 32 := Scalar.extui v64
  let v72 : BitVec 32 := Scalar.muli c4_i32_25 v65
  let v73 : BitVec 32 := Scalar.addi v61 v72
  let c7_i32_30 : BitVec 32 := 7#32
  let c6_i32_27 : BitVec 32 := 6#32
  let v76 : BitVec 1 := Scalar.cmpi .eq v2 c6_i32_27
  let v77 : BitVec 32 := Scalar.extui v76
  let v84 : BitVec 32 := Scalar.muli c7_i32_30 v77
  let v85 : BitVec 32 := Scalar.addi v73 v84
  let c6_i32_35 : BitVec 32 := 6#32
  let c7_i32_32 : BitVec 32 := 7#32
  let v88 : BitVec 1 := Scalar.cmpi .eq v2 c7_i32_32
  let v89 : BitVec 32 := Scalar.extui v88
  let v96 : BitVec 32 := Scalar.muli c6_i32_35 v89
  let v97 : BitVec 32 := Scalar.addi v85 v96
  let c9_i32_40 : BitVec 32 := 9#32
  let c8_i32_37 : BitVec 32 := 8#32
  let v100 : BitVec 1 := Scalar.cmpi .eq v2 c8_i32_37
  let v101 : BitVec 32 := Scalar.extui v100
  let v108 : BitVec 32 := Scalar.muli c9_i32_40 v101
  let v109 : BitVec 32 := Scalar.addi v97 v108
  let c8_i32_45 : BitVec 32 := 8#32
  let c9_i32_42 : BitVec 32 := 9#32
  let v112 : BitVec 1 := Scalar.cmpi .eq v2 c9_i32_42
  let v113 : BitVec 32 := Scalar.extui v112
  let v120 : BitVec 32 := Scalar.muli c8_i32_45 v113
  let v121 : BitVec 32 := Scalar.addi v109 v120
  let c11_i32_50 : BitVec 32 := 11#32
  let c10_i32_47 : BitVec 32 := 10#32
  let v124 : BitVec 1 := Scalar.cmpi .eq v2 c10_i32_47
  let v125 : BitVec 32 := Scalar.extui v124
  let v132 : BitVec 32 := Scalar.muli c11_i32_50 v125
  let v133 : BitVec 32 := Scalar.addi v121 v132
  let c10_i32_55 : BitVec 32 := 10#32
  let c11_i32_52 : BitVec 32 := 11#32
  let v136 : BitVec 1 := Scalar.cmpi .eq v2 c11_i32_52
  let v137 : BitVec 32 := Scalar.extui v136
  let v144 : BitVec 32 := Scalar.muli c10_i32_55 v137
  let v145 : BitVec 32 := Scalar.addi v133 v144
  let c13_i32_61 : BitVec 32 := 13#32
  let c12_i32_57 : BitVec 32 := 12#32
  let v148 : BitVec 1 := Scalar.cmpi .eq v2 c12_i32_57
  let v149 : BitVec 32 := Scalar.extui v148
  let v156 : BitVec 32 := Scalar.muli c13_i32_61 v149
  let v157 : BitVec 32 := Scalar.addi v145 v156
  let c12_i32_67 : BitVec 32 := 12#32
  let c13_i32_63 : BitVec 32 := 13#32
  let v160 : BitVec 1 := Scalar.cmpi .eq v2 c13_i32_63
  let v161 : BitVec 32 := Scalar.extui v160
  let v168 : BitVec 32 := Scalar.muli c12_i32_67 v161
  let v169 : BitVec 32 := Scalar.addi v157 v168
  let c15_i32_73 : BitVec 32 := 15#32
  let c14_i32_69 : BitVec 32 := 14#32
  let v172 : BitVec 1 := Scalar.cmpi .eq v2 c14_i32_69
  let v173 : BitVec 32 := Scalar.extui v172
  let v180 : BitVec 32 := Scalar.muli c15_i32_73 v173
  let v181 : BitVec 32 := Scalar.addi v169 v180
  let c14_i32_79 : BitVec 32 := 14#32
  let c15_i32_75 : BitVec 32 := 15#32
  let v184 : BitVec 1 := Scalar.cmpi .eq v2 c15_i32_75
  let v185 : BitVec 32 := Scalar.extui v184
  let v192 : BitVec 32 := Scalar.muli c14_i32_79 v185
  let v193 : BitVec 32 := Scalar.addi v181 v192
  let c1_i32_4571 : BitVec 32 := 1#32
  let v5025 : BitVec 32 := Scalar.muli v193 c1_i32_4571
  let v5026 : BitVec 32 := Scalar.addi c0_i32_4572 v5025
  v5026.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩
abbrev S_ : Shape := ⟨0, ![]⟩
abbrev S16x128x2048 : Shape := ⟨3, ![16, 128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S16x128x2048, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Prog.lean ====
/-
  The kernel body as a list of instructions. The printed body is one long sequence of loads, stores, signals, sends
  and waits; here it is read as a list over a small instruction set (`Instr`), each instruction with its parameters:
  the remote copies are the constructors of `Edge`.
-/
module

public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.SL.Sem

variable {F : FTy → Type} [FloatOps F]

/-! ## The remote copies -/

/-- The remote copies one device issues: the exchange of the first column group with the partner (`p0x1`), the ring of
    the second column group (`p11`), the exchange of its sums (`p12`), the ring of the first group (`p02`), the exchange
    of finished tiles (`p13`), the two gather rings (`p03`, `p14`) and the last exchange (`p04`). -/
inductive Edge where
  | p0x1 (k : Fin 8)
  | p11 (f : Fin 4) (h : Fin 7)
  | p12 (d : Fin 2)
  | p02 (f : Fin 4) (h : Fin 7)
  | p13 (d : Fin 2)
  | p03 (f : Fin 4) (h : Fin 7)
  | p14 (f : Fin 4) (h : Fin 7)
  | p04 (i : Fin 8)
  deriving DecidableEq

/-- The direction a flow travels and the lane it carries. -/
abbrev fdir (f : Fin 4) : Fin 2 := match f with | 0 => 0 | 1 => 0 | 2 => 1 | 3 => 1
abbrev flane (f : Fin 4) : Fin 2 := match f with | 0 => 0 | 1 => 1 | 2 => 0 | 3 => 1

/-- The shape a copy moves. -/
abbrev esh : Edge → Shape
  | .p0x1 _ => S128x768
  | .p11 _ _ => S128x640
  | .p12 _ => S128x640
  | .p02 _ _ => S64x384
  | .p13 _ => S128x640
  | .p03 _ _ => S64x384
  | .p14 _ _ => S128x640
  | .p04 _ => S128x768

/-! ## The buffers -/

abbrev aM : Memref sig .tc .vmem S2048x1024 .bf16 := Memref.whole cc0_stg0_0
abbrev bM : Memref sig .tc .vmem S1024x2048 .bf16 := Memref.whole cc0_stg1_0
abbrev outM : Memref sig .tc .vmem S16x128x2048 .bf16 := Memref.whole cc0_stg2_0
abbrev partM : Memref sig .tc .vmem S16x128x2048 .bf16 := Memref.whole cc0_scratch0
abbrev p0rM : Memref sig .tc .vmem S8x128x768 .bf16 := Memref.whole cc0_scratch1
abbrev p02rM (f : Fin 4) : Memref sig .tc .vmem S7x64x384 .bf16 :=
  match f with | 0 => Memref.whole cc0_scratch2 | 1 => Memref.whole cc0_scratch3 | 2 => Memref.whole cc0_scratch4 | 3 => Memref.whole cc0_scratch5
abbrev p02sM (f : Fin 4) : Memref sig .tc .vmem S2x64x384 .bf16 :=
  match f with | 0 => Memref.whole cc0_scratch6 | 1 => Memref.whole cc0_scratch7 | 2 => Memref.whole cc0_scratch8 | 3 => Memref.whole cc0_scratch9
abbrev p11rM (f : Fin 4) : Memref sig .tc .vmem S7x128x640 .bf16 :=
  match f with | 0 => Memref.whole cc0_scratch10 | 1 => Memref.whole cc0_scratch11 | 2 => Memref.whole cc0_scratch12 | 3 => Memref.whole cc0_scratch13
abbrev p11sM (f : Fin 4) : Memref sig .tc .vmem S2x128x640 .bf16 :=
  match f with | 0 => Memref.whole cc0_scratch14 | 1 => Memref.whole cc0_scratch15 | 2 => Memref.whole cc0_scratch16 | 3 => Memref.whole cc0_scratch17
abbrev xaM : Memref sig .tc .vmem S2x2x128x640 .bf16 := Memref.whole cc0_scratch18
abbrev p12rM : Memref sig .tc .vmem S2x128x640 .bf16 := Memref.whole cc0_scratch19

theorem wh_p02r (f : Fin 4) : (p02rM f).IsWhole := by fin_cases f <;> exact Memref.isWhole_whole _
theorem wh_p02s (f : Fin 4) : (p02sM f).IsWhole := by fin_cases f <;> exact Memref.isWhole_whole _
theorem wh_p11r (f : Fin 4) : (p11rM f).IsWhole := by fin_cases f <;> exact Memref.isWhole_whole _
theorem wh_p11s (f : Fin 4) : (p11sM f).IsWhole := by fin_cases f <;> exact Memref.isWhole_whole _

/-! ## The slots of the receive and send buffers -/

theorem inb_p11r : ∀ (h : Fin 7) a, (![h.val, 0, 0] : Fin 3 → Nat) a + S1x128x640.size a ≤ S7x128x640.size a := by decide
theorem inb_p11s : ∀ (s : Fin 2) a, (![s.val, 0, 0] : Fin 3 → Nat) a + S1x128x640.size a ≤ S2x128x640.size a := by decide
theorem inb_p02r : ∀ (h : Fin 7) a, (![h.val, 0, 0] : Fin 3 → Nat) a + S1x64x384.size a ≤ S7x64x384.size a := by decide
theorem inb_p02s : ∀ (s : Fin 2) a, (![s.val, 0, 0] : Fin 3 → Nat) a + S1x64x384.size a ≤ S2x64x384.size a := by decide
theorem inb_p0r : ∀ (k : Fin 8) a, (![k.val, 0, 0] : Fin 3 → Nat) a + S1x128x768.size a ≤ S8x128x768.size a := by decide
theorem inb_xa : ∀ (d l : Fin 2) a, (![d.val, l.val, 0, 0] : Fin 4 → Nat) a + S1x1x128x640.size a ≤ S2x2x128x640.size a := by decide
theorem inb_s7 : ∀ (h : Fin 7) a, (![h.val] : Fin 1 → Nat) a + S1.size a ≤ S7.size a := by decide
theorem inb_s8 : ∀ (h : Fin 8) a, (![h.val] : Fin 1 → Nat) a + S1.size a ≤ S8.size a := by decide
theorem inb_s2 : ∀ (h : Fin 2) a, (![h.val] : Fin 1 → Nat) a + S1.size a ≤ S2.size a := by decide

theorem ww_p11r : ∀ h : Fin 7, (Rect.unit (s := S7x128x640) ![h.val, 0, 0] S1x128x640.size (inb_p11r h)).WholeWords (EltTy.packing .bf16) := by decide
theorem ww_p11s : ∀ s : Fin 2, (Rect.unit (s := S2x128x640) ![s.val, 0, 0] S1x128x640.size (inb_p11s s)).WholeWords (EltTy.packing .bf16) := by decide
theorem ww_p02r : ∀ h : Fin 7, (Rect.unit (s := S7x64x384) ![h.val, 0, 0] S1x64x384.size (inb_p02r h)).WholeWords (EltTy.packing .bf16) := by decide
theorem ww_p02s : ∀ s : Fin 2, (Rect.unit (s := S2x64x384) ![s.val, 0, 0] S1x64x384.size (inb_p02s s)).WholeWords (EltTy.packing .bf16) := by decide
theorem ww_p0r : ∀ k : Fin 8, (Rect.unit (s := S8x128x768) ![k.val, 0, 0] S1x128x768.size (inb_p0r k)).WholeWords (EltTy.packing .bf16) := by decide
theorem pr_p11s : ∀ s : Fin 2, (Rect.unit (s := S2x128x640) ![s.val, 0, 0] S1x128x640.size (inb_p11s s)).PackedRows (EltTy.packing .bf16) := by decide
theorem pr_p02s : ∀ s : Fin 2, (Rect.unit (s := S2x64x384) ![s.val, 0, 0] S1x64x384.size (inb_p02s s)).PackedRows (EltTy.packing .bf16) := by decide
theorem pr_xa : ∀ d l : Fin 2, (Rect.unit (s := S2x2x128x640) ![d.val, l.val, 0, 0] S1x1x128x640.size (inb_xa d l)).PackedRows (EltTy.packing .bf16) := by decide

/-- The slot of a two-slot send buffer hop `h` uses. -/
abbrev par2 (h : Nat) : Fin 2 := ⟨h % 2, Nat.mod_lt _ (by decide)⟩

/-! ## Source and destination of a copy, its semaphores and its target -/

/-- The rectangle of the result a gather hop of the first column group moves. -/
abbrev r03 (c : Dev nD) (f : Fin 4) (h : Fin 7) : Rect S16x128x2048 :=
  match f with
  | 0 => Rect.unit (s := S16x128x2048) (k0_off21 c (k0_off21_at h)) S1x64x384.size (k0_off21_inb c h)
  | 1 => Rect.unit (s := S16x128x2048) (k0_off22 c (k0_off22_at h)) S1x64x384.size (k0_off22_inb c h)
  | 2 => Rect.unit (s := S16x128x2048) (k0_off23 c (k0_off23_at h)) S1x64x384.size (k0_off23_inb c h)
  | 3 => Rect.unit (s := S16x128x2048) (k0_off24 c (k0_off24_at h)) S1x64x384.size (k0_off24_inb c h)

/-- The memref a gather hop of the first column group moves. -/
abbrev m03 (c : Dev nD) (f : Fin 4) (h : Fin 7) : Memref sig .tc .vmem S64x384 .bf16 :=
  match f with
  | 0 => (outM.slice (Rect.unit (s := S16x128x2048) (k0_off21 c (k0_off21_at h)) S1x64x384.size (k0_off21_inb c h)) (fun _ => rfl)).squeeze S64x384 squeezes_S1x64x384_S64x384
  | 1 => (outM.slice (Rect.unit (s := S16x128x2048) (k0_off22 c (k0_off22_at h)) S1x64x384.size (k0_off22_inb c h)) (fun _ => rfl)).squeeze S64x384 squeezes_S1x64x384_S64x384
  | 2 => (outM.slice (Rect.unit (s := S16x128x2048) (k0_off23 c (k0_off23_at h)) S1x64x384.size (k0_off23_inb c h)) (fun _ => rfl)).squeeze S64x384 squeezes_S1x64x384_S64x384
  | 3 => (outM.slice (Rect.unit (s := S16x128x2048) (k0_off24 c (k0_off24_at h)) S1x64x384.size (k0_off24_inb c h)) (fun _ => rfl)).squeeze S64x384 squeezes_S1x64x384_S64x384

/-- The row of the parameter table of a second-group gather hop. -/
abbrev i14 (f : Fin 4) (h : Fin 7) : Fin 14 := ⟨2 * h.val + (flane f).val, by have := h.isLt; have := (flane f).isLt; omega⟩

/-- The memref a gather hop of the second column group moves. -/
abbrev m14 (c : Dev nD) (f : Fin 4) (h : Fin 7) : Memref sig .tc .vmem S128x640 .bf16 :=
  match fdir f with
  | 0 => (outM.slice (Rect.unit (s := S16x128x2048) (k0_off25 c (k0_off25_at (i14 f h)).1 (k0_off25_at (i14 f h)).2) S1x128x640.size (k0_off25_inb c (i14 f h))) (fun _ => rfl)).squeeze S128x640 squeezes_S1x128x640_S128x640
  | 1 => (outM.slice (Rect.unit (s := S16x128x2048) (k0_off26 c (k0_off26_at (i14 f h)).1 (k0_off26_at (i14 f h)).2) S1x128x640.size (k0_off26_inb c (i14 f h))) (fun _ => rfl)).squeeze S128x640 squeezes_S1x128x640_S128x640

/-- The memref the exchange of finished tiles moves. -/
abbrev m13 (c : Dev nD) (d : Fin 2) : Memref sig .tc .vmem S128x640 .bf16 :=
  match d with
  | 0 => (outM.slice (Rect.unit (s := S16x128x2048) (k0_off17 c) S1x128x640.size (k0_off17_inb c)) (fun _ => rfl)).squeeze S128x640 squeezes_S1x128x640_S128x640
  | 1 => (outM.slice (Rect.unit (s := S16x128x2048) (k0_off20 c) S1x128x640.size (k0_off20_inb c)) (fun _ => rfl)).squeeze S128x640 squeezes_S1x128x640_S128x640

/-- The memref the last exchange moves. -/
abbrev m04 (c : Dev nD) (i : Fin 8) : Memref sig .tc .vmem S128x768 .bf16 :=
  (outM.slice (Rect.unit (s := S16x128x2048) (k0_off27 c (k0_off27_at i)) S1x128x768.size (k0_off27_inb c i)) (fun _ => rfl)).squeeze S128x768 squeezes_S1x128x768_S128x768

/-- The memref the first exchange reads. -/
abbrev m01 (c : Dev nD) (k : Fin 8) : Memref sig .tc .vmem S128x768 .bf16 :=
  (partM.slice (Rect.unit (s := S16x128x2048) (k0_off3 c (k0_off3_at k)) S1x128x768.size (k0_off3_inb c k)) (fun _ => rfl)).squeeze S128x768 squeezes_S1x128x768_S128x768

/-- The memref the exchange of ring sums reads. -/
abbrev m12 (c : Dev nD) (d : Fin 2) : Memref sig .tc .vmem S128x640 .bf16 :=
  match d with
  | 0 => (xaM.slice (Rect.unit (s := S2x2x128x640) (k0_off6 c) S1x1x128x640.size (k0_off6_inb c)) (fun _ => rfl)).squeeze S128x640 squeezes_S1x1x128x640_S128x640
  | 1 => (xaM.slice (Rect.unit (s := S2x2x128x640) (k0_off7 c) S1x1x128x640.size (k0_off7_inb c)) (fun _ => rfl)).squeeze S128x640 squeezes_S1x1x128x640_S128x640

abbrev m11s (f : Fin 4) (s : Fin 2) : Memref sig .tc .vmem S128x640 .bf16 :=
  ((p11sM f).slice (Rect.unit (s := S2x128x640) ![s.val, 0, 0] S1x128x640.size (inb_p11s s)) (fun _ => rfl)).squeeze S128x640 squeezes_S1x128x640_S128x640
abbrev m11r (f : Fin 4) (h : Fin 7) : Memref sig .tc .vmem S128x640 .bf16 :=
  ((p11rM f).slice (Rect.unit (s := S7x128x640) ![h.val, 0, 0] S1x128x640.size (inb_p11r h)) (fun _ => rfl)).squeeze S128x640 squeezes_S1x128x640_S128x640
abbrev m02s (f : Fin 4) (s : Fin 2) : Memref sig .tc .vmem S64x384 .bf16 :=
  ((p02sM f).slice (Rect.unit (s := S2x64x384) ![s.val, 0, 0] S1x64x384.size (inb_p02s s)) (fun _ => rfl)).squeeze S64x384 squeezes_S1x64x384_S64x384
abbrev m02r (f : Fin 4) (h : Fin 7) : Memref sig .tc .vmem S64x384 .bf16 :=
  ((p02rM f).slice (Rect.unit (s := S7x64x384) ![h.val, 0, 0] S1x64x384.size (inb_p02r h)) (fun _ => rfl)).squeeze S64x384 squeezes_S1x64x384_S64x384
abbrev m0r (k : Fin 8) : Memref sig .tc .vmem S128x768 .bf16 :=
  (p0rM.slice (Rect.unit (s := S8x128x768) ![k.val, 0, 0] S1x128x768.size (inb_p0r k)) (fun _ => rfl)).squeeze S128x768 squeezes_S1x128x768_S128x768
abbrev m12r (d : Fin 2) : Memref sig .tc .vmem S128x640 .bf16 :=
  (p12rM.slice (Rect.unit (s := S2x128x640) ![d.val, 0, 0] S1x128x640.size (inb_p11s d)) (fun _ => rfl)).squeeze S128x640 squeezes_S1x128x640_S128x640

/-- What a copy reads on the device that issues it; -/
abbrev srcM (c : Dev nD) : (e : Edge) → Memref sig .tc .vmem (esh e) .bf16
  | .p0x1 k => m01 c k
  | .p11 f h => m11s f (par2 h.val)
  | .p12 d => m12 c d
  | .p02 f h => m02s f (par2 h.val)
  | .p13 d => m13 c d
  | .p03 f h => m03 c f h
  | .p14 f h => m14 c f h
  | .p04 i => m04 c i

/-- and what it writes on its target, named by the device that issues it. -/
abbrev dstM (c : Dev nD) : (e : Edge) → Memref sig .tc .vmem (esh e) .bf16
  | .p0x1 k => m0r k
  | .p11 f h => m11r f h
  | .p12 d => m12r d
  | .p02 f h => m02r f h
  | .p13 d => m13 c d
  | .p03 f h => m03 c f h
  | .p14 f h => m14 c f h
  | .p04 i => m04 c i

theorem we_m03 (c : Dev nD) (f : Fin 4) (h : Fin 7) : (m03 c f h).view.WordExact := by
  fin_cases f
  · exact ((Memref.isWhole_whole cc0_stg2_0).wordExact_slice rfl _ (k0_off21_wordsbf16 c h)).reshape _ _
  · exact ((Memref.isWhole_whole cc0_stg2_0).wordExact_slice rfl _ (k0_off22_wordsbf16 c h)).reshape _ _
  · exact ((Memref.isWhole_whole cc0_stg2_0).wordExact_slice rfl _ (k0_off23_wordsbf16 c h)).reshape _ _
  · exact ((Memref.isWhole_whole cc0_stg2_0).wordExact_slice rfl _ (k0_off24_wordsbf16 c h)).reshape _ _
theorem we_m14 (c : Dev nD) (f : Fin 4) (h : Fin 7) : (m14 c f h).view.WordExact := by
  fin_cases f
  · exact ((Memref.isWhole_whole cc0_stg2_0).wordExact_slice rfl _ (k0_off25_wordsbf16 c (i14 0 h))).reshape _ _
  · exact ((Memref.isWhole_whole cc0_stg2_0).wordExact_slice rfl _ (k0_off25_wordsbf16 c (i14 1 h))).reshape _ _
  · exact ((Memref.isWhole_whole cc0_stg2_0).wordExact_slice rfl _ (k0_off26_wordsbf16 c (i14 2 h))).reshape _ _
  · exact ((Memref.isWhole_whole cc0_stg2_0).wordExact_slice rfl _ (k0_off26_wordsbf16 c (i14 3 h))).reshape _ _
theorem we_m13 (c : Dev nD) (d : Fin 2) : (m13 c d).view.WordExact := by
  fin_cases d
  · exact ((Memref.isWhole_whole cc0_stg2_0).wordExact_slice rfl _ (k0_off17_wordsbf16 c)).reshape _ _
  · exact ((Memref.isWhole_whole cc0_stg2_0).wordExact_slice rfl _ (k0_off20_wordsbf16 c)).reshape _ _
theorem we_m12 (c : Dev nD) (d : Fin 2) : (m12 c d).view.WordExact := by
  fin_cases d
  · exact ((Memref.isWhole_whole cc0_scratch18).wordExact_slice rfl _ (k0_off6_wordsbf16 c)).reshape _ _
  · exact ((Memref.isWhole_whole cc0_scratch18).wordExact_slice rfl _ (k0_off7_wordsbf16 c)).reshape _ _

/-- Sources and destinations are made of whole words, as the transfer requires. -/
theorem srcW (c : Dev nD) : ∀ e : Edge, (srcM c e).view.WordExact
  | .p0x1 k => ((Memref.isWhole_whole cc0_scratch0).wordExact_slice rfl _ (k0_off3_wordsbf16 c k)).reshape _ _
  | .p11 f h => ((wh_p11s f).wordExact_slice rfl _ (ww_p11s (par2 h.val))).reshape _ _
  | .p12 d => we_m12 c d
  | .p02 f h => ((wh_p02s f).wordExact_slice rfl _ (ww_p02s (par2 h.val))).reshape _ _
  | .p13 d => we_m13 c d
  | .p03 f h => we_m03 c f h
  | .p14 f h => we_m14 c f h
  | .p04 i => ((Memref.isWhole_whole cc0_stg2_0).wordExact_slice rfl _ (k0_off27_wordsbf16 c i)).reshape _ _
theorem dstW (c : Dev nD) : ∀ e : Edge, (dstM c e).view.WordExact
  | .p0x1 k => ((Memref.isWhole_whole cc0_scratch1).wordExact_slice rfl _ (ww_p0r k)).reshape _ _
  | .p11 f h => ((wh_p11r f).wordExact_slice rfl _ (ww_p11r h)).reshape _ _
  | .p12 d => ((Memref.isWhole_whole cc0_scratch19).wordExact_slice rfl _ (ww_p11s d)).reshape _ _
  | .p02 f h => ((wh_p02r f).wordExact_slice rfl _ (ww_p02r h)).reshape _ _
  | .p13 d => we_m13 c d
  | .p03 f h => we_m03 c f h
  | .p14 f h => we_m14 c f h
  | .p04 i => ((Memref.isWhole_whole cc0_stg2_0).wordExact_slice rfl _ (k0_off27_wordsbf16 c i)).reshape _ _

theorem scM (c : Dev nD) : ∀ e : Edge, (dstM c e).view.ref.isScScratch = false
  | .p0x1 _ => rfl
  | .p11 f h => by fin_cases f <;> rfl
  | .p12 d => rfl
  | .p02 f h => by fin_cases f <;> rfl
  | .p13 d => by fin_cases d <;> rfl
  | .p03 f h => by fin_cases f <;> rfl
  | .p14 f h => by fin_cases f <;> rfl
  | .p04 i => rfl

/-- The semaphore arrays: send sides and receive sides. -/
abbrev arr7 (a : DmaSems sig S7) (h : Fin 7) : DmaSem sig :=
  ((a.slice (Rect.unit (s := S7) ![h.val] S1.size (inb_s7 h))).squeeze S_ squeezes_S1_S_).sem
abbrev arr8 (a : DmaSems sig S8) (h : Fin 8) : DmaSem sig :=
  ((a.slice (Rect.unit (s := S8) ![h.val] S1.size (inb_s8 h))).squeeze S_ squeezes_S1_S_).sem
abbrev arr2 (a : DmaSems sig S2) (h : Fin 2) : DmaSem sig :=
  ((a.slice (Rect.unit (s := S2) ![h.val] S1.size (inb_s2 h))).squeeze S_ squeezes_S1_S_).sem

/-- The semaphore a copy signals on its own device once its source has been read; -/
abbrev ssem : Edge → DmaSem sig
  | .p0x1 k => arr8 cc0_scratch20 k
  | .p02 f h => arr7 (match f with | 0 => cc0_scratch22 | 1 => cc0_scratch23 | 2 => cc0_scratch24 | 3 => cc0_scratch25) h
  | .p03 f h => arr7 (match f with | 0 => cc0_scratch30 | 1 => cc0_scratch31 | 2 => cc0_scratch32 | 3 => cc0_scratch33) h
  | .p04 i => arr8 cc0_scratch38 i
  | .p11 f h => arr7 (match f with | 0 => cc0_scratch40 | 1 => cc0_scratch41 | 2 => cc0_scratch42 | 3 => cc0_scratch43) h
  | .p12 d => arr2 cc0_scratch48 d
  | .p13 d => arr2 cc0_scratch50 d
  | .p14 f h => arr7 (match f with | 0 => cc0_scratch52 | 1 => cc0_scratch53 | 2 => cc0_scratch54 | 3 => cc0_scratch55) h
/-- and the one it signals on its target once it has landed. -/
abbrev rsem : Edge → DmaSem sig
  | .p0x1 k => arr8 cc0_scratch21 k
  | .p02 f h => arr7 (match f with | 0 => cc0_scratch26 | 1 => cc0_scratch27 | 2 => cc0_scratch28 | 3 => cc0_scratch29) h
  | .p03 f h => arr7 (match f with | 0 => cc0_scratch34 | 1 => cc0_scratch35 | 2 => cc0_scratch36 | 3 => cc0_scratch37) h
  | .p04 i => arr8 cc0_scratch39 i
  | .p11 f h => arr7 (match f with | 0 => cc0_scratch44 | 1 => cc0_scratch45 | 2 => cc0_scratch46 | 3 => cc0_scratch47) h
  | .p12 d => arr2 cc0_scratch49 d
  | .p13 d => arr2 cc0_scratch51 d
  | .p14 f h => arr7 (match f with | 0 => cc0_scratch56 | 1 => cc0_scratch57 | 2 => cc0_scratch58 | 3 => cc0_scratch59) h

/-- The three neighbours of a device: its partner, its successor and its predecessor on the ring. -/
abbrev nbr (c : Dev nD) (κ : Fin 3) : Dev nD :=
  match κ with | 0 => ⟨k0_dev1 c, k0_dev1_lt c⟩ | 1 => ⟨k0_dev2 c, k0_dev2_lt c⟩ | 2 => ⟨k0_dev3 c, k0_dev3_lt c⟩
/-- Which neighbour a copy goes to. -/
abbrev knd : Edge → Fin 3
  | .p0x1 _ => 0
  | .p11 f _ => match fdir f with | 0 => 1 | 1 => 2
  | .p12 _ => 0
  | .p02 f _ => match fdir f with | 0 => 1 | 1 => 2
  | .p13 _ => 0
  | .p03 f _ => match fdir f with | 0 => 1 | 1 => 2
  | .p14 f _ => match fdir f with | 0 => 1 | 1 => 2
  | .p04 _ => 0

/-- The barrier semaphore. -/
abbrev barS : Sem sig := (SemArray.scalar (sig.barrier 0 rfl) : Sems sig S_).sem

/-! ## Programs -/

/-- A program of the body. -/
abbrev KP (F : FTy → Type) : Type 1 := Prog (TpuEff nD τ sig (Elt F) Λ₀ .tc) PUnit

def startP (c : Dev nD) (e : Edge) (k : KP F) : KP F :=
  .op (.enqueueDma (srcM c e) (.remote (Dev.tc (nbr c (knd e))) (dstM c e) (.dma (ssem e)) (scM c e)) (.dma (rsem e)) (srcW c e) (dstW c e) ⟨⟨rfl, Or.inl rfl⟩, trivial⟩) fun _ => k
def waitRP (c : Dev nD) (e : Edge) (k : KP F) : KP F :=
  .op (.waitDma2 (rsem e) (srcM c e) (dstM c e) (srcW c e) (dstW c e)) fun _ => k
def waitSP (c : Dev nD) (e : Edge) (k : KP F) : KP F :=
  .op (.waitDma2 (ssem e) (dstM c e) (srcM c e) (dstW c e) (srcW c e)) fun _ => k

/-! ## The values the body computes -/

/-- A row block of the local product; -/
def dotV (a : Vec F S128x1024 .bf16) (b : Vec F S1024x2048 .bf16) : FVec F S1x128x2048 .bf16 := k0_pay1 a b
/-- the columns of a row a second-group ring starts from; -/
def seed11V (d : Fin 2) (row : Vec F S1x128x2048 .bf16) : FVec F S1x128x640 .bf16 :=
  match d with | 0 => k0_pay4 row | 1 => k0_pay6 row
/-- what arrived plus the device's own columns; -/
def acc11V (d : Fin 2) (row : Vec F S1x128x2048 .bf16) (w : Vec F S1x128x640 .bf16) : FVec F S1x128x640 .bf16 :=
  match d with | 0 => k0_pay14 row w | 1 => k0_pay18 row w
/-- the same, as the last hop stores it; -/
def fin11V (d : Fin 2) (row : Vec F S1x128x2048 .bf16) (w : Vec F S1x128x640 .bf16) : FVec F S1x1x128x640 .bf16 :=
  match d with | 0 => k0_pay65 row w | 1 => k0_pay66 row w
/-- the partner's half of the first column group added in; -/
def acc01V (w : Vec F S1x128x768 .bf16) (row : Vec F S1x128x2048 .bf16) : FVec F S1x128x768 .bf16 := k0_pay68 w row
/-- the piece of a row a first-group ring starts from; -/
def seed02V (f : Fin 4) (row : Vec F S1x128x2048 .bf16) : FVec F S1x64x384 .bf16 :=
  match f with | 0 => k0_pay81 row | 1 => k0_pay82 row | 2 => k0_pay83 row | 3 => k0_pay84 row
/-- what arrived plus the device's own piece; -/
def acc02V (f : Fin 4) (row : Vec F S1x128x2048 .bf16) (w : Vec F S1x64x384 .bf16) : FVec F S1x64x384 .bf16 :=
  match f with | 0 => k0_pay85 row w | 1 => k0_pay112 row w | 2 => k0_pay89 row w | 3 => k0_pay90 row w
/-- the finished piece, clipped below at zero; -/
def fin02V (f : Fin 4) (row : Vec F S1x128x2048 .bf16) (w : Vec F S1x64x384 .bf16) : FVec F S1x64x384 .bf16 :=
  match f with | 0 => k0_pay123 row w | 1 => k0_pay124 row w | 2 => k0_pay125 row w | 3 => k0_pay126 row w
/-- the finished tile of the second group, clipped below at zero. -/
def fin13V (w : Vec F S1x128x640 .bf16) (y : Vec F S1x1x128x640 .bf16) : FVec F S1x128x640 .bf16 := k0_pay129 w y

/-! ## The instructions -/

/-- The body's instructions: signals and the barrier, a pair of row blocks of the product, the copies' start and waits,
    and the sums. -/
inductive Instr where
  | sig (κ : Fin 3)
  | bar
  | comp (k : Fin 8)
  | seed11 (f : Fin 4)
  | start (e : Edge)
  | waitR (e : Edge)
  | waitS (e : Edge)
  | acc11 (f : Fin 4) (h : Fin 7)
  | fin11 (f : Fin 4)
  | acc01 (k : Fin 8)
  | seed02
  | acc02 (f : Fin 4) (h : Fin 7)
  | fin02 (f : Fin 4)
  | fin13 (d : Fin 2)
  deriving DecidableEq

/-- The rows of the parameter tables an access reads its offset words from. -/
abbrev i4 (k : Fin 8) (l : Fin 2) : Fin 14 := ⟨2 * (k.val - 1) + l.val, by have := k.isLt; have := l.isLt; omega⟩
abbrev i5 (k : Fin 8) (l : Fin 2) : Fin 28 := ⟨2 * (k.val - 1) + l.val, by have := k.isLt; have := l.isLt; omega⟩
/-- The row of the table a hop of a second-group ring reads its own row block through. -/
abbrev h5 (f : Fin 4) (h : Fin 7) : Fin 28 :=
  match fdir f, flane f with
  | 0, 0 => (![0, 4, 8, 14, 16, 20, 24] : Fin 7 → Fin 28) h
  | 0, 1 => (![1, 5, 9, 15, 17, 21, 25] : Fin 7 → Fin 28) h
  | 1, 0 => (![2, 6, 10, 12, 18, 22, 26] : Fin 7 → Fin 28) h
  | 1, 1 => (![3, 7, 11, 13, 19, 23, 27] : Fin 7 → Fin 28) h
/-- And of a first-group ring. -/
abbrev h8 (f : Fin 4) (h : Fin 7) : Fin 15 :=
  match fdir f with
  | 0 => (![1, 3, 5, 8, 9, 11, 13] : Fin 7 → Fin 15) h
  | 1 => (![2, 4, 6, 7, 10, 12, 14] : Fin 7 → Fin 15) h

abbrev rRow5 (c : Dev nD) (i : Fin 28) : Rect S16x128x2048 :=
  Rect.unit (s := S16x128x2048) (k0_off5 c (k0_off5_at i).1 (k0_off5_at i).2) S1x128x2048.size (k0_off5_inb c i)
abbrev rRow8 (c : Dev nD) (i : Fin 15) : Rect S16x128x2048 :=
  Rect.unit (s := S16x128x2048) (k0_off8 c (k0_off8_at i)) S1x128x2048.size (k0_off8_inb c i)
abbrev rA (c : Dev nD) (k : Fin 8) (l : Fin 2) : Rect S2048x1024 :=
  match k with
  | 0 => Rect.unit (s := S2048x1024) (k0_off1 c (BitVec.ofNat 32 l.val)) S128x1024.size (k0_off1_inb c l)
  | k => Rect.unit (s := S2048x1024) (k0_off4 c (k0_off4_at (i4 k l)).1 (k0_off4_at (i4 k l)).2) S128x1024.size (k0_off4_inb c (i4 k l))
abbrev r11s (s : Fin 2) : Rect S2x128x640 := Rect.unit (s := S2x128x640) ![s.val, 0, 0] S1x128x640.size (inb_p11s s)
abbrev r11r (h : Fin 7) : Rect S7x128x640 := Rect.unit (s := S7x128x640) ![h.val, 0, 0] S1x128x640.size (inb_p11r h)
abbrev r02s (s : Fin 2) : Rect S2x64x384 := Rect.unit (s := S2x64x384) ![s.val, 0, 0] S1x64x384.size (inb_p02s s)
abbrev r02r (h : Fin 7) : Rect S7x64x384 := Rect.unit (s := S7x64x384) ![h.val, 0, 0] S1x64x384.size (inb_p02r h)
abbrev r0r (k : Fin 8) : Rect S8x128x768 := Rect.unit (s := S8x128x768) ![k.val, 0, 0] S1x128x768.size (inb_p0r k)
abbrev rxa (d l : Fin 2) : Rect S2x2x128x640 := Rect.unit (s := S2x2x128x640) ![d.val, l.val, 0, 0] S1x1x128x640.size (inb_xa d l)

/-- A load of `r`; -/
def loadP {s : Shape} (m : Memref sig .tc .vmem s .bf16) (r : Rect s) (hn : 0 < r.shape.numel) (k : (r.shape.Idx → Elt F .bf16) → KP F) : KP F :=
  .op (.load m r.toLoadRect (View.loadsAt_vmem hn)) k

/-- a store over `r`. -/
def storeP {s : Shape} (m : Memref sig .tc .vmem s .bf16) (r : Rect s) (w : r.shape.Idx → Elt F .bf16) (hx : (m.access r).Stores Finset.univ) (k : KP F) : KP F :=
  .op (.store m r w Finset.univ hx (.inl rfl)) fun _ => k

theorem hxPart2 (c : Dev nD) (l : Fin 2) :
    ((partM : Memref sig .tc .vmem _ _).access (Rect.unit (s := S16x128x2048) (k0_off2 c (BitVec.ofNat 32 l.val)) S1x128x2048.size (k0_off2_inb c l))).Stores Finset.univ :=
  View.stores_vmem h_S1x128x2048 ((Memref.isWhole_whole cc0_scratch0).storeExact_slice rfl _ (k0_off2_packedbf16 c l)) (fun _ => rfl)
theorem hxPart5 (c : Dev nD) (i : Fin 28) : ((partM : Memref sig .tc .vmem _ _).access (rRow5 c i)).Stores Finset.univ :=
  View.stores_vmem h_S1x128x2048 ((Memref.isWhole_whole cc0_scratch0).storeExact_slice rfl _ (k0_off5_packedbf16 c i)) (fun _ => rfl)
abbrev r9 (c : Dev nD) (k : Fin 8) : Rect S16x128x2048 :=
  Rect.unit (s := S16x128x2048) (k0_off9 c (k0_off9_at k)) S1x128x768.size (k0_off9_inb c k)
theorem hxPart9 (c : Dev nD) (k : Fin 8) : ((partM : Memref sig .tc .vmem _ _).access (r9 c k)).Stores Finset.univ :=
  View.stores_vmem h_S1x128x768 ((Memref.isWhole_whole cc0_scratch0).storeExact_slice rfl _ (k0_off9_packedbf16 c k)) (fun _ => rfl)
theorem hx11s (f : Fin 4) (s : Fin 2) : ((p11sM f).access (r11s s)).Stores Finset.univ :=
  View.stores_vmem h_S1x128x640 ((wh_p11s f).storeExact_slice rfl _ (pr_p11s s)) (fun _ => rfl)
theorem hx02s (f : Fin 4) (s : Fin 2) : ((p02sM f).access (r02s s)).Stores Finset.univ :=
  View.stores_vmem h_S1x64x384 ((wh_p02s f).storeExact_slice rfl _ (pr_p02s s)) (fun _ => rfl)
theorem hxXa (d l : Fin 2) : ((xaM : Memref sig .tc .vmem _ _).access (rxa d l)).Stores Finset.univ :=
  View.stores_vmem h_S1x1x128x640 ((Memref.isWhole_whole cc0_scratch18).storeExact_slice rfl _ (pr_xa d l)) (fun _ => rfl)

/-- The rectangle a finished first-group piece is stored to. -/
abbrev rO02 (c : Dev nD) (f : Fin 4) : Rect S16x128x2048 :=
  match f with
  | 0 => Rect.unit (s := S16x128x2048) (k0_off11 c) S1x64x384.size (k0_off11_inb c)
  | 1 => Rect.unit (s := S16x128x2048) (k0_off12 c) S1x64x384.size (k0_off12_inb c)
  | 2 => Rect.unit (s := S16x128x2048) (k0_off13 c) S1x64x384.size (k0_off13_inb c)
  | 3 => Rect.unit (s := S16x128x2048) (k0_off14 c) S1x64x384.size (k0_off14_inb c)

/-- The pair of row blocks of the product for ring offset `OFF8 k`. -/
def compP (c : Dev nD) (k : Fin 8) (K : KP F) : KP F :=
  let rB : Rect S1024x2048 := Rect.unit (s := S1024x2048) ![0, 0] S1024x2048.size inb_S1024x2048_S1024x2048_0_0
  match k with
  | 0 =>
    let lane (l : Fin 2) (K : KP F) : KP F :=
      loadP aM (Rect.unit (s := S2048x1024) (k0_off1 c (BitVec.ofNat 32 l.val)) S128x1024.size (k0_off1_inb c l)) h_S128x1024 fun a =>
      loadP bM rB h_S1024x2048 fun b =>
      loadP partM (Rect.unit (s := S16x128x2048) (k0_off2 c (BitVec.ofNat 32 l.val)) S1x128x2048.size (k0_off2_inb c l)) h_S1x128x2048 fun _ =>
      storeP partM (Rect.unit (s := S16x128x2048) (k0_off2 c (BitVec.ofNat 32 l.val)) S1x128x2048.size (k0_off2_inb c l)) (dotV a b) (hxPart2 c l) K
    lane 0 (lane 1 K)
  | k =>
    let lane (l : Fin 2) (K : KP F) : KP F :=
      loadP aM (Rect.unit (s := S2048x1024) (k0_off4 c (k0_off4_at (i4 k l)).1 (k0_off4_at (i4 k l)).2) S128x1024.size (k0_off4_inb c (i4 k l))) h_S128x1024 fun a =>
      loadP bM rB h_S1024x2048 fun b =>
      loadP partM (rRow5 c (i5 k l)) h_S1x128x2048 fun _ =>
      storeP partM (rRow5 c (i5 k l)) (dotV a b) (hxPart5 c (i5 k l)) K
    lane 0 (lane 1 K)

/-- A second-group ring's first block. -/
def seed11P (c : Dev nD) (f : Fin 4) (K : KP F) : KP F :=
  loadP partM (Rect.unit (s := S16x128x2048) (k0_off2 c (BitVec.ofNat 32 (flane f).val)) S1x128x2048.size (k0_off2_inb c (flane f))) h_S1x128x2048 fun row =>
  loadP (p11sM f) (r11s 0) h_S1x128x640 fun _ =>
  storeP (p11sM f) (r11s 0) (seed11V (fdir f) row) (hx11s f 0) K

/-- A hop of a second-group ring: add, wait for the slot, store. -/
def acc11P (c : Dev nD) (f : Fin 4) (h : Fin 7) (K : KP F) : KP F :=
  loadP partM (rRow5 c (h5 f h)) h_S1x128x2048 fun row =>
  loadP (p11rM f) (r11r h) h_S1x128x640 fun w =>
  let rest : KP F :=
    loadP (p11sM f) (r11s (par2 (h.val + 1))) h_S1x128x640 fun _ =>
    storeP (p11sM f) (r11s (par2 (h.val + 1))) (acc11V (fdir f) row w) (hx11s f (par2 (h.val + 1))) K
  match h with
  | 0 => rest
  | ⟨h' + 1, hh⟩ => waitSP c (.p11 f ⟨h', by omega⟩) rest

/-- The last hop of a second-group ring. -/
def fin11P (c : Dev nD) (f : Fin 4) (K : KP F) : KP F :=
  loadP partM (rRow5 c (h5 f 6)) h_S1x128x2048 fun row =>
  loadP (p11rM f) (r11r 6) h_S1x128x640 fun w =>
  loadP xaM (rxa (fdir f) (flane f)) h_S1x1x128x640 fun _ =>
  storeP xaM (rxa (fdir f) (flane f)) (fin11V (fdir f) row w) (hxXa (fdir f) (flane f)) K

/-- Adding the partner's half of the first column group. -/
def acc01P (c : Dev nD) (k : Fin 8) (K : KP F) : KP F :=
  loadP p0rM (r0r k) h_S1x128x768 fun w =>
  loadP partM (rRow8 c ⟨k.val, by omega⟩) h_S1x128x2048 fun row =>
  loadP partM (r9 c k) h_S1x128x768 fun _ =>
  storeP partM (r9 c k) (acc01V w row) (hxPart9 c k) K

/-- The first-group rings' first pieces. -/
def seed02P (c : Dev nD) (K : KP F) : KP F :=
  loadP partM (Rect.unit (s := S16x128x2048) (k0_off10 c) S1x128x2048.size (k0_off10_inb c)) h_S1x128x2048 fun row =>
  let one (f : Fin 4) (K : KP F) : KP F :=
    loadP (p02sM f) (r02s 0) h_S1x64x384 fun _ =>
    storeP (p02sM f) (r02s 0) (seed02V f row) (hx02s f 0) K
  one 0 (one 1 (one 2 (one 3 K)))

/-- A hop of a first-group ring: add, wait for the slot, store. -/
def acc02P (c : Dev nD) (f : Fin 4) (h : Fin 7) (K : KP F) : KP F :=
  loadP partM (rRow8 c (h8 f h)) h_S1x128x2048 fun row =>
  loadP (p02rM f) (r02r h) h_S1x64x384 fun w =>
  let rest : KP F :=
    loadP (p02sM f) (r02s (par2 (h.val + 1))) h_S1x64x384 fun _ =>
    storeP (p02sM f) (r02s (par2 (h.val + 1))) (acc02V f row w) (hx02s f (par2 (h.val + 1))) K
  match h with
  | 0 => rest
  | ⟨h' + 1, hh⟩ => waitSP c (.p02 f ⟨h', by omega⟩) rest

/-- The last hop of a first-group ring: the finished piece goes to the result. -/
def fin02P (c : Dev nD) (f : Fin 4) (K : KP F) : KP F :=
  loadP partM (rRow8 c (h8 f 6)) h_S1x128x2048 fun row =>
  loadP (p02rM f) (r02r 6) h_S1x64x384 fun w =>
  match f with
  | 0 => loadP outM (rO02 c 0) h_S1x64x384 fun _ => storeP outM (rO02 c 0) (fin02V 0 row w)
      (View.stores_vmem h_S1x64x384 ((Memref.isWhole_whole cc0_stg2_0).storeExact_slice rfl _ (k0_off11_packedbf16 c)) (fun _ => rfl)) K
  | 1 => loadP outM (rO02 c 1) h_S1x64x384 fun _ => storeP outM (rO02 c 1) (fin02V 1 row w)
      (View.stores_vmem h_S1x64x384 ((Memref.isWhole_whole cc0_stg2_0).storeExact_slice rfl _ (k0_off12_packedbf16 c)) (fun _ => rfl)) K
  | 2 => loadP outM (rO02 c 2) h_S1x64x384 fun _ => storeP outM (rO02 c 2) (fin02V 2 row w)
      (View.stores_vmem h_S1x64x384 ((Memref.isWhole_whole cc0_stg2_0).storeExact_slice rfl _ (k0_off13_packedbf16 c)) (fun _ => rfl)) K
  | 3 => loadP outM (rO02 c 3) h_S1x64x384 fun _ => storeP outM (rO02 c 3) (fin02V 3 row w)
      (View.stores_vmem h_S1x64x384 ((Memref.isWhole_whole cc0_stg2_0).storeExact_slice rfl _ (k0_off14_packedbf16 c)) (fun _ => rfl)) K

/-- The finished tile of the second group. -/
def fin13P (c : Dev nD) (d : Fin 2) (K : KP F) : KP F :=
  loadP p12rM (r11s d) h_S1x128x640 fun w =>
  match d with
  | 0 =>
    loadP xaM (Rect.unit (s := S2x2x128x640) (k0_off15 c) S1x1x128x640.size (k0_off15_inb c)) h_S1x1x128x640 fun y =>
    loadP outM (Rect.unit (s := S16x128x2048) (k0_off16 c) S1x128x640.size (k0_off16_inb c)) h_S1x128x640 fun _ =>
    storeP outM (Rect.unit (s := S16x128x2048) (k0_off16 c) S1x128x640.size (k0_off16_inb c)) (fin13V w y)
      (View.stores_vmem h_S1x128x640 ((Memref.isWhole_whole cc0_stg2_0).storeExact_slice rfl _ (k0_off16_packedbf16 c)) (fun _ => rfl)) K
  | 1 =>
    loadP xaM (Rect.unit (s := S2x2x128x640) (k0_off18 c) S1x1x128x640.size (k0_off18_inb c)) h_S1x1x128x640 fun y =>
    loadP outM (Rect.unit (s := S16x128x2048) (k0_off19 c) S1x128x640.size (k0_off19_inb c)) h_S1x128x640 fun _ =>
    storeP outM (Rect.unit (s := S16x128x2048) (k0_off19 c) S1x128x640.size (k0_off19_inb c)) (fin13V w y)
      (View.stores_vmem h_S1x128x640 ((Memref.isWhole_whole cc0_stg2_0).storeExact_slice rfl _ (k0_off19_packedbf16 c)) (fun _ => rfl)) K

/-- An instruction in front of a program. -/
def Instr.run (c : Dev nD) : Instr → KP F → KP F
  | .sig κ, K => (semSignalWord (Val := Elt F) (nbr c κ) barS 1#32 : KP F).bind fun _ => K
  | .bar, K => (semWaitWord (Val := Elt F) barS 3#32 : KP F).bind fun _ => K
  | .comp k, K => compP c k K
  | .seed11 f, K => seed11P c f K
  | .start e, K => startP c e K
  | .waitR e, K => waitRP c e K
  | .waitS e, K => waitSP c e K
  | .acc11 f h, K => acc11P c f h K
  | .fin11 f, K => fin11P c f K
  | .acc01 k, K => acc01P c k K
  | .seed02, K => seed02P c K
  | .acc02 f h, K => acc02P c f h K
  | .fin02 f, K => fin02P c f K
  | .fin13 d, K => fin13P c d K

/-- A list of instructions, run in order. -/
def runI (c : Dev nD) (is : List Instr) (K : KP F) : KP F := is.foldr (fun i K => i.run c K) K

/-! ## The body's list -/

open Instr Edge

/-- A hop of a second-group ring, flow by flow. -/
def hop11 (h : Fin 7) : List Instr :=
  (List.finRange 4).flatMap fun f =>
    if hh : h.val < 6 then [waitR (p11 f h), acc11 f h, start (p11 f ⟨h.val + 1, by omega⟩)] else [waitR (p11 f h), fin11 f]
/-- A hop of a first-group ring, flow by flow. -/
def hop02 (h : Fin 7) : List Instr :=
  (List.finRange 4).flatMap fun f =>
    if hh : h.val < 6 then [waitR (p02 f h), acc02 f h, start (p02 f ⟨h.val + 1, by omega⟩)] else [waitR (p02 f h), fin02 f]
/-- A gather hop of a ring whose copies are `e`. -/
def gather (e : Fin 4 → Fin 7 → Edge) (h : Fin 7) : List Instr :=
  (List.finRange 4).flatMap fun f =>
    [waitR (e f h)] ++ (if hh : h.val < 6 then (if h.val = 0 then [] else [waitS (e f ⟨h.val - 1, by omega⟩)]) ++ [start (e f ⟨h.val + 1, by omega⟩)] else [])
/-- Row blocks computed, and their copies started, before a hop. -/
def pairs (ks : List (Fin 8)) : List Instr := ks.flatMap fun k => [comp k, start (p0x1 k)]

/-- First phase: the signals, the barrier, the product and the second-group rings. -/
def instrs1 : List Instr :=
  [sig 0, sig 1, sig 2, bar, comp 0] ++ (List.finRange 4).map seed11 ++ (List.finRange 4).map (fun f => start (p11 f 0)) ++ [start (p0x1 0)]
    ++ (pairs [1, 2] ++ hop11 0) ++ (pairs [3, 4] ++ hop11 1) ++ (pairs [5, 6] ++ hop11 2) ++ (pairs [7] ++ hop11 3)
    ++ hop11 4 ++ hop11 5 ++ hop11 6
    ++ (List.finRange 2).map (fun d => start (p12 d))
    ++ (List.finRange 4).flatMap (fun f => [waitS (p11 f 5), waitS (p11 f 6)])
/-- Second phase: the first column group's exchange and rings, and the finished tiles. -/
def instrs2 : List Instr :=
  (List.finRange 8).flatMap (fun k => [waitR (p0x1 k), acc01 k]) ++ (List.finRange 8).map (fun k => waitS (p0x1 k))
    ++ [seed02] ++ (List.finRange 4).map (fun f => start (p02 f 0))
    ++ (List.finRange 7).flatMap hop02
    ++ (List.finRange 4).flatMap (fun f => [waitS (p02 f 5), waitS (p02 f 6)])
    ++ (List.finRange 2).flatMap (fun d => [waitR (p12 d), fin13 d, start (p13 d), waitS (p12 d)])
    ++ (List.finRange 4).map (fun f => start (p03 f 0))
/-- The copies of the last exchange a gather hop releases. -/
def trig (h : Fin 7) : List (Fin 8) :=
  match h.val with | 0 => [0] | 1 => [1, 2] | 4 => [3] | 5 => [4, 5] | 6 => [6, 7] | _ => []
/-- Third phase: the gather rings and the last exchange. -/
def instrs3 : List Instr :=
  (List.finRange 2).flatMap (fun d => [waitR (p13 d), waitS (p13 d)])
    ++ (List.finRange 4).map (fun f => start (p14 f 0))
    ++ (List.finRange 7).flatMap (fun h => gather p03 h ++ (trig h).map (fun i => start (p04 i)) ++ gather p14 h)
    ++ (List.finRange 4).flatMap (fun f => [waitS (p03 f 5), waitS (p03 f 6), waitS (p14 f 5), waitS (p14 f 6)])
    ++ (List.finRange 8).flatMap (fun i => [waitR (p04 i), waitS (p04 i)])

/-- The whole body. -/
def instrs : List Instr := instrs1 ++ instrs2 ++ instrs3

set_option maxRecDepth 1000000 in
/-- The printed body is its list of instructions. -/
theorem body_eq :
    (cc0_body (F := F) aM (Memref.isWhole_whole _) bM (Memref.isWhole_whole _) outM (Memref.isWhole_whole _) partM (Memref.isWhole_whole _)
      p0rM (Memref.isWhole_whole _) (p02rM 0) (Memref.isWhole_whole _) (p02rM 1) (Memref.isWhole_whole _) (p02rM 2) (Memref.isWhole_whole _) (p02rM 3) (Memref.isWhole_whole _)
      (p02sM 0) (Memref.isWhole_whole _) (p02sM 1) (Memref.isWhole_whole _) (p02sM 2) (Memref.isWhole_whole _) (p02sM 3) (Memref.isWhole_whole _)
      (p11rM 0) (Memref.isWhole_whole _) (p11rM 1) (Memref.isWhole_whole _) (p11rM 2) (Memref.isWhole_whole _) (p11rM 3) (Memref.isWhole_whole _)
      (p11sM 0) (Memref.isWhole_whole _) (p11sM 1) (Memref.isWhole_whole _) (p11sM 2) (Memref.isWhole_whole _) (p11sM 3) (Memref.isWhole_whole _)
      xaM (Memref.isWhole_whole _) p12rM (Memref.isWhole_whole _)
      cc0_scratch20 cc0_scratch21 cc0_scratch22 cc0_scratch23 cc0_scratch24 cc0_scratch25 cc0_scratch26 cc0_scratch27 cc0_scratch28 cc0_scratch29
      cc0_scratch30 cc0_scratch31 cc0_scratch32 cc0_scratch33 cc0_scratch34 cc0_scratch35 cc0_scratch36 cc0_scratch37 cc0_scratch38 cc0_scratch39
      cc0_scratch40 cc0_scratch41 cc0_scratch42 cc0_scratch43 cc0_scratch44 cc0_scratch45 cc0_scratch46 cc0_scratch47 cc0_scratch48 cc0_scratch49
      cc0_scratch50 cc0_scratch51 cc0_scratch52 cc0_scratch53 cc0_scratch54 cc0_scratch55 cc0_scratch56 cc0_scratch57 cc0_scratch58 cc0_scratch59)
      = .op .deviceId fun c => runI c instrs (.ret ⟨⟩) := by
  with_unfolding_all rfl

end Cert.Proof

end
-- ==== Proof.Piece.lean ====
/-
  Pieces of a memref: the elements of a set of its indices, at a share, at contents given on the memref's indices
  (`pcs`). Pieces split and join over disjoint sets and over shares; a slice of a memref is a piece of it; loads and
  stores through a rectangle act on the pieces that hold it.
-/
module

public import proofs.«01_k».proof.Proof.Prog
public import Idealize.ShloMosaic.Lib.Pipeline.Launch
public import Idealize.ShloMosaic.Lib.Tactic
public import Idealize.ShloMosaic.Lib.MemrefSat
public import Idealize.ShloMosaic.Lib.ValueLayout

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

variable {s : Shape}

/-- Device `c` holds, at share `q`, the elements `S` of the memref `m`, which reads there as `g`. -/
def pcs (c : Dev nD) (m : Memref sig .tc .vmem s .bf16) (S : Finset s.Idx) (q : PosShare TreeShare) (g : s.Idx → Elt F .bf16) : sProp 𝕄 :=
  iprop(∃ f : m.view.ty.Contents (Elt F), ⌜∀ i ∈ S, m.view.read (Elt F) f i = g i⌝ ∗ (m.view.loc (c : Thread nD τ) ↦[m.view.setOn S]{q} f))

omit [FloatOps F] in
instance pcs_storable (c : Dev nD) (m : Memref sig .tc .vmem s .bf16) (S : Finset s.Idx) (q : PosShare TreeShare) (g : s.Idx → Elt F .bf16) :
    BI.Storable (upEmb : UEmb _ 𝕄) (pcs c m S q g) := by unfold pcs; infer_instance

omit [FloatOps F] in
theorem pcs_congr (c : Dev nD) (m : Memref sig .tc .vmem s .bf16) {S : Finset s.Idx} (q : PosShare TreeShare) {g g' : s.Idx → Elt F .bf16}
    (h : ∀ i ∈ S, g i = g' i) : (pcs c m S q g : sProp 𝕄) ⊢ pcs c m S q g' := by
  unfold pcs; iintro ⟨%f, %hf, H⟩; iexists f; isplitr
  · ipureintro; exact fun i hi => (hf i hi).trans (h i hi)
  · iexact H

omit [FloatOps F] in
theorem mem_setOn_iff (m : Memref sig .tc .vmem s .bf16) {S : Finset s.Idx} {x : m.view.ty.Idx} (h : x ∈ m.view.setOn S) :
    ∃ i ∈ S, m.view.emb i = x := by
  unfold View.setOn at h; simpa using h

omit [FloatOps F] in
theorem setOn_union (m : Memref sig .tc .vmem s .bf16) (S T : Finset s.Idx) : m.view.setOn (S ∪ T) = m.view.setOn S ∪ m.view.setOn T := by
  unfold View.setOn; exact Finset.map_union _ _

omit [FloatOps F] in
theorem setOn_disjoint (m : Memref sig .tc .vmem s .bf16) {S T : Finset s.Idx} (h : Disjoint S T) : Disjoint (m.view.setOn S) (m.view.setOn T) := by
  unfold View.setOn; exact (Finset.disjoint_map _).mpr h

omit [FloatOps F] in
theorem setOn_mono (m : Memref sig .tc .vmem s .bf16) {S T : Finset s.Idx} (h : S ⊆ T) : m.view.setOn S ⊆ m.view.setOn T := by
  unfold View.setOn; exact Finset.map_subset_map.mpr h

omit [FloatOps F] in
/-- Contents that read alike on a set agree on its elements. -/
theorem agree_of_read (m : Memref sig .tc .vmem s .bf16) {S : Finset s.Idx} {f f' : m.view.ty.Contents (Elt F)}
    (h : ∀ i ∈ S, m.view.read (Elt F) f i = m.view.read (Elt F) f' i) : ∀ x ∈ m.view.setOn S, f x = f' x := by
  intro x hx
  obtain ⟨i, hi, rfl⟩ := mem_setOn_iff m hx
  have := h i hi
  simp only [View.read] at this
  exact eq_of_heq (by simpa using this)

omit [FloatOps F] in
/-- Pieces over disjoint sets, split -/
theorem pcs_split (c : Dev nD) (m : Memref sig .tc .vmem s .bf16) {S T : Finset s.Idx} (q : PosShare TreeShare) (g : s.Idx → Elt F .bf16)
    (h : Disjoint S T) : (pcs c m (S ∪ T) q g : sProp 𝕄) ⊢ iprop(pcs c m S q g ∗ pcs c m T q g) := by
  unfold pcs; iintro ⟨%f, %hf, H⟩
  rw [setOn_union]
  ihave H' := (pointsTo_union (setOn_disjoint m h)).1 $$ H
  icases H' with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

omit [FloatOps F] in
/-- and joined, at contents that agree with each on its set. -/
theorem pcs_join' (c : Dev nD) (m : Memref sig .tc .vmem s .bf16) {S T : Finset s.Idx} (q : PosShare TreeShare) {g₁ g₂ g : s.Idx → Elt F .bf16}
    (h : Disjoint S T) (h₁ : ∀ i ∈ S, g₁ i = g i) (h₂ : ∀ i ∈ T, g₂ i = g i) :
    iprop(pcs c m S q g₁ ∗ pcs c m T q g₂) ⊢ (pcs c m (S ∪ T) q g : sProp 𝕄) := by
  unfold pcs; iintro ⟨⟨%f₁, %hf₁, H1⟩, ⟨%f₂, %hf₂, H2⟩⟩
  iexists (m.view.setOn T).piecewise f₂ f₁
  isplitr
  · ipureintro; intro i hi
    have hd := setOn_disjoint m h
    rcases Finset.mem_union.mp hi with hi | hi
    · rw [← h₁ i hi, ← hf₁ i hi]
      simp only [View.read_apply]
      rw [Finset.piecewise_eq_of_notMem _ _ _ (Finset.disjoint_left.mp hd (m.view.mem_setOn.mpr hi))]
    · rw [← h₂ i hi, ← hf₂ i hi]
      simp only [View.read_apply]
      rw [Finset.piecewise_eq_of_mem _ _ _ (m.view.mem_setOn.mpr hi)]
  · rw [setOn_union]
    iapply (pointsTo_join (setOn_disjoint m h))
    isplitl [H1]; · iexact H1
    iexact H2

omit [FloatOps F] in
theorem pcs_join (c : Dev nD) (m : Memref sig .tc .vmem s .bf16) {S T : Finset s.Idx} (q : PosShare TreeShare) (g : s.Idx → Elt F .bf16)
    (h : Disjoint S T) : iprop(pcs c m S q g ∗ pcs c m T q g) ⊢ (pcs c m (S ∪ T) q g : sProp 𝕄) :=
  pcs_join' c m q h (fun _ _ => rfl) (fun _ _ => rfl)

omit [FloatOps F] in
/-- No elements at all. -/
theorem pcs_empty [∀ e, Nonempty (Elt F e)] (c : Dev nD) (m : Memref sig .tc .vmem s .bf16) (q : PosShare TreeShare) (g : s.Idx → Elt F .bf16) :
    (iprop(emp) : sProp 𝕄) ⊢ pcs c m ∅ q g := by
  unfold pcs; iintro -; iexists (fun _ => Classical.arbitrary _); isplitr
  · ipureintro; exact fun i hi => absurd hi (Finset.notMem_empty _)
  · have : m.view.setOn (∅ : Finset s.Idx) = ∅ := by unfold View.setOn; exact Finset.map_empty _
    rw [this, pointsTo_empty]; iempintro

omit [FloatOps F] in
/-- A share halves, -/
theorem pcs_halve (c : Dev nD) (m : Memref sig .tc .vmem s .bf16) (S : Finset s.Idx) (q : PosShare TreeShare) (g : s.Idx → Elt F .bf16) :
    (pcs c m S q g : sProp 𝕄) ⊢ iprop(pcs c m S q.left g ∗ pcs c m S q.right g) := by
  unfold pcs; iintro ⟨%f, %hf, H⟩
  ihave H' := (pointsTo_share (PosShare.mem_left_op_right q)).1 $$ H
  icases H' with ⟨H1, H2⟩
  isplitl [H1] <;> (iexists f; isplitr; · ipureintro; exact hf)
  · iexact H1
  · iexact H2

omit [FloatOps F] in
/-- and the halves join. -/
theorem pcs_unhalve (c : Dev nD) (m : Memref sig .tc .vmem s .bf16) (S : Finset s.Idx) (q : PosShare TreeShare) (g : s.Idx → Elt F .bf16) :
    iprop(pcs c m S q.left g ∗ pcs c m S q.right g) ⊢ (pcs c m S q g : sProp 𝕄) := by
  unfold pcs; iintro ⟨⟨%f₁, %hf₁, H1⟩, ⟨%f₂, %hf₂, H2⟩⟩
  iexists f₁; isplitr
  · ipureintro; exact hf₁
  · iapply (pointsTo_share (PosShare.mem_left_op_right q)).2
    isplitl [H1]; · iexact H1
    have e := agree_of_read m fun i hi => (hf₁ i hi).trans (hf₂ i hi).symm
    iapply (Entails.of_eq (pointsTo_congr (fun i hi => (e i hi).symm)))
    iexact H2

omit [FloatOps F] in
/-- Pieces over a family of pairwise disjoint sets, split -/
theorem pcs_family_split {T : Type} [DecidableEq T] (c : Dev nD) (m : Memref sig .tc .vmem s .bf16) (I : Finset T) (K : T → Finset s.Idx) (q : PosShare TreeShare) (g : s.Idx → Elt F .bf16)
    (h : ∀ t ∈ I, ∀ t' ∈ I, t ≠ t' → Disjoint (K t) (K t')) :
    (pcs c m (I.biUnion K) q g : sProp 𝕄) ⊢ bigSep I fun t => pcs c m (K t) q g := by
  induction I using Finset.induction_on with
  | empty => rw [bigSep_empty]; iintro -; iempintro
  | insert t I ht ih =>
    rw [Finset.biUnion_insert, bigSep_insert ht]
    have hd : Disjoint (K t) (I.biUnion K) :=
      (Finset.disjoint_biUnion_right _ _ _).mpr fun t' ht' =>
        h t (Finset.mem_insert_self _ _) t' (Finset.mem_insert_of_mem ht') (fun e => ht (e ▸ ht'))
    exact (pcs_split c m q g hd).trans (sep_mono_right (ih fun t₁ h₁ t₂ h₂ => h t₁ (Finset.mem_insert_of_mem h₁) t₂ (Finset.mem_insert_of_mem h₂)))

omit [FloatOps F] in
/-- and joined. -/
theorem pcs_family_join [∀ e, Nonempty (Elt F e)] {T : Type} [DecidableEq T] (c : Dev nD) (m : Memref sig .tc .vmem s .bf16) (I : Finset T) (K : T → Finset s.Idx) (q : PosShare TreeShare) (g : s.Idx → Elt F .bf16)
    (h : ∀ t ∈ I, ∀ t' ∈ I, t ≠ t' → Disjoint (K t) (K t')) :
    (bigSep I fun t => pcs c m (K t) q g) ⊢ (pcs c m (I.biUnion K) q g : sProp 𝕄) := by
  induction I using Finset.induction_on with
  | empty => rw [bigSep_empty]; exact pcs_empty c m q g
  | insert t I ht ih =>
    rw [Finset.biUnion_insert, bigSep_insert ht]
    have hd : Disjoint (K t) (I.biUnion K) :=
      (Finset.disjoint_biUnion_right _ _ _).mpr fun t' ht' =>
        h t (Finset.mem_insert_self _ _) t' (Finset.mem_insert_of_mem ht') (fun e => ht (e ▸ ht'))
    exact (sep_mono_right (ih fun t₁ h₁ t₂ h₂ => h t₁ (Finset.mem_insert_of_mem h₁) t₂ (Finset.mem_insert_of_mem h₂))).trans (pcs_join c m q g hd)

/-- A piece held whole at whatever it holds. -/
def gpc (c : Dev nD) (m : Memref sig .tc .vmem s .bf16) (S : Finset s.Idx) : sProp 𝕄 := iprop(∃ g : s.Idx → Elt F .bf16, pcs c m S fullShare g)

omit [FloatOps F] in
instance gpc_storable (c : Dev nD) (m : Memref sig .tc .vmem s .bf16) (S : Finset s.Idx) : BI.Storable (upEmb : UEmb _ 𝕄) (gpc (F := F) c m S) := by
  unfold gpc; infer_instance

omit [FloatOps F] in
theorem gpc_intro (c : Dev nD) (m : Memref sig .tc .vmem s .bf16) (S : Finset s.Idx) (g : s.Idx → Elt F .bf16) : (pcs c m S fullShare g : sProp 𝕄) ⊢ gpc (F := F) c m S := by
  unfold gpc; iintro H; iexists g; iexact H

omit [FloatOps F] in
theorem gpc_join (c : Dev nD) (m : Memref sig .tc .vmem s .bf16) {S T : Finset s.Idx} (h : Disjoint S T) :
    iprop(gpc (F := F) c m S ∗ gpc (F := F) c m T) ⊢ (gpc (F := F) c m (S ∪ T) : sProp 𝕄) := by
  classical
  unfold gpc; iintro ⟨⟨%g₁, H1⟩, ⟨%g₂, H2⟩⟩
  iexists T.piecewise g₂ g₁
  iapply (pcs_join' c m fullShare (g₁ := g₁) (g₂ := g₂) h
    (fun i hi => (Finset.piecewise_eq_of_notMem _ _ _ (Finset.disjoint_left.mp h hi)).symm)
    (fun i hi => (Finset.piecewise_eq_of_mem _ _ _ hi).symm))
  isplitl [H1]; · iexact H1
  iexact H2

omit [FloatOps F] in
theorem gpc_family_join [∀ e, Nonempty (Elt F e)] {T : Type} [DecidableEq T] (c : Dev nD) (m : Memref sig .tc .vmem s .bf16) (I : Finset T) (K : T → Finset s.Idx)
    (h : ∀ t ∈ I, ∀ t' ∈ I, t ≠ t' → Disjoint (K t) (K t')) :
    (bigSep I fun t => gpc (F := F) c m (K t)) ⊢ (gpc (F := F) c m (I.biUnion K) : sProp 𝕄) := by
  induction I using Finset.induction_on with
  | empty => rw [bigSep_empty]; exact (pcs_empty c m fullShare fun _ => Classical.arbitrary _).trans (gpc_intro c m _ _)
  | insert t I ht ih =>
    rw [Finset.biUnion_insert, bigSep_insert ht]
    have hd : Disjoint (K t) (I.biUnion K) :=
      (Finset.disjoint_biUnion_right _ _ _).mpr fun t' ht' =>
        h t (Finset.mem_insert_self _ _) t' (Finset.mem_insert_of_mem ht') (fun e => ht (e ▸ ht'))
    exact (sep_mono_right (ih fun t₁ h₁ t₂ h₂ => h t₁ (Finset.mem_insert_of_mem h₁) t₂ (Finset.mem_insert_of_mem h₂))).trans (gpc_join c m hd)

omit [FloatOps F] in
/-- The whole memref as a piece. -/
theorem pcs_univ (c : Dev nD) (m : Memref sig .tc .vmem s .bf16) (q : PosShare TreeShare) (g : s.Idx → Elt F .bf16) :
    (pcs c m Finset.univ q g : sProp 𝕄) = owns (c : Thread nD τ) m q g := by
  unfold pcs owns
  have e : ∀ f : m.view.ty.Contents (Elt F), (∀ i ∈ (Finset.univ : Finset s.Idx), m.view.read (Elt F) f i = g i) = (m.view.read (Elt F) f = g) :=
    fun f => propext ⟨fun h => funext fun i => h i (Finset.mem_univ i), fun h i _ => congrFun h i⟩
  simp only [e, View.setOn_univ]

omit [FloatOps F] in
/-- A slice read at the shape with its unit axes dropped is a piece of the memref. -/
theorem owns_tile {s' : Shape} (c : Dev nD) (m : Memref sig .tc .vmem s .bf16) (r : Rect s) (hr : ∀ a, r.stride a = 1) (hs : r.shape.Squeezes s') (q : PosShare TreeShare)
    (X : s'.Idx → Elt F .bf16) (g : s.Idx → Elt F .bf16) (hX : ∀ j, g (r.emb (Shape.reshapeEquiv hs.numel_eq j)) = X j) :
    (owns (c : Thread nD τ) ((m.slice r hr).squeeze s' hs) q X : sProp 𝕄) = pcs c m r.set q g := by
  have hset : ((m.slice r hr).squeeze s' hs).view.set = m.view.setOn r.set := (View.set_reshape _ _).trans (View.set_slice _ _)
  have e : ∀ f : m.view.ty.Contents (Elt F), (((m.slice r hr).squeeze s' hs).view.read (Elt F) f = X) = (∀ i ∈ r.set, m.view.read (Elt F) f i = g i) := by
    intro f
    have hread : ∀ j, ((m.slice r hr).squeeze s' hs).view.read (Elt F) f j = m.view.read (Elt F) f (r.emb (Shape.reshapeEquiv hs.numel_eq j)) := fun j => rfl
    apply propext
    constructor
    · intro h i hi
      obtain ⟨j, rfl⟩ := r.exists_idx_of_mem hi
      have := (hread ((Shape.reshapeEquiv hs.numel_eq).symm j)).symm.trans ((congrFun h _).trans (hX _).symm)
      rw [Equiv.apply_symm_apply] at this
      exact this
    · intro h; funext j
      rw [hread, ← hX]; exact h _ (r.idx_mem _)
  unfold owns pcs
  show iprop(∃ f : m.view.ty.Contents (Elt F), _) = _
  congr 1; funext f
  rw [e f]
  show iprop(_ ∗ (m.view.loc (c : Thread nD τ) ↦[((m.slice r hr).squeeze s' hs).view.set]{q} f)) = _
  rw [hset]

/-- A load through a rectangle whose elements the piece holds. -/
theorem pcs_load (c : Dev nD) {m : Memref sig .tc .vmem s .bf16} {r : Rect s} {hn : 0 < r.shape.numel} {S : Finset s.Idx} {q : PosShare TreeShare} {g : s.Idx → Elt F .bf16}
    {k : (r.shape.Idx → Elt F .bf16) → KP F} {Q : PUnit → sProp 𝕄} (hS : r.set ⊆ S) :
    (pcs c m S q g : sProp 𝕄) ⊢ iprop((pcs c m S q g -∗ wp frame (wpE (defs₀ (F := F)) Variants.none (c : Thread nD τ) none) Set.univ (k fun j => g (r.emb j)) Q)
      -∗ wp frame (wpE (defs₀ (F := F)) Variants.none (c : Thread nD τ) none) Set.univ (loadP m r hn k) Q) := by
  unfold pcs loadP
  iintro ⟨%f, %hf, H⟩ Hk
  have hset : (m.access r).set ⊆ m.view.setOn S := by rw [View.set_slice]; exact setOn_mono m hS
  iapply (wp_load_rect (m := m) (r := r) Variants.none (c : Thread nD τ) none Set.univ hset) $$ H
  iintro H
  have hr : (m.access r).read (Elt F) f = fun j => g (r.emb j) := funext fun j => (show m.view.read (Elt F) f (r.emb j) = _ from hf _ (hS (r.idx_mem j)))
  rw [hr]
  iapply Hk
  iexists f; isplitr
  · ipureintro; exact hf
  · iexact H

/-- A store through a rectangle whose elements the piece holds whole. -/
theorem pcs_store (c : Dev nD) {m : Memref sig .tc .vmem s .bf16} {r : Rect s} {w : r.shape.Idx → Elt F .bf16} {hx : (m.access r).Stores Finset.univ} {S : Finset s.Idx} {g g' : s.Idx → Elt F .bf16}
    {k : KP F} {Q : PUnit → sProp 𝕄} (hS : r.set ⊆ S) (hw : ∀ j, g' (r.emb j) = w j) (hk : ∀ i ∈ S, i ∉ r.set → g' i = g i) :
    (pcs c m S fullShare g : sProp 𝕄) ⊢ iprop((pcs c m S fullShare g' -∗ wp frame (wpE (defs₀ (F := F)) Variants.none (c : Thread nD τ) none) Set.univ k Q)
      -∗ wp frame (wpE (defs₀ (F := F)) Variants.none (c : Thread nD τ) none) Set.univ (storeP m r w hx k) Q) := by
  unfold pcs storeP
  iintro ⟨%f, %hf, H⟩ Hk
  have hset : (m.access r).setOn Finset.univ ⊆ m.view.setOn S := by rw [View.setOn_univ, View.set_slice]; exact setOn_mono m hS
  iapply (wp_store (m := m) (r := r) (hx := hx) Variants.none (c : Thread nD τ) none Set.univ hset) $$ H
  iintro H
  iapply Hk
  iexists (m.access r).write (Elt F) f w Finset.univ
  isplitr
  · ipureintro; intro i hi
    by_cases hir : i ∈ r.set
    · obtain ⟨j, rfl⟩ := r.exists_idx_of_mem hir
      exact (View.read_slice_write_emb r f w (Finset.mem_univ j)).trans (hw j).symm
    · refine (View.read_slice_write_of_not_mem r f w Finset.univ ?_).trans ((hf i hi).trans (hk i hi hir).symm)
      rw [Rect.map_emb_univ]; exact hir
  · iexact H

end Cert.Proof

end
-- ==== Proof.Geom.lean ====
/-
  Where the body's rectangles lie. A device has a position on its ring (`r8`) and a lane (`xp`); every offset word of the
  body is a closed form of the two, and every rectangle is a box of rows and columns (`bx`).
-/
module

public import proofs.«01_k».proof.Proof.Piece
public import Idealize.ShloMosaic.Lib.Pipeline.ValueKit.Geometry
public import Idealize.ShloMosaic.Lib.ValueLayout

@[expose] public section

noncomputable section

namespace Cert.Proof

open Cert.KernelIdeal Cert.KernelIdeal.Gen

open Idealize.ShloMosaic
open Idealize.ShloMosaic.TcCoe
open Idealize.ShloMosaic.ValueIdx Idealize.ShloMosaic.ValueKit
open Idealize.SL.Sem

/-! ## Positions -/

/-- A device's position on its ring; -/
abbrev r8 (c : Dev nD) : ℕ := (![0, 0, 7, 7, 1, 1, 6, 6, 2, 2, 5, 5, 3, 3, 4, 4] : Fin 16 → ℕ) c
/-- the lane it finishes; -/
abbrev xp (c : Dev nD) : ℕ := (![0, 1, 1, 0, 0, 1, 1, 0, 0, 1, 1, 0, 0, 1, 1, 0] : Fin 16 → ℕ) c
/-- the order in which the row pairs are computed; -/
abbrev offk (k : Fin 8) : ℕ := (![0, 7, 1, 6, 2, 5, 3, 4] : Fin 8 → ℕ) k
/-- the row pair at a ring offset; -/
abbrev prw (c : Dev nD) (δ : ℕ) : ℕ := (r8 c + δ) % 8
/-- the offset of the row pair a ring adds at step `g`; -/
abbrev gd (d : Fin 2) (g : ℕ) : ℕ := match d with | 0 => 8 - g | 1 => g
/-- the offset of the row pair a gather ring holds at step `g`; -/
abbrev od (d : Fin 2) (g : ℕ) : ℕ := match d with | 0 => 9 - g | 1 => g + 7
/-- the offset of the row pair the last exchange moves. -/
abbrev d4 (i : Fin 8) : ℕ := (![0, 1, 7, 4, 5, 3, 6, 2] : Fin 8 → ℕ) i
/-- The place in the computing order of the row pair a ring adds at step `g`. -/
abbrev kg (d : Fin 2) (g : Fin 8) : Fin 8 :=
  match d with | 0 => (![0, 1, 3, 5, 7, 6, 4, 2] : Fin 8 → Fin 8) g | 1 => (![0, 2, 4, 6, 7, 5, 3, 1] : Fin 8 → Fin 8) g

/-- The kind of neighbour a copy comes from. -/
abbrev rk (κ : Fin 3) : Fin 3 := match κ with | 0 => 0 | 1 => 2 | 2 => 1
/-- The neighbour a flow's copies come from. -/
abbrev prv (f : Fin 4) (c : Dev nD) : Dev nD := nbr c (match fdir f with | 0 => 2 | 1 => 1)

theorem xp_lt (c : Dev nD) : xp c < 2 := by revert c; decide
theorem prw_lt (c : Dev nD) (δ : ℕ) : prw c δ < 8 := Nat.mod_lt _ (by decide)
theorem nbr_rk : ∀ (c : Dev nD) (κ : Fin 3), nbr (nbr c (rk κ)) κ = c := by decide +kernel
theorem rk_nbr : ∀ (c : Dev nD) (κ : Fin 3), nbr (nbr c κ) (rk κ) = c := by decide +kernel
theorem r8_nbr0 : ∀ c : Dev nD, r8 (nbr c 0) = r8 c := by decide +kernel
theorem xp_nbr0 : ∀ c : Dev nD, xp (nbr c 0) = 1 - xp c := by decide +kernel
theorem xp_prv : ∀ (f : Fin 4) (c : Dev nD), xp (prv f c) = xp c := by decide +kernel
theorem prw_prv_g : ∀ (f : Fin 4) (c : Dev nD) (g : Fin 8), prw (prv f c) (gd (fdir f) g.val) = prw c (gd (fdir f) (g.val + 1)) := by decide +kernel
theorem prw_prv_o : ∀ (f : Fin 4) (c : Dev nD) (g : Fin 8), prw (prv f c) (od (fdir f) g.val) = prw c (od (fdir f) (g.val + 1)) := by decide +kernel
theorem prw_kg : ∀ (c : Dev nD) (d : Fin 2) (g : Fin 8), prw c (offk (kg d g)) = prw c (gd d g.val) := by decide +kernel
theorem prw_off_inj : ∀ (c : Dev nD) (k k' : Fin 8), prw c (offk k) = prw c (offk k') → k = k' := by decide +kernel
theorem prw_off_surj : ∀ (c : Dev nD) (p : Fin 8), ∃ k : Fin 8, prw c (offk k) = p.val := by decide +kernel
theorem prw_od_inj : ∀ (c : Dev nD) (d : Fin 2) (g g' : Fin 8), prw c (od d g.val) = prw c (od d g'.val) → g = g' := by decide +kernel
theorem prw_od_surj : ∀ (c : Dev nD) (d : Fin 2) (p : Fin 8), ∃ g : Fin 8, prw c (od d g.val) = p.val := by decide +kernel
theorem prw_d4_inj : ∀ (c : Dev nD) (k k' : Fin 8), prw c (d4 k) = prw c (d4 k') → k = k' := by decide +kernel
theorem prw_d4_surj : ∀ (c : Dev nD) (p : Fin 8), ∃ k : Fin 8, prw c (d4 k) = p.val := by decide +kernel

/-- The device of a lane at a ring position. -/
abbrev dv (x p : ℕ) : Dev nD :=
  if x = 0 then (![0, 4, 8, 12, 15, 11, 7, 3] : Fin 8 → Fin 16) ⟨p % 8, Nat.mod_lt _ (by decide)⟩
  else (![1, 5, 9, 13, 14, 10, 6, 2] : Fin 8 → Fin 16) ⟨p % 8, Nat.mod_lt _ (by decide)⟩
/-- The device that finishes a row in a direction. -/
abbrev owner (r : ℕ) (d : Fin 2) : Dev nD := dv (r % 2) (match d with | 0 => r / 2 + 7 | 1 => r / 2 + 1)
theorem owner_at : ∀ (c : Dev nD) (d : Fin 2), owner (2 * prw c (od d 0) + xp c) d = c := by decide +kernel
theorem owner_row : ∀ (r : Fin 16) (d : Fin 2), 2 * prw (owner r.val d) (od d 0) + xp (owner r.val d) = r.val := by decide +kernel

/-! ## The offset words -/

theorem off1_eq : ∀ (c : Dev nD) (l : Fin 2), k0_off1 c (BitVec.ofNat 32 l.val) = ![(2 * prw c (offk 0) + l.val) * 128, 0] := by decide +kernel
theorem off2_eq : ∀ (c : Dev nD) (l : Fin 2), k0_off2 c (BitVec.ofNat 32 l.val) = ![2 * prw c (offk 0) + l.val, 0, 0] := by decide +kernel
theorem off3_eq : ∀ (c : Dev nD) (k : Fin 8), k0_off3 c (k0_off3_at k) = ![2 * prw c (offk k) + (1 - xp c), 0, 0] := by decide +kernel
theorem off4_eq : ∀ (c : Dev nD) (k : Fin 8) (l : Fin 2), k ≠ 0 → k0_off4 c (k0_off4_at (i4 k l)).1 (k0_off4_at (i4 k l)).2 = ![(2 * prw c (offk k) + l.val) * 128, 0] := by decide +kernel
theorem off5_eq : ∀ (c : Dev nD) (k : Fin 8) (l : Fin 2), k ≠ 0 → k0_off5 c (k0_off5_at (i5 k l)).1 (k0_off5_at (i5 k l)).2 = ![2 * prw c (offk k) + l.val, 0, 0] := by decide +kernel
theorem off5h_eq : ∀ (c : Dev nD) (f : Fin 4) (h : Fin 7), k0_off5 c (k0_off5_at (h5 f h)).1 (k0_off5_at (h5 f h)).2 = ![2 * prw c (gd (fdir f) (h.val + 1)) + (flane f).val, 0, 0] := by decide +kernel
theorem off6_eq : ∀ c : Dev nD, k0_off6 c = ![0, 1 - xp c, 0, 0] := by decide +kernel
theorem off7_eq : ∀ c : Dev nD, k0_off7 c = ![1, 1 - xp c, 0, 0] := by decide +kernel
theorem off8_eq : ∀ (c : Dev nD) (k : Fin 8), k0_off8 c (k0_off8_at ⟨k.val, by omega⟩) = ![2 * prw c (offk k) + xp c, 0, 0] := by decide +kernel
theorem off8h_eq : ∀ (c : Dev nD) (f : Fin 4) (h : Fin 7), k0_off8 c (k0_off8_at (h8 f h)) = ![2 * prw c (gd (fdir f) (h.val + 1)) + xp c, 0, 0] := by decide +kernel
theorem off9_eq : ∀ (c : Dev nD) (k : Fin 8), k0_off9 c (k0_off9_at k) = ![2 * prw c (offk k) + xp c, 0, 0] := by decide +kernel
theorem off10_eq : ∀ c : Dev nD, k0_off10 c = ![2 * prw c (offk 0) + xp c, 0, 0] := by decide +kernel
theorem off11_eq : ∀ c : Dev nD, k0_off11 c = ![2 * prw c (od 0 0) + xp c, 0, 0] := by decide +kernel
theorem off12_eq : ∀ c : Dev nD, k0_off12 c = ![2 * prw c (od 0 0) + xp c, 64, 0] := by decide +kernel
theorem off13_eq : ∀ c : Dev nD, k0_off13 c = ![2 * prw c (od 1 0) + xp c, 0, 384] := by decide +kernel
theorem off14_eq : ∀ c : Dev nD, k0_off14 c = ![2 * prw c (od 1 0) + xp c, 64, 384] := by decide +kernel
theorem off15_eq : ∀ c : Dev nD, k0_off15 c = ![0, xp c, 0, 0] := by decide +kernel
theorem off18_eq : ∀ c : Dev nD, k0_off18 c = ![1, xp c, 0, 0] := by decide +kernel
theorem off16_eq : ∀ c : Dev nD, k0_off16 c = ![2 * prw c (od 0 0) + xp c, 0, 768] := by decide +kernel
theorem off17_eq : ∀ c : Dev nD, k0_off17 c = ![2 * prw c (od 0 0) + xp c, 0, 768] := by decide +kernel
theorem off19_eq : ∀ c : Dev nD, k0_off19 c = ![2 * prw c (od 1 0) + xp c, 0, 1408] := by decide +kernel
theorem off20_eq : ∀ c : Dev nD, k0_off20 c = ![2 * prw c (od 1 0) + xp c, 0, 1408] := by decide +kernel
theorem off21_eq : ∀ (c : Dev nD) (h : Fin 7), k0_off21 c (k0_off21_at h) = ![2 * prw c (od 0 h.val) + xp c, 0, 0] := by decide +kernel
theorem off22_eq : ∀ (c : Dev nD) (h : Fin 7), k0_off22 c (k0_off22_at h) = ![2 * prw c (od 0 h.val) + xp c, 64, 0] := by decide +kernel
theorem off23_eq : ∀ (c : Dev nD) (h : Fin 7), k0_off23 c (k0_off23_at h) = ![2 * prw c (od 1 h.val) + xp c, 0, 384] := by decide +kernel
theorem off24_eq : ∀ (c : Dev nD) (h : Fin 7), k0_off24 c (k0_off24_at h) = ![2 * prw c (od 1 h.val) + xp c, 64, 384] := by decide +kernel
theorem off25_eq : ∀ (c : Dev nD) (h : Fin 7) (l : Fin 2), k0_off25 c (k0_off25_at ⟨2 * h.val + l.val, by omega⟩).1 (k0_off25_at ⟨2 * h.val + l.val, by omega⟩).2 = ![2 * prw c (od 0 h.val) + l.val, 0, 768] := by decide +kernel
theorem off26_eq : ∀ (c : Dev nD) (h : Fin 7) (l : Fin 2), k0_off26 c (k0_off26_at ⟨2 * h.val + l.val, by omega⟩).1 (k0_off26_at ⟨2 * h.val + l.val, by omega⟩).2 = ![2 * prw c (od 1 h.val) + l.val, 0, 1408] := by decide +kernel
theorem off27_eq : ∀ (c : Dev nD) (i : Fin 8), k0_off27 c (k0_off27_at i) = ![2 * prw c (d4 i) + xp c, 0, 0] := by decide +kernel

/-! ## Boxes -/

abbrev SO : Shape := S16x128x2048

/-- The elements of row block `r` in the row range `[a, a + n)` and the column range `[b, b + m)`. -/
def bx (r a n b m : ℕ) : Finset SO.Idx :=
  Finset.univ.filter fun i => (i 0).val = r ∧ (a ≤ (i 1).val ∧ (i 1).val < a + n) ∧ (b ≤ (i 2).val ∧ (i 2).val < b + m)

theorem mem_bx {r a n b m : ℕ} {i : SO.Idx} :
    i ∈ bx r a n b m ↔ (i 0).val = r ∧ (a ≤ (i 1).val ∧ (i 1).val < a + n) ∧ (b ≤ (i 2).val ∧ (i 2).val < b + m) := by
  unfold bx; simp only [Finset.mem_filter, Finset.mem_univ, true_and]

theorem set_bx {off : Fin 3 → ℕ} {n m : ℕ} {inb} {r a b : ℕ} (h : off = ![r, a, b]) :
    (Rect.unit (s := SO) off ![1, n, m] inb).set = bx r a n b m := by
  subst h
  ext i
  rw [Rect.mem_set_unit, mem_bx]
  constructor
  · intro h
    have h0 := h 0; have h1 := h 1; have h2 := h 2
    simp at h0 h1 h2
    omega
  · intro h a
    fin_cases a <;> simp <;> omega

/-- An element of a unit rectangle, by its coordinates. -/
theorem emb_unit3 {n0 n1 n2 : ℕ} {off : Fin 3 → ℕ} {sz : Fin 3 → ℕ} {inb} {r a b : ℕ} (h : off = ![r, a, b])
    (j : (Rect.unit (s := ⟨3, ![n0, n1, n2]⟩) off sz inb).shape.Idx) {p : Fin n0} {q : Fin n1} {t : Fin n2}
    (hp : p.val = r + (j 0).val) (hq : q.val = a + (j 1).val) (ht : t.val = b + (j 2).val) :
    (Rect.unit (s := ⟨3, ![n0, n1, n2]⟩) off sz inb).emb j = ix3 p q t := by
  subst h
  funext x
  apply Fin.ext
  rw [rect_emb_unit_val]
  fin_cases x
  · exact hp.symm
  · exact hq.symm
  · exact ht.symm

theorem emb_unit4 {n0 n1 n2 n3 : ℕ} {off : Fin 4 → ℕ} {sz : Fin 4 → ℕ} {inb} {r s a b : ℕ} (h : off = ![r, s, a, b])
    (j : (Rect.unit (s := ⟨4, ![n0, n1, n2, n3]⟩) off sz inb).shape.Idx) {p : Fin n0} {u : Fin n1} {q : Fin n2} {t : Fin n3}
    (hp : p.val = r + (j 0).val) (hu : u.val = s + (j 1).val) (hq : q.val = a + (j 2).val) (ht : t.val = b + (j 3).val) :
    (Rect.unit (s := ⟨4, ![n0, n1, n2, n3]⟩) off sz inb).emb j = ix4 p u q t := by
  subst h
  funext x
  apply Fin.ext
  rw [rect_emb_unit_val]
  fin_cases x
  · exact hp.symm
  · exact hu.symm
  · exact hq.symm
  · exact ht.symm

/-- Membership in a unit rectangle of a stack of matrices, by coordinates. -/
theorem mem_unit3 {n0 n1 n2 : ℕ} {off : Fin 3 → ℕ} {n m l : ℕ} {inb} {r a b : ℕ} (h : off = ![r, a, b]) {i : (⟨3, ![n0, n1, n2]⟩ : Shape).Idx} :
    i ∈ (Rect.unit (s := ⟨3, ![n0, n1, n2]⟩) off ![l, n, m] inb).set
      ↔ (r ≤ (i 0).val ∧ (i 0).val < r + l) ∧ (a ≤ (i 1).val ∧ (i 1).val < a + n) ∧ (b ≤ (i 2).val ∧ (i 2).val < b + m) := by
  subst h
  rw [Rect.mem_set_unit]
  constructor
  · intro h
    have h0 := h 0; have h1 := h 1; have h2 := h 2
    exact ⟨h0, h1, h2⟩
  · rintro ⟨h0, h1, h2⟩ x
    fin_cases x
    · exact h0
    · exact h1
    · exact h2

theorem mem_unit4 {n0 n1 n2 n3 : ℕ} {off : Fin 4 → ℕ} {n m l k : ℕ} {inb} {r s a b : ℕ} (h : off = ![r, s, a, b]) {i : (⟨4, ![n0, n1, n2, n3]⟩ : Shape).Idx} :
    i ∈ (Rect.unit (s := ⟨4, ![n0, n1, n2, n3]⟩) off ![l, k, n, m] inb).set
      ↔ (r ≤ (i 0).val ∧ (i 0).val < r + l) ∧ (s ≤ (i 1).val ∧ (i 1).val < s + k) ∧ (a ≤ (i 2).val ∧ (i 2).val < a + n) ∧ (b ≤ (i 3).val ∧ (i 3).val < b + m) := by
  subst h
  rw [Rect.mem_set_unit]
  constructor
  · intro h
    exact ⟨h 0, h 1, h 2, h 3⟩
  · rintro ⟨h0, h1, h2, h3⟩ x
    fin_cases x
    · exact h0
    · exact h1
    · exact h2
    · exact h3

/-- The squeezed index of a one-row slice, by its coordinates. -/
theorem resh3 {a b : ℕ} (h : (⟨2, ![a, b]⟩ : Shape).numel = (⟨3, ![1, a, b]⟩ : Shape).numel) (j : (⟨2, ![a, b]⟩ : Shape).Idx) :
    Shape.reshapeEquiv h j = ix3 (⟨0, Nat.one_pos⟩ : Fin 1) (j 0) (j 1) := by
  conv_lhs => rw [show j = ix2 (j 0) (j 1) from eq_ix2 j]
  exact reshapeEquiv_ix2_1ab h _ _

theorem resh4 {a b : ℕ} (h : (⟨2, ![a, b]⟩ : Shape).numel = (⟨4, ![1, 1, a, b]⟩ : Shape).numel) (j : (⟨2, ![a, b]⟩ : Shape).Idx) :
    Shape.reshapeEquiv h j = ix4 (⟨0, Nat.one_pos⟩ : Fin 1) (⟨0, Nat.one_pos⟩ : Fin 1) (j 0) (j 1) := by
  conv_lhs => rw [show j = ix2 (j 0) (j 1) from eq_ix2 j]
  exact reshapeEquiv_ix2_11ab h _ _

/-! ## The rectangles of the copies -/

abbrev ssh : Edge → Shape
  | .p0x1 _ => SO
  | .p11 _ _ => S2x128x640
  | .p12 _ => S2x2x128x640
  | .p02 _ _ => S2x64x384
  | _ => SO
abbrev dsh : Edge → Shape
  | .p0x1 _ => S8x128x768
  | .p11 _ _ => S7x128x640
  | .p12 _ => S2x128x640
  | .p02 _ _ => S7x64x384
  | _ => SO

/-- The buffer a copy reads; -/
abbrev sB : (e : Edge) → Memref sig .tc .vmem (ssh e) .bf16
  | .p0x1 _ => partM
  | .p11 f _ => p11sM f
  | .p12 _ => xaM
  | .p02 f _ => p02sM f
  | .p13 _ => outM
  | .p03 _ _ => outM
  | .p14 _ _ => outM
  | .p04 _ => outM
/-- and the one it writes. -/
abbrev dB : (e : Edge) → Memref sig .tc .vmem (dsh e) .bf16
  | .p0x1 _ => p0rM
  | .p11 f _ => p11rM f
  | .p12 _ => p12rM
  | .p02 f _ => p02rM f
  | .p13 _ => outM
  | .p03 _ _ => outM
  | .p14 _ _ => outM
  | .p04 _ => outM

abbrev r01 (c : Dev nD) (k : Fin 8) : Rect SO := Rect.unit (s := S16x128x2048) (k0_off3 c (k0_off3_at k)) S1x128x768.size (k0_off3_inb c k)
abbrev r12 (c : Dev nD) (d : Fin 2) : Rect S2x2x128x640 :=
  match d with
  | 0 => Rect.unit (s := S2x2x128x640) (k0_off6 c) S1x1x128x640.size (k0_off6_inb c)
  | 1 => Rect.unit (s := S2x2x128x640) (k0_off7 c) S1x1x128x640.size (k0_off7_inb c)
abbrev r13 (c : Dev nD) (d : Fin 2) : Rect SO :=
  match d with
  | 0 => Rect.unit (s := S16x128x2048) (k0_off17 c) S1x128x640.size (k0_off17_inb c)
  | 1 => Rect.unit (s := S16x128x2048) (k0_off20 c) S1x128x640.size (k0_off20_inb c)
abbrev r14 (c : Dev nD) (f : Fin 4) (h : Fin 7) : Rect SO :=
  match fdir f with
  | 0 => Rect.unit (s := S16x128x2048) (k0_off25 c (k0_off25_at (i14 f h)).1 (k0_off25_at (i14 f h)).2) S1x128x640.size (k0_off25_inb c (i14 f h))
  | 1 => Rect.unit (s := S16x128x2048) (k0_off26 c (k0_off26_at (i14 f h)).1 (k0_off26_at (i14 f h)).2) S1x128x640.size (k0_off26_inb c (i14 f h))
abbrev r04 (c : Dev nD) (i : Fin 8) : Rect SO := Rect.unit (s := S16x128x2048) (k0_off27 c (k0_off27_at i)) S1x128x768.size (k0_off27_inb c i)

/-- The rectangle a copy reads; -/
abbrev sRect (c : Dev nD) : (e : Edge) → Rect (ssh e)
  | .p0x1 k => r01 c k
  | .p11 _ h => r11s (par2 h.val)
  | .p12 d => r12 c d
  | .p02 _ h => r02s (par2 h.val)
  | .p13 d => r13 c d
  | .p03 f h => r03 c f h
  | .p14 f h => r14 c f h
  | .p04 i => r04 c i
/-- and the one it writes. -/
abbrev dRect (c : Dev nD) : (e : Edge) → Rect (dsh e)
  | .p0x1 k => r0r k
  | .p11 _ h => r11r h
  | .p12 d => r11s d
  | .p02 _ h => r02r h
  | .p13 d => r13 c d
  | .p03 f h => r03 c f h
  | .p14 f h => r14 c f h
  | .p04 i => r04 c i

theorem sq03 (c : Dev nD) (f : Fin 4) (h : Fin 7) : (r03 c f h).shape.Squeezes S64x384 := by
  fin_cases f <;> exact squeezes_S1x64x384_S64x384
theorem sq14 (c : Dev nD) (f : Fin 4) (h : Fin 7) : (r14 c f h).shape.Squeezes S128x640 := by
  fin_cases f <;> exact squeezes_S1x128x640_S128x640
theorem sq13 (c : Dev nD) (d : Fin 2) : (r13 c d).shape.Squeezes S128x640 := by
  fin_cases d <;> exact squeezes_S1x128x640_S128x640
theorem sq12 (c : Dev nD) (d : Fin 2) : (r12 c d).shape.Squeezes S128x640 := by
  fin_cases d <;> exact squeezes_S1x1x128x640_S128x640

theorem sSq (c : Dev nD) : (e : Edge) → (sRect c e).shape.Squeezes (esh e)
  | .p0x1 _ => squeezes_S1x128x768_S128x768
  | .p11 _ _ => squeezes_S1x128x640_S128x640
  | .p12 d => sq12 c d
  | .p02 _ _ => squeezes_S1x64x384_S64x384
  | .p13 d => sq13 c d
  | .p03 f h => sq03 c f h
  | .p14 f h => sq14 c f h
  | .p04 _ => squeezes_S1x128x768_S128x768
theorem dSq (c : Dev nD) : (e : Edge) → (dRect c e).shape.Squeezes (esh e)
  | .p0x1 _ => squeezes_S1x128x768_S128x768
  | .p11 _ _ => squeezes_S1x128x640_S128x640
  | .p12 _ => squeezes_S1x128x640_S128x640
  | .p02 _ _ => squeezes_S1x64x384_S64x384
  | .p13 d => sq13 c d
  | .p03 f h => sq03 c f h
  | .p14 f h => sq14 c f h
  | .p04 _ => squeezes_S1x128x768_S128x768

theorem st03 (c : Dev nD) (f : Fin 4) (h : Fin 7) : ∀ a, (r03 c f h).stride a = 1 := by fin_cases f <;> exact fun _ => rfl
theorem st14 (c : Dev nD) (f : Fin 4) (h : Fin 7) : ∀ a, (r14 c f h).stride a = 1 := by fin_cases f <;> exact fun _ => rfl
theorem st13 (c : Dev nD) (d : Fin 2) : ∀ a, (r13 c d).stride a = 1 := by fin_cases d <;> exact fun _ => rfl
theorem st12 (c : Dev nD) (d : Fin 2) : ∀ a, (r12 c d).stride a = 1 := by fin_cases d <;> exact fun _ => rfl
theorem sSt (c : Dev nD) : (e : Edge) → ∀ a, (sRect c e).stride a = 1
  | .p0x1 _ => fun _ => rfl
  | .p11 _ _ => fun _ => rfl
  | .p12 d => st12 c d
  | .p02 _ _ => fun _ => rfl
  | .p13 d => st13 c d
  | .p03 f h => st03 c f h
  | .p14 f h => st14 c f h
  | .p04 _ => fun _ => rfl
theorem dSt (c : Dev nD) : (e : Edge) → ∀ a, (dRect c e).stride a = 1
  | .p0x1 _ => fun _ => rfl
  | .p11 _ _ => fun _ => rfl
  | .p12 _ => fun _ => rfl
  | .p02 _ _ => fun _ => rfl
  | .p13 d => st13 c d
  | .p03 f h => st03 c f h
  | .p14 f h => st14 c f h
  | .p04 _ => fun _ => rfl

/-- What a copy reads is that rectangle of that buffer; -/
theorem srcM_eq (c : Dev nD) (e : Edge) : srcM c e = ((sB e).slice (sRect c e) (sSt c e)).squeeze (esh e) (sSq c e) := by
  rcases e with k | ⟨f, h⟩ | d | ⟨f, h⟩ | d | ⟨f, h⟩ | ⟨f, h⟩ | i
  · rfl
  · rfl
  · fin_cases d <;> rfl
  · rfl
  · fin_cases d <;> rfl
  · fin_cases f <;> rfl
  · fin_cases f <;> rfl
  · rfl
/-- and what it writes, too. -/
theorem dstM_eq (c : Dev nD) (e : Edge) : dstM c e = ((dB e).slice (dRect c e) (dSt c e)).squeeze (esh e) (dSq c e) := by
  rcases e with k | ⟨f, h⟩ | d | ⟨f, h⟩ | d | ⟨f, h⟩ | ⟨f, h⟩ | i
  · rfl
  · rfl
  · rfl
  · rfl
  · fin_cases d <;> rfl
  · fin_cases f <;> rfl
  · fin_cases f <;> rfl
  · rfl

/-! ## The boxes of the rectangles -/

theorem set_r01 (c : Dev nD) (k : Fin 8) : (r01 c k).set = bx (2 * prw c (offk k) + (1 - xp c)) 0 128 0 768 := set_bx (off3_eq c k)
theorem set_r04 (c : Dev nD) (i : Fin 8) : (r04 c i).set = bx (2 * prw c (d4 i) + xp c) 0 128 0 768 := set_bx (off27_eq c i)
theorem set_r03 (c : Dev nD) (f : Fin 4) (h : Fin 7) :
    (r03 c f h).set = bx (2 * prw c (od (fdir f) h.val) + xp c) (64 * (flane f).val) 64 (384 * (fdir f).val) 384 := by
  fin_cases f
  · exact set_bx (off21_eq c h)
  · exact set_bx (off22_eq c h)
  · exact set_bx (off23_eq c h)
  · exact set_bx (off24_eq c h)
theorem set_rO02 (c : Dev nD) (f : Fin 4) :
    (rO02 c f).set = bx (2 * prw c (od (fdir f) 0) + xp c) (64 * (flane f).val) 64 (384 * (fdir f).val) 384 := by
  fin_cases f
  · exact set_bx (off11_eq c)
  · exact set_bx (off12_eq c)
  · exact set_bx (off13_eq c)
  · exact set_bx (off14_eq c)
theorem set_r13 (c : Dev nD) (d : Fin 2) :
    (r13 c d).set = bx (2 * prw c (od d 0) + xp c) 0 128 (768 + 640 * d.val) 640 := by
  fin_cases d
  · exact set_bx (off17_eq c)
  · exact set_bx (off20_eq c)
theorem set_r14 (c : Dev nD) (f : Fin 4) (h : Fin 7) :
    (r14 c f h).set = bx (2 * prw c (od (fdir f) h.val) + (flane f).val) 0 128 (768 + 640 * (fdir f).val) 640 := by
  fin_cases f
  · exact set_bx (off25_eq c h 0)
  · exact set_bx (off25_eq c h 1)
  · exact set_bx (off26_eq c h 0)
  · exact set_bx (off26_eq c h 1)
theorem set_row5 (c : Dev nD) (k : Fin 8) (l : Fin 2) (hk : k ≠ 0) : (rRow5 c (i5 k l)).set = bx (2 * prw c (offk k) + l.val) 0 128 0 2048 :=
  set_bx (off5_eq c k l hk)
theorem set_row5h (c : Dev nD) (f : Fin 4) (h : Fin 7) : (rRow5 c (h5 f h)).set = bx (2 * prw c (gd (fdir f) (h.val + 1)) + (flane f).val) 0 128 0 2048 :=
  set_bx (off5h_eq c f h)
theorem set_row8 (c : Dev nD) (k : Fin 8) : (rRow8 c ⟨k.val, by omega⟩).set = bx (2 * prw c (offk k) + xp c) 0 128 0 2048 := set_bx (off8_eq c k)
theorem set_row8h (c : Dev nD) (f : Fin 4) (h : Fin 7) : (rRow8 c (h8 f h)).set = bx (2 * prw c (gd (fdir f) (h.val + 1)) + xp c) 0 128 0 2048 :=
  set_bx (off8h_eq c f h)
theorem set_r9 (c : Dev nD) (k : Fin 8) : (r9 c k).set = bx (2 * prw c (offk k) + xp c) 0 128 0 768 := set_bx (off9_eq c k)
abbrev r2 (c : Dev nD) (l : Fin 2) : Rect SO := Rect.unit (s := S16x128x2048) (k0_off2 c (BitVec.ofNat 32 l.val)) S1x128x2048.size (k0_off2_inb c l)
theorem set_r2 (c : Dev nD) (l : Fin 2) : (r2 c l).set = bx (2 * prw c (offk 0) + l.val) 0 128 0 2048 := set_bx (off2_eq c l)
abbrev r10 (c : Dev nD) : Rect SO := Rect.unit (s := S16x128x2048) (k0_off10 c) S1x128x2048.size (k0_off10_inb c)
theorem set_r10 (c : Dev nD) : (r10 c).set = bx (2 * prw c (offk 0) + xp c) 0 128 0 2048 := set_bx (off10_eq c)

end Cert.Proof

end
-- ==== Proof.Cont.lean ====
/-
  What the buffers hold. Each buffer's contents are one function of the devices' blocks of the two arrays; `sCont` and
  `dCont` are what a copy reads and what it leaves, and `xfer` says that what it leaves is what it read.
-/
module

public import proofs.«01_k».proof.Proof.Geom

@[expose] public section

noncomputable section

namespace Cert.Proof

open Cert.KernelIdeal Cert.KernelIdeal.Gen

open Idealize.ShloMosaic
open Idealize.ShloMosaic.TcCoe
open Idealize.ShloMosaic.ValueIdx Idealize.ShloMosaic.ValueKit
open Idealize.SL.Sem

variable {F : FTy → Type} [FloatOps F]
variable (A : Dev nD → S2048x1024.Idx → Elt F .bf16) (B : Dev nD → S1024x2048.Idx → Elt F .bf16)

/-- A row block of the result's shape, by pair and lane. -/
def rowF (c : Dev nD) (δ l : ℕ) : Fin 16 := ⟨(2 * prw c δ + l) % 16, Nat.mod_lt _ (by decide)⟩

theorem rowF_val (c : Dev nD) (δ l : ℕ) (hl : l < 2) : (rowF c δ l).val = 2 * prw c δ + l := by
  have := prw_lt c δ
  show (2 * prw c δ + l) % 16 = _
  exact Nat.mod_eq_of_lt (by omega)

/-- One row block of contents of the result's shape. -/
def rowV (g : SO.Idx → Elt F .bf16) (r : Fin 16) : Vec F S1x128x2048 .bf16 := fun j => g (ix3 r (j 1) (j 2))

/-- A row block of a device's part of the first array; -/
def blkA (c : Dev nD) (r : Fin 16) : Vec F S128x1024 .bf16 :=
  fun k => A c (ix2 (⟨r.val * 128 + (k 0).val, by have h : (k 0).val < 128 := (k 0).isLt; have := r.isLt; omega⟩ : Fin 2048) (k 1))
/-- the device's local product; -/
def dotF (c : Dev nD) : SO.Idx → Elt F .bf16 := fun i => dotV (blkA A c (i 0)) (B c) (ix3 (0 : Fin 1) (i 1) (i 2))

/-- The block a second-group flow sends at hop `h`; -/
def V11 (f : Fin 4) : ℕ → Dev nD → Vec F S1x128x640 .bf16
  | 0, c => seed11V (fdir f) (rowV (dotF A B c) (rowF c (gd (fdir f) 0) (flane f).val))
  | h + 1, c => acc11V (fdir f) (rowV (dotF A B c) (rowF c (gd (fdir f) (h + 1)) (flane f).val)) (V11 f h (prv f c))
/-- the flow of a direction and a lane; -/
abbrev fl (d l : ℕ) : Fin 4 := ⟨(2 * d + l) % 4, Nat.mod_lt _ (by decide)⟩
/-- the ring sums a flow ends with; -/
def X11 (f : Fin 4) (c : Dev nD) : Vec F S1x1x128x640 .bf16 :=
  fin11V (fdir f) (rowV (dotF A B c) (rowF c (gd (fdir f) 7) (flane f).val)) (V11 A B f 6 (prv f c))
/-- all four together; -/
def xaF (c : Dev nD) : S2x2x128x640.Idx → Elt F .bf16 := fun i => X11 A B (fl (i 0).val (i 1).val) c (ix4 (0 : Fin 1) (0 : Fin 1) (i 2) (i 3))
/-- what the partner gives of its first column group, by row block; -/
def w01 (c : Dev nD) (r : Fin 16) : Vec F S1x128x768 .bf16 :=
  fun j => dotF A B (nbr c 0) (ix3 r (j 1) (⟨(j 2).val, lt_trans (j 2).isLt (by decide)⟩ : Fin 2048))
/-- the local product with the partner's given columns added in; -/
def accF (c : Dev nD) : SO.Idx → Elt F .bf16 := fun i =>
  if h : (i 0).val % 2 = xp c ∧ (i 2).val < 768 then
    acc01V (w01 A B c (i 0)) (rowV (dotF A B c) (i 0)) (ix3 (0 : Fin 1) (i 1) (⟨(i 2).val, h.2⟩ : Fin 768))
  else dotF A B c i
/-- the piece a first-group flow sends at hop `h`; -/
def V02 (f : Fin 4) : ℕ → Dev nD → Vec F S1x64x384 .bf16
  | 0, c => seed02V f (rowV (accF A B c) (rowF c (gd (fdir f) 0) (xp c)))
  | h + 1, c => acc02V f (rowV (accF A B c) (rowF c (gd (fdir f) (h + 1)) (xp c))) (V02 f h (prv f c))
/-- the finished piece of the first group; -/
def o02 (f : Fin 4) (c : Dev nD) : Vec F S1x64x384 .bf16 :=
  fin02V f (rowV (accF A B c) (rowF c (gd (fdir f) 7) (xp c))) (V02 A B f 6 (prv f c))
/-- and the finished tile of the second. -/
def o13 (d : Fin 2) (c : Dev nD) : Vec F S1x128x640 .bf16 :=
  fin13V (fun j => xaF A B (nbr c 0) (ix4 d (⟨xp c, xp_lt c⟩ : Fin 2) (j 1) (j 2))) (fun j => xaF A B c (ix4 d (⟨xp c, xp_lt c⟩ : Fin 2) (j 2) (j 3)))

/-- The result, the same on every device: each tile what its owner finished. -/
def outV : SO.Idx → Elt F .bf16 := fun i =>
  if (i 2).val < 768 then
    let d : Fin 2 := ⟨(i 2).val / 384 % 2, Nat.mod_lt _ (by decide)⟩
    o02 A B (fl d.val ((i 1).val / 64)) (owner (i 0).val d)
      (ix3 (0 : Fin 1) (⟨(i 1).val % 64, Nat.mod_lt _ (by decide)⟩ : Fin 64) (⟨(i 2).val % 384, Nat.mod_lt _ (by decide)⟩ : Fin 384))
  else
    let d : Fin 2 := ⟨((i 2).val - 768) / 640 % 2, Nat.mod_lt _ (by decide)⟩
    o13 A B d (owner (i 0).val d) (ix3 (0 : Fin 1) (i 1) (⟨((i 2).val - 768) % 640, Nat.mod_lt _ (by decide)⟩ : Fin 640))

/-- What a copy's source buffer holds on the device that issues it; -/
def sCont (c : Dev nD) : (e : Edge) → (ssh e).Idx → Elt F .bf16
  | .p0x1 _ => dotF A B c
  | .p11 f h => fun i => V11 A B f h.val c (ix3 (0 : Fin 1) (i 1) (i 2))
  | .p12 _ => xaF A B c
  | .p02 f h => fun i => V02 A B f h.val c (ix3 (0 : Fin 1) (i 1) (i 2))
  | .p13 _ => outV A B
  | .p03 _ _ => outV A B
  | .p14 _ _ => outV A B
  | .p04 _ => outV A B
/-- and what its destination buffer holds once it has landed. -/
def dCont (c : Dev nD) : (e : Edge) → (dsh e).Idx → Elt F .bf16
  | .p0x1 k => fun i => w01 A B c (rowF c (offk k) (xp c)) (ix3 (0 : Fin 1) (i 1) (i 2))
  | .p11 f h => fun i => V11 A B f h.val (prv f c) (ix3 (0 : Fin 1) (i 1) (i 2))
  | .p12 d => fun i => xaF A B (nbr c 0) (ix4 d (⟨xp c, xp_lt c⟩ : Fin 2) (i 1) (i 2))
  | .p02 f h => fun i => V02 A B f h.val (prv f c) (ix3 (0 : Fin 1) (i 1) (i 2))
  | .p13 _ => outV A B
  | .p03 _ _ => outV A B
  | .p14 _ _ => outV A B
  | .p04 _ => outV A B

/-- Which device's copy lands here. -/
abbrev snd (c : Dev nD) (e : Edge) : Dev nD := nbr c (rk (knd e))
theorem snd_nbr (c : Dev nD) (e : Edge) : snd (nbr c (knd e)) e = c := rk_nbr c (knd e)
theorem nbr_snd (c : Dev nD) (e : Edge) : nbr (snd c e) (knd e) = c := nbr_rk c (knd e)

theorem prv_nbr11 (c : Dev nD) (f : Fin 4) (h : Fin 7) : prv f (nbr c (knd (.p11 f h))) = c := by
  revert c f h; decide +kernel

/-- An index of a one-row slice with its unit axis dropped, placed in the buffer; -/
theorem tile3 {n0 n1 n2 n m : ℕ} {off : Fin 3 → ℕ} {inb} {r a b : ℕ} (h : off = ![r, a, b])
    (hn : (⟨2, ![n, m]⟩ : Shape).numel = (⟨3, ![1, n, m]⟩ : Shape).numel) (j : (⟨2, ![n, m]⟩ : Shape).Idx) {p : Fin n0} {q : Fin n1} {t : Fin n2}
    (hp : p.val = r) (hq : q.val = a + (j 0).val) (ht : t.val = b + (j 1).val) :
    (Rect.unit (s := ⟨3, ![n0, n1, n2]⟩) off ![1, n, m] inb).emb (Shape.reshapeEquiv hn j) = ix3 p q t :=
  (congrArg _ (resh3 hn j)).trans (emb_unit3 h (ix3 (⟨0, Nat.one_pos⟩ : Fin 1) (j 0) (j 1)) (p := p) (q := q) (t := t) (hp.trans (Nat.add_zero r).symm) hq ht)
/-- of a stack of stacks, too. -/
theorem tile4 {n0 n1 n2 n3 n m : ℕ} {off : Fin 4 → ℕ} {inb} {r s a b : ℕ} (h : off = ![r, s, a, b])
    (hn : (⟨2, ![n, m]⟩ : Shape).numel = (⟨4, ![1, 1, n, m]⟩ : Shape).numel) (j : (⟨2, ![n, m]⟩ : Shape).Idx) {p : Fin n0} {u : Fin n1} {q : Fin n2} {t : Fin n3}
    (hp : p.val = r) (hu : u.val = s) (hq : q.val = a + (j 0).val) (ht : t.val = b + (j 1).val) :
    (Rect.unit (s := ⟨4, ![n0, n1, n2, n3]⟩) off ![1, 1, n, m] inb).emb (Shape.reshapeEquiv hn j) = ix4 p u q t :=
  (congrArg _ (resh4 hn j)).trans (emb_unit4 h (ix4 (⟨0, Nat.one_pos⟩ : Fin 1) (⟨0, Nat.one_pos⟩ : Fin 1) (j 0) (j 1)) (p := p) (u := u) (q := q) (t := t)
    (hp.trans (Nat.add_zero r).symm) (hu.trans (Nat.add_zero s).symm) hq ht)

theorem xfer01 (c : Dev nD) (k : Fin 8) (j : S128x768.Idx) :
    dCont A B (nbr c 0) (.p0x1 k) ((r0r k).emb (Shape.reshapeEquiv (dSq c (.p0x1 k)).numel_eq j))
      = dotF A B c ((r01 c k).emb (Shape.reshapeEquiv (sSq c (.p0x1 k)).numel_eq j)) := by
  have hr : (rowF (nbr c 0) (offk k) (xp (nbr c 0))).val = 2 * prw c (offk k) + (1 - xp c) := by
    rw [rowF_val _ _ _ (xp_lt _), xp_nbr0]
    show 2 * ((r8 (nbr c 0) + _) % 8) + _ = _
    rw [r8_nbr0]
  have e1 := tile3 (n0 := 8) (n1 := 128) (n2 := 768) (inb := inb_p0r k) (r := k.val) (a := 0) (b := 0) rfl (dSq c (.p0x1 k)).numel_eq j (p := k) (q := j 0) (t := j 1)
    rfl (Nat.zero_add _).symm (Nat.zero_add _).symm
  have e2 := tile3 (n0 := 16) (n1 := 128) (n2 := 2048) (inb := k0_off3_inb c k) (off3_eq c k) (sSq c (.p0x1 k)).numel_eq j
    (p := rowF (nbr c 0) (offk k) (xp (nbr c 0))) (q := j 0) (t := ⟨(j 1).val, lt_trans (j 1).isLt (by decide)⟩) hr (Nat.zero_add _).symm (Nat.zero_add _).symm
  refine (congrArg _ e1).trans (Eq.trans ?_ (congrArg _ e2).symm)
  show dotF A B (nbr (nbr c 0) 0) _ = _
  rw [show nbr (nbr c 0) 0 = c from rk_nbr c 0]
  rfl

theorem xfer12 (c : Dev nD) (d : Fin 2) (j : S128x640.Idx) :
    dCont A B (nbr c 0) (.p12 d) ((r11s d).emb (Shape.reshapeEquiv (dSq c (.p12 d)).numel_eq j))
      = xaF A B c ((r12 c d).emb (Shape.reshapeEquiv (sSq c (.p12 d)).numel_eq j)) := by
  have hx : (⟨xp (nbr c 0), xp_lt _⟩ : Fin 2).val = 1 - xp c := xp_nbr0 c
  have e1 := tile3 (n0 := 2) (n1 := 128) (n2 := 640) (inb := inb_p11s d) (r := d.val) (a := 0) (b := 0) rfl (dSq c (.p12 d)).numel_eq j (p := d) (q := j 0) (t := j 1)
    rfl (Nat.zero_add _).symm (Nat.zero_add _).symm
  have e2 : (r12 c d).emb (Shape.reshapeEquiv (sSq c (.p12 d)).numel_eq j) = ix4 d (⟨xp (nbr c 0), xp_lt _⟩ : Fin 2) (j 0) (j 1) := by
    fin_cases d
    · exact tile4 (off6_eq c) _ j rfl hx (Nat.zero_add _).symm (Nat.zero_add _).symm
    · exact tile4 (off7_eq c) _ j rfl hx (Nat.zero_add _).symm (Nat.zero_add _).symm
  refine (congrArg _ e1).trans (Eq.trans ?_ (congrArg _ e2).symm)
  show xaF A B (nbr (nbr c 0) 0) _ = _
  rw [show nbr (nbr c 0) 0 = c from rk_nbr c 0]
  rfl

theorem xfer11 (c : Dev nD) (f : Fin 4) (h : Fin 7) (j : S128x640.Idx) :
    dCont A B (nbr c (knd (.p11 f h))) (.p11 f h) ((r11r h).emb (Shape.reshapeEquiv (dSq c (.p11 f h)).numel_eq j))
      = sCont A B c (.p11 f h) ((r11s (par2 h.val)).emb (Shape.reshapeEquiv (sSq c (.p11 f h)).numel_eq j)) := by
  have e1 := tile3 (n0 := 7) (n1 := 128) (n2 := 640) (inb := inb_p11r h) (r := h.val) (a := 0) (b := 0) rfl (dSq c (.p11 f h)).numel_eq j (p := h) (q := j 0) (t := j 1)
    rfl (Nat.zero_add _).symm (Nat.zero_add _).symm
  have e2 := tile3 (n0 := 2) (n1 := 128) (n2 := 640) (inb := inb_p11s (par2 h.val)) (r := (par2 h.val).val) (a := 0) (b := 0) rfl (sSq c (.p11 f h)).numel_eq j
    (p := par2 h.val) (q := j 0) (t := j 1) rfl (Nat.zero_add _).symm (Nat.zero_add _).symm
  refine (congrArg _ e1).trans (Eq.trans ?_ (congrArg _ e2).symm)
  show V11 A B f h.val (prv f (nbr c (knd (.p11 f h)))) _ = V11 A B f h.val c _
  rw [prv_nbr11]
  rfl

theorem xfer02 (c : Dev nD) (f : Fin 4) (h : Fin 7) (j : S64x384.Idx) :
    dCont A B (nbr c (knd (.p02 f h))) (.p02 f h) ((r02r h).emb (Shape.reshapeEquiv (dSq c (.p02 f h)).numel_eq j))
      = sCont A B c (.p02 f h) ((r02s (par2 h.val)).emb (Shape.reshapeEquiv (sSq c (.p02 f h)).numel_eq j)) := by
  have e1 := tile3 (n0 := 7) (n1 := 64) (n2 := 384) (inb := inb_p02r h) (r := h.val) (a := 0) (b := 0) rfl (dSq c (.p02 f h)).numel_eq j (p := h) (q := j 0) (t := j 1)
    rfl (Nat.zero_add _).symm (Nat.zero_add _).symm
  have e2 := tile3 (n0 := 2) (n1 := 64) (n2 := 384) (inb := inb_p02s (par2 h.val)) (r := (par2 h.val).val) (a := 0) (b := 0) rfl (sSq c (.p02 f h)).numel_eq j
    (p := par2 h.val) (q := j 0) (t := j 1) rfl (Nat.zero_add _).symm (Nat.zero_add _).symm
  refine (congrArg _ e1).trans (Eq.trans ?_ (congrArg _ e2).symm)
  show V02 A B f h.val (prv f (nbr c (knd (.p11 f h)))) _ = V02 A B f h.val c _
  rw [prv_nbr11]
  rfl

/-- What a copy leaves is what it read. -/
theorem xfer (c : Dev nD) : (e : Edge) → (j : (esh e).Idx) →
    dCont A B (nbr c (knd e)) e ((dRect c e).emb (Shape.reshapeEquiv (dSq c e).numel_eq j))
      = sCont A B c e ((sRect c e).emb (Shape.reshapeEquiv (sSq c e).numel_eq j))
  | .p0x1 k, j => xfer01 A B c k j
  | .p11 f h, j => xfer11 A B c f h j
  | .p12 d, j => xfer12 A B c d j
  | .p02 f h, j => xfer02 A B c f h j
  | .p13 _, _ => rfl
  | .p03 _ _, _ => rfl
  | .p14 _ _, _ => rfl
  | .p04 _, _ => rfl

end Cert.Proof

end
-- ==== Proof.Proto.lean ====
/-
  The protocol. Every copy has a send cell on the device that issues it and a receive cell on its target; every device
  has a barrier cell its three neighbours signal. Each cell has one round; `Rd` says what each unit hands over: a signal
  the landing buffers its payer offers, a landing the filled destination, a read-out the source back.
-/
module

public import proofs.«01_k».proof.Proof.Cont
public import Idealize.ShloMosaic.Lib.Pipeline.Kit

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The copies in order -/

/-- The copies a list of instructions starts. -/
def startsOf (is : List Instr) : List Edge := is.filterMap fun i => match i with | .start e => some e | _ => none
/-- All copies, in the order the body starts them. -/
def edges : List Edge := startsOf instrs

set_option maxRecDepth 100000 in
theorem edges_nodup : edges.Nodup := by decide +kernel
set_option maxRecDepth 100000 in
theorem edges_all : ∀ e : Edge, e ∈ edges
  | .p0x1 k => by revert k; decide +kernel
  | .p11 f h => by revert f h; decide +kernel
  | .p12 d => by revert d; decide +kernel
  | .p02 f h => by revert f h; decide +kernel
  | .p13 d => by revert d; decide +kernel
  | .p03 f h => by revert f h; decide +kernel
  | .p14 f h => by revert f h; decide +kernel
  | .p04 i => by revert i; decide +kernel

instance : Fintype Edge := ⟨⟨edges, edges_nodup⟩, edges_all⟩

/-- The level of a copy's landing: a device waits for a landing owing only copies of higher levels. -/
abbrev lvE : Edge → ℕ
  | .p11 _ h => h.val
  | .p0x1 _ => 20
  | .p02 _ h => 30 + h.val
  | .p12 _ => 40
  | .p13 _ => 50
  | .p03 _ h => 60 + 2 * h.val
  | .p14 _ h => 61 + 2 * h.val
  | .p04 _ => 100

/-! ## The cells -/

/-- The cells of a device: its barrier (`none`), and the send and the receive side of every copy. -/
abbrev CK : Type := Option (Bool × Edge)

abbrev csem : CK → SemLoc sig
  | none => .reg barS
  | some (false, e) => .dma (ssem e)
  | some (true, e) => .dma (rsem e)
abbrev kcell (p : Dev nD × CK) : GSem nD τ sig := ((p.1 : Thread nD τ), csem p.2)

/-- The copies' semaphores in the order they are allocated. -/
def semL : List (Bool × Edge) :=
  let f8 (b : Bool) (m : Fin 8 → Edge) := (List.finRange 8).map fun k => (b, m k)
  let f2 (b : Bool) (m : Fin 2 → Edge) := (List.finRange 2).map fun k => (b, m k)
  let f28 (b : Bool) (m : Fin 4 → Fin 7 → Edge) := (List.finRange 4).flatMap fun f => (List.finRange 7).map fun h => (b, m f h)
  f8 false .p0x1 ++ f8 true .p0x1 ++ f28 false .p02 ++ f28 true .p02 ++ f28 false .p03 ++ f28 true .p03 ++ f8 false .p04 ++ f8 true .p04
    ++ f28 false .p11 ++ f28 true .p11 ++ f2 false .p12 ++ f2 true .p12 ++ f2 false .p13 ++ f2 true .p13 ++ f28 false .p14 ++ f28 true .p14

/-- Which cell of its device a semaphore is. -/
def key : SemLoc sig → Option CK
  | .reg s => if s = barS then some none else none
  | .dma q => if q.val < 3 then none else (semL[q.val - 3]?).map some

theorem key_ssem : ∀ e : Edge, key (.dma (ssem e)) = some (some (false, e))
  | .p0x1 k => by revert k; decide +kernel
  | .p11 f h => by revert f h; decide +kernel
  | .p12 d => by revert d; decide +kernel
  | .p02 f h => by revert f h; decide +kernel
  | .p13 d => by revert d; decide +kernel
  | .p03 f h => by revert f h; decide +kernel
  | .p14 f h => by revert f h; decide +kernel
  | .p04 i => by revert i; decide +kernel
theorem key_rsem : ∀ e : Edge, key (.dma (rsem e)) = some (some (true, e))
  | .p0x1 k => by revert k; decide +kernel
  | .p11 f h => by revert f h; decide +kernel
  | .p12 d => by revert d; decide +kernel
  | .p02 f h => by revert f h; decide +kernel
  | .p13 d => by revert d; decide +kernel
  | .p03 f h => by revert f h; decide +kernel
  | .p14 f h => by revert f h; decide +kernel
  | .p04 i => by revert i; decide +kernel

theorem key_csem : ∀ k : CK, key (csem k) = some k
  | none => by decide +kernel
  | some (false, e) => key_ssem e
  | some (true, e) => key_rsem e

theorem csem_inj : Function.Injective csem := fun a b h => by
  have := (key_csem a).symm.trans ((congrArg key h).trans (key_csem b))
  exact Option.some.inj this

theorem kcell_inj : Function.Injective kcell := fun a b h => by
  have h1 : a.1 = b.1 := congrArg (fun g : GSem nD τ sig => g.1.1) h
  have h2 : csem a.2 = csem b.2 := congrArg Prod.snd h
  exact Prod.ext h1 (csem_inj h2)

/-- The units a copy's landing counts. -/
def NE (e : Edge) : ℕ := (dstM 0 e).view.dmaCredit

theorem esh_pos : ∀ e : Edge, 0 < (esh e).numel
  | .p0x1 _ => (show 0 < S128x768.numel by decide)
  | .p11 _ _ => (show 0 < S128x640.numel by decide)
  | .p12 _ => (show 0 < S128x640.numel by decide)
  | .p02 _ _ => (show 0 < S64x384.numel by decide)
  | .p13 _ => (show 0 < S128x640.numel by decide)
  | .p03 _ _ => (show 0 < S64x384.numel by decide)
  | .p14 _ _ => (show 0 < S128x640.numel by decide)
  | .p04 _ => (show 0 < S128x768.numel by decide)
theorem NE_pos (e : Edge) : 0 < NE e := View.dmaCredit_pos _ (esh_pos e)

theorem NE_dst (c : Dev nD) (e : Edge) : (dstM c e).view.dmaCredit = NE e := by
  rcases e with k | ⟨f, h⟩ | d | ⟨f, h⟩ | d | ⟨f, h⟩ | ⟨f, h⟩ | i
  · rfl
  · fin_cases f <;> rfl
  · rfl
  · fin_cases f <;> rfl
  · fin_cases d <;> rfl
  · fin_cases f <;> rfl
  · fin_cases f <;> rfl
  · rfl
theorem NE_src (c : Dev nD) (e : Edge) : (srcM c e).view.dmaCredit = NE e := by
  rcases e with k | ⟨f, h⟩ | d | ⟨f, h⟩ | d | ⟨f, h⟩ | ⟨f, h⟩ | i
  · rfl
  · fin_cases f <;> rfl
  · fin_cases d <;> rfl
  · fin_cases f <;> rfl
  · fin_cases d <;> rfl
  · fin_cases f <;> rfl
  · fin_cases f <;> rfl
  · rfl

/-! ## The resource algebra -/

abbrev UK : Type := URounds (GSem nD τ sig) (Fin 3)
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

/-! ## What the units hand over -/

variable (A : Dev nD → S2048x1024.Idx → Elt F .bf16) (B : Dev nD → S1024x2048.Idx → Elt F .bf16)

/-- The share of its source a copy takes. -/
abbrev qS : Edge → PosShare TreeShare
  | .p0x1 _ => fullShare.left
  | .p03 _ _ => fullShare.left
  | .p04 _ => fullShare.right
  | _ => fullShare

/-- A copy's source, filled; -/
def srcA (c : Dev nD) (e : Edge) : sProp 𝕄 := pcs c (sB e) (sRect c e).set (qS e) (sCont A B c e)
/-- a copy's destination on its target, filled; -/
def dstA (c : Dev nD) (e : Edge) : sProp 𝕄 := pcs c (dB e) (dRect (snd c e) e).set fullShare (dCont A B c e)
/-- the destination on its target, at whatever it holds, as the issuer names it -/
def dstG (c : Dev nD) (e : Edge) : sProp 𝕄 := gpc (F := F) (nbr c (knd e)) (dB e) (dRect c e).set
/-- and as the target does. -/
def inG (c : Dev nD) (e : Edge) : sProp 𝕄 := gpc (F := F) c (dB e) (dRect (snd c e) e).set

omit [FloatOps F] in
theorem inG_nbr (c : Dev nD) (e : Edge) : inG (F := F) (nbr c (knd e)) e = dstG c e := by
  unfold inG dstG; rw [snd_nbr]

/-- The copies that come from a kind of neighbour. -/
abbrev fromK (κ : Fin 3) : Finset Edge := Finset.univ.filter fun e => rk (knd e) = κ
/-- What a device's signal to a neighbour offers: the destinations of that neighbour's copies. -/
def offer (c : Dev nD) (κ : Fin 3) : sProp 𝕄 := bigSep (fromK κ) fun e => inG (F := F) c e
/-- What duty `κ` of a device's barrier hands it. -/
def barPay (c : Dev nD) (κ : Fin 3) : sProp 𝕄 := offer (F := F) (nbr c (rk κ)) κ

instance srcA_storable (c : Dev nD) (e : Edge) : BI.Storable (upEmb : UEmb _ 𝕄) (srcA A B c e) := by unfold srcA; infer_instance
instance dstA_storable (c : Dev nD) (e : Edge) : BI.Storable (upEmb : UEmb _ 𝕄) (dstA A B c e) := by unfold dstA; infer_instance
omit [FloatOps F] in
instance inG_storable (c : Dev nD) (e : Edge) : BI.Storable (upEmb : UEmb _ 𝕄) (inG (F := F) c e) := by unfold inG; infer_instance
omit [FloatOps F] in
instance barPay_storable (c : Dev nD) (κ : Fin 3) : BI.Storable (upEmb : UEmb _ 𝕄) (barPay (F := F) c κ) := by unfold barPay offer; infer_instance

/-- The amount of a cell's duties, -/
def amt : Option CK → ℕ
  | some (some (_, e)) => NE e
  | _ => 1
/-- what they are, -/
def dut : Option CK → Finset (Fin 3)
  | some (some _) => {0}
  | some none => Finset.univ
  | none => ∅
/-- and what they hand over. -/
def pay (c : Dev nD) : Option CK → Fin 3 → sProp 𝕄
  | some (some (true, e)), _ => dstA A B c e
  | some (some (false, e)), _ => srcA A B c e
  | some none, κ => barPay c κ
  | none, _ => iprop(emp)

instance pay_storable (c : Dev nD) : (k : Option CK) → (κ : Fin 3) → BI.Storable (upEmb : UEmb _ 𝕄) (pay A B c k κ)
  | some (some (true, e)), _ => dstA_storable A B c e
  | some (some (false, e)), _ => srcA_storable A B c e
  | some none, κ => barPay_storable c κ
  | none, _ => by unfold pay; infer_instance

/-- The schedule: one round per cell. -/
def Rd : Rounds.Schedule (GSem nD τ sig) (Fin 3) 𝕄 where
  duties g r := if r = 0 ∧ g.1.2 = .tc then dut (key g.2) else ∅
  unitless _ := False
  amount g _ _ := amt (key g.2)
  payload g _ d := pay A B g.1.1 (key g.2) d
  amount_pos g _ _ _ := by
    show 0 < amt (key g.2)
    rcases key g.2 with _ | _ | ⟨_, e⟩
    · exact Nat.one_pos
    · exact Nat.one_pos
    · exact NE_pos e

instance Rd_payload_storable (g : GSem nD τ sig) (r : ℕ) (d : Fin 3) : BI.Storable (upEmb : UEmb _ 𝕄) ((Rd A B).payload g r d) :=
  pay_storable A B g.1.1 (key g.2) d

theorem duties_at (p : Dev nD × CK) : (Rd A B).duties (kcell p) 0 = dut (some p.2) :=
  by
  have h : (Rd A B).duties (kcell p) 0 = dut (key (kcell p).2) := by
    unfold Rd; dsimp only; rw [if_pos ⟨rfl, rfl⟩]
  exact h.trans (congrArg dut (key_csem p.2))
theorem duties_later (g : GSem nD τ sig) : ∀ r, 1 ≤ r → (Rd A B).duties g r = ∅ := fun r hr => if_neg fun h => by omega
theorem amount_at (p : Dev nD × CK) (d : Fin 3) : (Rd A B).amount (kcell p) 0 d = amt (some p.2) := congrArg amt (key_csem p.2)
theorem payload_at (p : Dev nD × CK) (d : Fin 3) : (Rd A B).payload (kcell p) 0 d = pay A B p.1 (some p.2) d :=
  congrArg (fun k => pay A B p.1 k d) (key_csem p.2)
theorem expect_at (c : Dev nD) (b : Bool) (e : Edge) : (Rd A B).expect (kcell (c, some (b, e))) 0 = NE e := by
  unfold Schedule.expect Schedule.amountOf
  rw [duties_at]; show Finset.sum {0} _ = _
  rw [Finset.sum_singleton, amount_at]; rfl
theorem expect_bar (c : Dev nD) : (Rd A B).expect (kcell (c, none)) 0 = 3 := by
  unfold Schedule.expect Schedule.amountOf
  rw [duties_at, Finset.sum_congr rfl fun d _ => amount_at A B (c, none) d]
  show Finset.sum Finset.univ (fun _ => 1) = 3
  rfl
theorem rest_at (c : Dev nD) (b : Bool) (e : Edge) :
    bigSep ((Rd A B).duties (kcell (c, some (b, e))) 0 \ ∅) (fun d => (Rd A B).payload (kcell (c, some (b, e))) 0 d) = pay A B c (some (some (b, e))) 0 := by
  rw [Finset.sdiff_empty, duties_at]; show bigSep {0} _ = _
  rw [bigSep_singleton, payload_at]
theorem rest_bar (c : Dev nD) :
    bigSep ((Rd A B).duties (kcell (c, none)) 0 \ ∅) (fun d => (Rd A B).payload (kcell (c, none)) 0 d) = bigSep Finset.univ fun κ => barPay (F := F) c κ := by
  rw [Finset.sdiff_empty, duties_at]
  exact bigSep_congr fun κ _ => payload_at A B (c, none) κ

/-! ## What a device owes, and the levels -/

/-- A unit a device owes: a signal to a neighbour, or a copy's landing. -/
inductive Ob where
  | sg (κ : Fin 3)
  | ed (e : Edge)
  deriving DecidableEq

abbrev obCell (c : Dev nD) : Ob → GSem nD τ sig
  | .sg κ => kcell (nbr c κ, none)
  | .ed e => kcell (nbr c (knd e), some (true, e))
abbrev obN : Ob → ℕ
  | .sg _ => 1
  | .ed e => NE e
abbrev obLv : Ob → ℕ
  | .sg _ => 1
  | .ed e => 2 + lvE e

/-- What is owed in all. -/
def owe (c : Dev nD) : List Ob → CellTallies nD τ sig Unit
  | [] => 0
  | o :: l => owe c l + tallyAt (obCell c o) () (obN o)

/-- At launch: the three signals, then every copy in order. -/
def obl : List Ob := [.sg 0, .sg 1, .sg 2] ++ edges.map .ed

def lvK : Option CK → ℕ
  | some none => 1
  | some (some (true, e)) => 2 + lvE e
  | _ => 0
def L (g : GSem nD τ sig) : Finset Unit := if g.1.2 = .tc then {()} else ∅
def lv (g : GSem nD τ sig) (_ : Unit) : ℕ := lvK (key g.2)

theorem L_of_ne (g : GSem nD τ sig) (h : g.1.2 ≠ .tc) : L g = ∅ := if_neg h
theorem L_tc (c : Dev nD) (sm : SemLoc sig) : L ((c : Thread nD τ), sm) = {()} := if_pos rfl

theorem lv_ob (c : Dev nD) : ∀ o : Ob, lv (obCell c o) () = obLv o
  | .sg κ => congrArg lvK (key_csem none)
  | .ed e => congrArg lvK (key_csem (some (true, e)))

theorem owe_pos {c : Dev nD} {g : GSem nD τ sig} {u : Unit} : ∀ {l : List Ob}, 0 < owe c l g u → ∃ o ∈ l, g = obCell c o
  | [], h => absurd h (Nat.lt_irrefl 0)
  | o :: l, h => by
    by_cases hg : g = obCell c o
    · exact ⟨o, List.mem_cons_self, hg⟩
    · have : owe c (o :: l) g u = owe c l g u := by
        show (owe c l + tallyAt (obCell c o) () (obN o)) g u = _
        rw [Pi.add_apply, Finsupp.add_apply, tallyAt_apply, if_neg fun h => hg h.1, Nat.add_zero]
      rw [this] at h
      obtain ⟨o', ho', e⟩ := owe_pos h
      exact ⟨o', List.mem_cons_of_mem _ ho', e⟩

omit [FloatOps F] in
/-- A device may wait on a cell below everything it owes. -/
theorem mayWait (c : Dev nD) (sm : SemLoc sig) (l : List Ob) (h : ∀ o ∈ l, lvK (key sm) < obLv o) :
    (levAts L lv : sProp 𝕄) ⊢ MayWait (c : Thread nD τ) sm () (owe c l) :=
  MayOwe.of_cut (L := L) (lev := lv) (lvK (key sm)) (fun p hp => by rw [Finset.mem_singleton.mp hp, L_tc]; exact Finset.mem_singleton_self _)
    (fun g u hg => by obtain ⟨o, _, rfl⟩ := owe_pos hg; cases o <;> exact Finset.mem_singleton_self _)
    (fun p hp => by rw [Finset.mem_singleton.mp hp]; exact le_rfl)
    (fun g u hg => by obtain ⟨o, ho, rfl⟩ := owe_pos hg; exact (h o ho).trans_eq (lv_ob c o).symm)

/-! ## What every device knows -/

/-- Every cell's invariant, every cell's round reached, and the levels. -/
def ctx (K : Dev nD × CK → ℕ) : sProp 𝕄 :=
  iprop((bigSep Finset.univ fun p => cellInv ER (Rd A B) (K p) (kcell p)) ∗ (bigSep Finset.univ fun p => reached ER (kcell p) 0) ∗ (levAts L lv : sProp 𝕄))

instance ctx_persistent (K : Dev nD × CK → ℕ) : BI.Persistent (ctx A B K) := by unfold ctx; infer_instance

theorem inv_at (K : Dev nD × CK → ℕ) (p : Dev nD × CK) :
    (bigSep Finset.univ fun p => (cellInv ER (Rd A B) (K p) (kcell p) : sProp 𝕄)) ⊢ cellInv ER (Rd A B) (K p) (kcell p) :=
  bigSep_elim (Finset.mem_univ p)
omit [FloatOps F] in
theorem reached_at (p : Dev nD × CK) : (bigSep Finset.univ fun p => (reached ER (kcell p) 0 : sProp 𝕄)) ⊢ reached ER (kcell p) 0 :=
  bigSep_elim (Finset.mem_univ p)
theorem ctx_inv (K : Dev nD × CK → ℕ) (p : Dev nD × CK) : ctx A B K ⊢ cellInv ER (Rd A B) (K p) (kcell p) := by
  unfold ctx; iintro ⟨H, -, -⟩; iapply (inv_at A B K p) $$ H
theorem ctx_reached (K : Dev nD × CK → ℕ) (p : Dev nD × CK) : ctx A B K ⊢ reached ER (kcell p) 0 := by
  unfold ctx; iintro ⟨-, H, -⟩; iapply (reached_at p) $$ H
theorem ctx_lev (K : Dev nD × CK → ℕ) : ctx A B K ⊢ (levAts L lv : sProp 𝕄) := by
  unfold ctx; iintro ⟨-, -, H⟩; iexact H

end Cert.Proof

end
-- ==== Proof.Atoms.lean ====
/-
  What a device holds between two instructions, as a list of atoms; and what the instructions that meet another device
  do to it: the signals, the barrier, a copy's start and its two waits.
-/
module

public import proofs.«01_k».proof.Proof.Proto

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The atoms -/

/-- The kinds of things a device holds. -/
inductive Atom where
  | todo (e : Edge) | dg (e : Edge) | src (e : Edge) | fly (e : Edge) | sdone (e : Edge)
  | inR (e : Edge) | dst (e : Edge) | rdone (e : Edge)
  | sigA (κ : Fin 3) | barA | barD | ab
  | P0 (k : Fin 8) | PR (k : Fin 8) | PL (k : Fin 8) | QR (k : Fin 8) | QL (k : Fin 8)
  | g11 (f : Fin 4) (s : Fin 2) | g02 (f : Fin 4) (s : Fin 2)
  | xg (f : Fin 4) | xa (f : Fin 4) | xk (d : Fin 2)
  | og (f : Fin 4) | oR (f : Fin 4) (g : Fin 8) | oL (f : Fin 4) | oh (d : Fin 2)
  deriving DecidableEq

/-- The two row blocks of a pair; -/
def pairS (c : Dev nD) (k : Fin 8) : Finset SO.Idx := Finset.univ.filter fun i => (i 0).val / 2 = prw c (offk k)
theorem mem_pairS {c : Dev nD} {k : Fin 8} {i : SO.Idx} : i ∈ pairS c k ↔ (i 0).val / 2 = prw c (offk k) := by
  unfold pairS; simp only [Finset.mem_filter, Finset.mem_univ, true_and]
/-- what of it stays when its given half has left; -/
abbrev keepS (c : Dev nD) (k : Fin 8) : Finset SO.Idx := pairS c k \ (r01 c k).set
/-- the tile of the ring sums a device finishes; -/
abbrev rxk (c : Dev nD) (d : Fin 2) : Rect S2x2x128x640 :=
  match d with
  | 0 => Rect.unit (s := S2x2x128x640) (k0_off15 c) S1x1x128x640.size (k0_off15_inb c)
  | 1 => Rect.unit (s := S2x2x128x640) (k0_off18 c) S1x1x128x640.size (k0_off18_inb c)
/-- the piece of the result a gather ring holds at step `g`. -/
abbrev oS (c : Dev nD) (f : Fin 4) (g : ℕ) : Finset SO.Idx :=
  bx (2 * prw c (od (fdir f) g) + xp c) (64 * (flane f).val) 64 (384 * (fdir f).val) 384

abbrev sCell (c : Dev nD) (e : Edge) : GSem nD τ sig := kcell (c, some (false, e))
abbrev rCell (c : Dev nD) (e : Edge) : GSem nD τ sig := kcell (c, some (true, e))
abbrev bCell (c : Dev nD) : GSem nD τ sig := kcell (c, none)

variable (A : Dev nD → S2048x1024.Idx → Elt F .bf16) (B : Dev nD → S1024x2048.Idx → Elt F .bf16)

/-- What an atom stands for on a device. -/
def Atom.interp (c : Dev nD) : Atom → sProp 𝕄
  | .todo e => iprop(dutyTok ER (sCell c e) 0 0 ∗ atPos ER (sCell c e) 0 ∅ 0 ∗ dutyTok ER (rCell (nbr c (knd e)) e) 0 0)
  | .dg e => dstG c e
  | .src e => srcA A B c e
  | .fly e => iprop(cred (tallyAt (sCell c e) () (NE e)) ∗ atPos ER (sCell c e) 0 ∅ 0)
  | .sdone e => atPos ER (sCell c e) 1 ∅ 0
  | .inR e => iprop(cred (tallyAt (rCell c e) () (NE e)) ∗ atPos ER (rCell c e) 0 ∅ 0)
  | .dst e => dstA A B c e
  | .rdone e => atPos ER (rCell c e) 1 ∅ 0
  | .sigA κ => iprop(dutyTok ER (bCell (nbr c κ)) 0 κ ∗ offer c κ)
  | .barA => iprop(cred (tallyAt (bCell c) () 3) ∗ atPos ER (bCell c) 0 ∅ 0)
  | .barD => atPos ER (bCell c) 1 ∅ 0
  | .ab => iprop(pcs c aM Finset.univ fullShare (A c) ∗ pcs c bM Finset.univ fullShare (B c))
  | .P0 k => gpc (F := F) c partM (pairS c k)
  | .PR k => pcs c partM (pairS c k) fullShare.right (dotF A B c)
  | .PL k => pcs c partM (keepS c k) fullShare.left (dotF A B c)
  | .QR k => pcs c partM (pairS c k) fullShare.right (accF A B c)
  | .QL k => pcs c partM (keepS c k) fullShare.left (accF A B c)
  | .g11 f s => gpc (F := F) c (p11sM f) (r11s s).set
  | .g02 f s => gpc (F := F) c (p02sM f) (r02s s).set
  | .xg f => gpc (F := F) c xaM (rxa (fdir f) (flane f)).set
  | .xa f => pcs c xaM (rxa (fdir f) (flane f)).set fullShare (xaF A B c)
  | .xk d => pcs c xaM (rxk c d).set fullShare (xaF A B c)
  | .og f => gpc (F := F) c outM (oS c f 0)
  | .oR f g => pcs c outM (oS c f g.val) fullShare.right (outV A B)
  | .oL f => pcs c outM (oS c f 7) fullShare.left (outV A B)
  | .oh d => gpc (F := F) c outM (r13 c d).set

/-- What a list of atoms stands for. -/
def chain (c : Dev nD) : List Atom → sProp 𝕄
  | [] => iprop(emp)
  | a :: l => iprop(a.interp A B c ∗ chain c l)

theorem chain_nil (c : Dev nD) : chain A B c [] = iprop(emp) := rfl
theorem chain_cons (c : Dev nD) (a : Atom) (l : List Atom) : chain A B c (a :: l) = iprop(a.interp A B c ∗ chain A B c l) := rfl

omit [FloatOps F] in
theorem sep_as (P Q R : sProp 𝕄) : iprop(P ∗ Q ∗ R) = iprop((P ∗ Q) ∗ R) :=
  have h1 : iprop(P ∗ Q ∗ R) ⊢ iprop((P ∗ Q) ∗ R) := sep_assoc.2
  have h2 : iprop((P ∗ Q) ∗ R) ⊢ iprop(P ∗ Q ∗ R) := sep_assoc.1
  BI.Entails.antisymm h1 h2
omit [FloatOps F] in
theorem sep_lc (P Q R : sProp 𝕄) : iprop(P ∗ Q ∗ R) = iprop(Q ∗ P ∗ R) :=
  have h1 : iprop(P ∗ Q ∗ R) ⊢ iprop(Q ∗ P ∗ R) := sep_left_comm.1
  have h2 : iprop(Q ∗ P ∗ R) ⊢ iprop(P ∗ Q ∗ R) := sep_left_comm.1
  BI.Entails.antisymm h1 h2
omit [FloatOps F] in
theorem emp_s (P : sProp 𝕄) : P = iprop(emp ∗ P) :=
  have h1 : P ⊢ iprop(emp ∗ P) := BIClass.emp_sep.2
  have h2 : iprop(emp ∗ P) ⊢ P := BIClass.emp_sep.1
  BI.Entails.antisymm h1 h2

theorem chain_append (c : Dev nD) (l₁ l₂ : List Atom) : chain A B c (l₁ ++ l₂) = iprop(chain A B c l₁ ∗ chain A B c l₂) := by
  induction l₁ with
  | nil => exact emp_s _
  | cons a l ih => rw [List.cons_append, chain_cons, chain_cons, ih]; exact sep_as _ _ _

theorem chain_perm (c : Dev nD) {l₁ l₂ : List Atom} (h : l₁.Perm l₂) : chain A B c l₁ = chain A B c l₂ := by
  induction h with
  | nil => rfl
  | cons a _ ih => rw [chain_cons, chain_cons, ih]
  | swap a b l => exact sep_lc _ _ _
  | trans _ _ ih₁ ih₂ => exact ih₁.trans ih₂

/-- A family of atoms over a set without repetition, as a list's. -/
theorem chain_bigSep {T : Type} [DecidableEq T] (c : Dev nD) (l : List T) (hl : l.Nodup) (a : T → Atom) :
    chain A B c (l.map a) = bigSep l.toFinset fun t => (a t).interp A B c := by
  induction l with
  | nil => rfl
  | cons t l ih =>
    obtain ⟨ht, hl⟩ := List.nodup_cons.mp hl
    rw [List.toFinset_cons, bigSep_insert (fun h => ht (List.mem_toFinset.mp h)), List.map_cons, chain_cons, ih hl]; rfl

/-- All copies' atoms. -/
theorem chain_edges (c : Dev nD) (a : Edge → Atom) : chain A B c (edges.map a) = bigSep Finset.univ fun e => (a e).interp A B c := by
  rw [chain_bigSep A B c edges edges_nodup a]
  rw [show edges.toFinset = Finset.univ from Finset.eq_univ_iff_forall.mpr fun e => List.mem_toFinset.mpr (edges_all e)]

/-! ## What an instruction does -/

/-- The weakest precondition of the body's programs. -/
abbrev WP (c : Dev nD) (p : KP F) (Q : PUnit → sProp 𝕄) : sProp 𝕄 :=
  wp frame (wpE (defs₀ (F := F)) Variants.none (c : Thread nD τ) none) Set.univ p Q

/-- An instruction, owing `l` before and `l'` after, takes the atoms `pre` to the atoms `post`. -/
def Tri (Kn : Dev nD × CK → ℕ) (c : Dev nD) (i : Instr) (l l' : List Ob) (pre post : List Atom) : Prop :=
  ∀ (W : Waits sig Unit) (K : KP F) (Q : PUnit → sProp 𝕄),
    iprop(ctx A B Kn ∗ owes (c : Thread nD τ) (owe c l) W ∗ chain A B c pre)
      ⊢ iprop((∀ W' : Waits sig Unit, (owes (c : Thread nD τ) (owe c l') W' ∗ chain A B c post) -∗ WP c K Q) -∗ WP c (i.run c K) Q)

omit [FloatOps F] in
theorem barPay_nbr (c : Dev nD) (κ : Fin 3) : barPay (F := F) (nbr c κ) κ = offer c κ := by
  unfold barPay; rw [rk_nbr]

/-- A signal hands the neighbour's landing buffers over. -/
theorem tri_sig (Kn : Dev nD × CK → ℕ) (c : Dev nD) (κ : Fin 3) (l : List Ob) : Tri A B Kn c (.sig κ) (.sg κ :: l) l [.sigA κ] [] := by
  intro W K Q
  simp only [chain_cons, chain_nil, Atom.interp, Instr.run]
  show iprop(_) ⊢ iprop(_ -∗ WP c (.op (.semSignal (nbr c κ : Thread nD τ) barS _) fun _ => K) Q)
  iintro ⟨#Hc, HO, ⟨Ht, Hoff⟩, -⟩ Hk
  iapply (Rounds.wp_signal Variants.none ER (Rd A B) (c : Thread nD τ) none (dst := (nbr c κ : Thread nD τ)) (κ := Kn (nbr c κ, none))
      (d := κ) (by rw [duties_at A B (nbr c κ, none)]; exact Finset.mem_univ _) ((amount_at A B (nbr c κ, none) κ).trans (show (1 : ℕ) = (1#32).toNat by decide)) () (owe c l) rfl) $$ [HO Ht Hoff]
  · isplitr; · iapply (ctx_inv A B Kn (nbr c κ, none)); iexact Hc
    isplitl [HO]; · iexact HO
    isplitl [Ht]; · iexact Ht
    isplitl [Hoff]
    · rw [payload_at A B (nbr c κ, none), show pay A B (nbr c κ) (some none) κ = barPay (nbr c κ) κ from rfl, barPay_nbr]; iexact Hoff
    · iapply (ctx_reached A B Kn (nbr c κ, none)); iexact Hc
  iintro HO
  iapply Hk
  isplitl [HO]; · iexact HO
  iempintro

omit [FloatOps F] in
/-- What the three neighbours offer is every copy's landing buffer. -/
theorem barPay_all (c : Dev nD) : (bigSep Finset.univ fun κ => barPay (F := F) c κ) ⊢ (bigSep Finset.univ fun e => dstG (F := F) c e : sProp 𝕄) := by
  have h : ∀ κ : Fin 3, barPay (F := F) c κ = bigSep (Finset.univ.filter fun e => knd e = rk κ) fun e => dstG (F := F) c e := fun κ => by
    unfold barPay offer
    have hs : fromK κ = Finset.univ.filter fun e => knd e = rk κ := by
      ext e; simp only [Finset.mem_filter, Finset.mem_univ, true_and]
      generalize knd e = x; revert x κ; decide
    rw [hs]
    exact bigSep_congr fun e he => by
      have : nbr c (rk κ) = nbr c (knd e) := by rw [(Finset.mem_filter.mp he).2]
      rw [this]; exact inG_nbr c e
  have hu : (Finset.univ : Finset Edge) = (Finset.univ : Finset (Fin 3)).biUnion fun κ => Finset.univ.filter fun e => knd e = rk κ := by
    ext e; simp only [Finset.mem_univ, Finset.mem_biUnion, Finset.mem_filter, true_and, true_iff]
    generalize knd e = x; revert x; decide
  conv_rhs => rw [hu]
  exact (Entails.of_eq (bigSep_congr fun κ _ => h κ)).trans (bigSep_biUnion _ _)

/-- A device may wait on a cell of its own below all it owes. -/
theorem may (Kn : Dev nD × CK → ℕ) (c : Dev nD) (k : CK) (l : List Ob) (h : ∀ o ∈ l, lvK (some k) < obLv o) :
    ctx A B Kn ⊢ (MayWait (c : Thread nD τ) (csem k) () (owe c l) : sProp 𝕄) := by
  have h' : ∀ o ∈ l, lvK (key (csem k)) < obLv o := by rw [key_csem]; exact h
  have h2 := mayWait (F := F) c (csem k) l h'
  iintro H
  ihave Hl := (ctx_lev A B Kn) $$ H
  iapply h2 $$ Hl

/-- The barrier brings every copy's landing buffer. -/
theorem tri_bar (Kn : Dev nD × CK → ℕ) (c : Dev nD) (l : List Ob) (h : ∀ o ∈ l, 1 < obLv o) :
    Tri A B Kn c .bar l l [.barA] (.barD :: edges.map .dg) := by
  intro W K Q
  simp only [chain_cons, chain_nil, chain_edges, Atom.interp, Instr.run]
  show iprop(_) ⊢ iprop(_ -∗ WP c (.op (.semWait barS _) fun _ => K) Q)
  iintro ⟨#Hc, HO, ⟨Hcr, Hat⟩, -⟩ Hk
  iapply (Rounds.wp_wait_rest_token Variants.none ER (Rd A B) (c : Thread nD τ) none (κ := Kn (c, none))
      (wpE_semWait_eq Variants.none (c : Thread nD τ) none Set.univ) (Set.mem_univ _) () (O := owe c l) (W := W) (R := 0) (m := 0) (T := ∅)
      (by rw [expect_bar A B c]; decide)) $$ [Hcr HO Hat]
  · isplitr; · iapply (ctx_inv A B Kn (c, none)); iexact Hc
    isplitl [Hcr]; · iexact Hcr
    isplitl [HO]; · iexact HO
    isplitr
    · iapply (may A B Kn c none l h); iexact Hc
    iexact Hat
  iintro ⟨HO, Hat, -, Hpay⟩
  iapply Hk
  isplitl [HO]; · iexact HO
  isplitl [Hat]; · iexact Hat
  iapply (barPay_all (F := F) c)
  iapply (Entails.of_eq (rest_bar A B c)) $$ Hpay

/-- What a landing copy makes of its target's buffer is what the target waits for. -/
theorem landed (c : Dev nD) (e : Edge) (fs : Buf (Elt F) ((srcM c e).view.loc (c : Thread nD τ))) (fd : Buf (Elt F) ((dstM c e).view.loc (nbr c (knd e) : Thread nD τ)))
    (h : (srcM c e).view.read (Elt F) fs = fun j => sCont A B c e ((sRect c e).emb (Shape.reshapeEquiv (sSq c e).numel_eq j))) :
    ((dstM c e).view.loc (nbr c (knd e) : Thread nD τ) ↦[(dstM c e).view.set]{fullShare} ((dstM c e).view.write (Elt F) fd ((srcM c e).view.read (Elt F) fs) Finset.univ) : sProp 𝕄)
      ⊢ dstA A B (nbr c (knd e)) e := by
  have e1 : dstA A B (nbr c (knd e)) e = (owns (nbr c (knd e) : Thread nD τ) (dstM c e) fullShare
      (fun j => dCont A B (nbr c (knd e)) e ((dRect c e).emb (Shape.reshapeEquiv (dSq c e).numel_eq j))) : sProp 𝕄) := by
    unfold dstA
    rw [snd_nbr, dstM_eq]
    exact (owns_tile _ _ _ _ _ _ _ _ fun _ => rfl).symm
  rw [e1]
  unfold owns
  iintro H
  iexists (dstM c e).view.write (Elt F) fd ((srcM c e).view.read (Elt F) fs) Finset.univ
  isplitr
  · ipureintro
    rw [View.read_write_univ, h]
    exact funext fun j => (xfer A B c e j).symm
  · iexact H

/-- A copy's source at its buffer's contents. -/
theorem srcA_owns (c : Dev nD) (e : Edge) :
    srcA A B c e = (owns (c : Thread nD τ) (srcM c e) (qS e) (fun j => sCont A B c e ((sRect c e).emb (Shape.reshapeEquiv (sSq c e).numel_eq j))) : sProp 𝕄) := by
  unfold srcA
  rw [srcM_eq]
  exact (owns_tile _ _ _ _ _ _ _ _ fun _ => rfl).symm

omit [FloatOps F] in
/-- A copy's destination, opened. -/
theorem dstG_open (c : Dev nD) (e : Edge) :
    dstG (F := F) c e ⊢ (iprop(∃ fd : Buf (Elt F) ((dstM c e).view.loc (nbr c (knd e) : Thread nD τ)), ((dstM c e).view.loc (nbr c (knd e) : Thread nD τ)) ↦[(dstM c e).view.set]{fullShare} fd) : sProp 𝕄) := by
  unfold dstG gpc
  iintro ⟨%g, H⟩
  ihave H' := (Entails.of_eq (owns_tile (F := F) (nbr c (knd e)) (dB e) (dRect c e) (dSt c e) (dSq c e) fullShare (fun j => g ((dRect c e).emb (Shape.reshapeEquiv (dSq c e).numel_eq j))) g (fun _ => rfl)).symm) $$ H
  rw [← dstM_eq]
  unfold owns
  icases H' with ⟨%f, -, H⟩
  iexists f; iexact H

/-- A copy starts. -/
theorem tri_start (Kn : Dev nD × CK → ℕ) (c : Dev nD) (e : Edge) (l : List Ob) :
    Tri A B Kn c (.start e) (.ed e :: l) l [.todo e, .dg e, .src e] [.fly e] := by
  intro W K Q
  simp only [chain_cons, chain_nil, Atom.interp, Instr.run]
  unfold startP
  iintro ⟨#Hc, HO, ⟨Ht, Hat, Htr⟩, Hd, Hs, -⟩ Hk
  ihave Hd' := (dstG_open c e) $$ Hd
  icases Hd' with ⟨%fd, Hd⟩
  ihave Hs' := (Entails.of_eq (srcA_owns A B c e)) $$ Hs
  unfold owns
  icases Hs' with ⟨%fs, %hfs, Hs⟩
  iapply (Rounds.wp_send_pointsTo Variants.none ER (Rd A B) (c : Thread nD τ) none (c' := (nbr c (knd e) : Thread nD τ)) (src := srcM c e) (dst := dstM c e) (sS := .dma (ssem e)) (sem := .dma (rsem e))
      (κ₁ := Kn (c, some (false, e))) (κ₂ := Kn (nbr c (knd e), some (true, e)))
      (r₁ := 0) (r₂ := 0) (d₁ := 0) (d₂ := 0) (fs := fs) (fd := fd)
      (by rw [duties_at A B (c, some (false, e))]; exact Finset.mem_singleton_self _) (by rw [duties_at A B (nbr c (knd e), some (true, e))]; exact Finset.mem_singleton_self _)
      () () (NE e) (NE_dst c e) (amount_at A B (c, some (false, e)) 0) (amount_at A B (nbr c (knd e), some (true, e)) 0) (owe c l) rfl (W := W)
      (by
        rw [payload_at A B (c, some (false, e)), show pay A B c (some (some (false, e))) 0 = srcA A B c e from rfl, srcA_owns]; unfold owns
        iintro H; iexists fs; isplitr
        · ipureintro; exact hfs
        · iexact H)
      (by rw [payload_at A B (nbr c (knd e), some (true, e))]; exact landed A B c e fs fd hfs)) $$ [HO Ht Htr Hd Hs]
  · isplitr; · iapply (ctx_inv A B Kn (c, some (false, e))); iexact Hc
    isplitr; · iapply (ctx_inv A B Kn (nbr c (knd e), some (true, e))); iexact Hc
    isplitl [Hs]; · iexact Hs
    isplitl [Hd]; · iexact Hd
    isplitl [HO]; · iexact HO
    isplitl [Ht]; · iexact Ht
    isplitr; · iapply (ctx_reached A B Kn (c, some (false, e))); iexact Hc
    isplitl [Htr]; · iexact Htr
    iapply (ctx_reached A B Kn (nbr c (knd e), some (true, e))); iexact Hc
  iintro ⟨Hcr, HO⟩
  iapply Hk
  isplitl [HO]; · iexact HO
  isplitl [Hcr Hat]
  · isplitl [Hcr]; · iexact Hcr
    iexact Hat
  iempintro

/-- A wait on one of the device's copy cells, whatever program follows. -/
theorem wait_cell (Kn : Dev nD × CK → ℕ) (c : Dev nD) (b : Bool) (e : Edge) (l : List Ob) (h : ∀ o ∈ l, lvK (some (some (b, e))) < obLv o)
    {w : TpuEff nD τ sig (Elt F) Λ₀ .tc PUnit} (hw : ∀ K : PUnit → sProp 𝕄, wpE (defs₀ (F := F)) Variants.none (c : Thread nD τ) none Set.univ w K = waitSpec (c : Thread nD τ) Set.univ (csem (some (b, e))) (NE e) K)
    (W : Waits sig Unit) (K : KP F) (Q : PUnit → sProp 𝕄) :
    iprop(ctx A B Kn ∗ owes (c : Thread nD τ) (owe c l) W ∗ cred (tallyAt (kcell (c, some (b, e))) () (NE e)) ∗ atPos ER (kcell (c, some (b, e))) 0 ∅ 0)
      ⊢ iprop((∀ W' : Waits sig Unit, (owes (c : Thread nD τ) (owe c l) W' ∗ pay A B c (some (some (b, e))) 0 ∗ atPos ER (kcell (c, some (b, e))) 1 ∅ 0) -∗ WP c K Q)
        -∗ WP c (.op w fun _ => K) Q) := by
  iintro ⟨#Hc, HO, Hcr, Hat⟩ Hk
  iapply (Rounds.wp_wait_rest_token Variants.none ER (Rd A B) (c : Thread nD τ) none (κ := Kn (c, some (b, e)))
      hw (Set.mem_univ _) () (O := owe c l) (W := W) (R := 0) (m := 0) (T := ∅)
      (by rw [Nat.zero_add]; exact (expect_at A B c b e).symm)) $$ [Hcr HO Hat]
  · isplitr; · iapply (ctx_inv A B Kn (c, some (b, e))); iexact Hc
    isplitl [Hcr]; · iexact Hcr
    isplitl [HO]; · iexact HO
    isplitr
    · iapply (may A B Kn c (some (b, e)) l h); iexact Hc
    iexact Hat
  iintro ⟨HO, Hat, -, Hpay⟩
  iapply Hk
  isplitl [HO]; · iexact HO
  isplitl [Hpay]
  · iapply (Entails.of_eq (rest_at A B c b e)) $$ Hpay
  · iexact Hat

theorem obLv_pos (o : Ob) : 0 < obLv o := by
  cases o
  · exact Nat.one_pos
  · exact Nat.lt_of_lt_of_le Nat.two_pos (Nat.le_add_right 2 _)

/-- A device's wait for a copy to it to land. -/
theorem tri_waitR (Kn : Dev nD × CK → ℕ) (c : Dev nD) (e : Edge) (l : List Ob) (h : ∀ o ∈ l, 2 + lvE e < obLv o) :
    Tri A B Kn c (.waitR e) l l [.inR e] [.dst e, .rdone e] := by
  intro W K Q
  simp only [chain_cons, chain_nil, Atom.interp, Instr.run]
  unfold waitRP
  iintro ⟨#Hc, HO, ⟨Hcr, Hat⟩, -⟩ Hk
  iapply (wait_cell A B Kn c true e l h (fun K => by rw [wpE_waitDma2_eq, NE_dst c e]) W K Q) $$ [HO Hcr Hat]
  · isplitr; · iexact Hc
    isplitl [HO]; · iexact HO
    isplitl [Hcr]; · iexact Hcr
    iexact Hat
  iintro %W' ⟨HO, Hp, Hat⟩
  iapply Hk
  isplitl [HO]; · iexact HO
  isplitl [Hp]; · iapply (Entails.of_eq (show pay A B c (some (some (true, e))) 0 = dstA A B c e from rfl)) $$ Hp
  isplitl [Hat]; · iexact Hat
  iempintro

/-- A device's wait for a copy of its own to be read out, in front of any program. -/
theorem waitS_any (Kn : Dev nD × CK → ℕ) (c : Dev nD) (e : Edge) (l : List Ob) (W : Waits sig Unit) (K : KP F) (Q : PUnit → sProp 𝕄) :
    iprop(ctx A B Kn ∗ owes (c : Thread nD τ) (owe c l) W ∗ (Atom.fly e).interp A B c)
      ⊢ iprop((∀ W' : Waits sig Unit, (owes (c : Thread nD τ) (owe c l) W' ∗ srcA A B c e ∗ (Atom.sdone e).interp A B c) -∗ WP c K Q) -∗ WP c (waitSP c e K) Q) := by
  simp only [Atom.interp]
  unfold waitSP
  iintro ⟨#Hc, HO, Hcr, Hat⟩ Hk
  iapply (wait_cell A B Kn c false e l (fun o _ => obLv_pos o) (fun K => by rw [wpE_waitDma2_eq, NE_src c e]) W K Q) $$ [HO Hcr Hat]
  · isplitr; · iexact Hc
    isplitl [HO]; · iexact HO
    isplitl [Hcr]; · iexact Hcr
    iexact Hat
  iintro %W' ⟨HO, Hp, Hat⟩
  iapply Hk
  isplitl [HO]; · iexact HO
  isplitl [Hp]; · iapply (Entails.of_eq (show pay A B c (some (some (false, e))) 0 = srcA A B c e from rfl)) $$ Hp
  iexact Hat

theorem tri_waitS (Kn : Dev nD × CK → ℕ) (c : Dev nD) (e : Edge) (l : List Ob) : Tri A B Kn c (.waitS e) l l [.fly e] [.src e, .sdone e] := by
  intro W K Q
  simp only [chain_cons, chain_nil, Instr.run]
  rw [show (Atom.src e).interp A B c = srcA A B c e from rfl]
  iintro ⟨#Hc, HO, Hf, -⟩ Hk
  iapply (waitS_any A B Kn c e l W K Q) $$ [HO Hf]
  · isplitr; · iexact Hc
    isplitl [HO]; · iexact HO
    iexact Hf
  iintro %W' ⟨HO, Hp, Hat⟩
  iapply Hk
  isplitl [HO]; · iexact HO
  isplitl [Hp]; · iexact Hp
  isplitl [Hat]; · iexact Hat
  iempintro

end Cert.Proof

end
-- ==== Proof.Sums.lean ====
/-
  What the instructions that compute do to the atoms of the device that runs them.
-/
module

public import proofs.«01_k».proof.Proof.Atoms

@[expose] public section

set_option maxRecDepth 20000

noncomputable section

namespace Cert.Proof

open Cert.KernelIdeal Cert.KernelIdeal.Gen

open Idealize.ShloMosaic
open Idealize.ShloMosaic.TcCoe
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {s : Shape}

/-! ## Loads and stores at named values -/

theorem ld (c : Dev nD) {m : Memref sig .tc .vmem s .bf16} {r : Rect s} {hn : 0 < r.shape.numel} {S : Finset s.Idx} {q : PosShare TreeShare} {g : s.Idx → Elt F .bf16}
    {k : (r.shape.Idx → Elt F .bf16) → KP F} {Q : PUnit → sProp 𝕄} (v : r.shape.Idx → Elt F .bf16) (hS : r.set ⊆ S) (hv : ∀ j, g (r.emb j) = v j) :
    (pcs c m S q g : sProp 𝕄) ⊢ iprop((pcs c m S q g -∗ WP c (k v) Q) -∗ WP c (loadP m r hn k) Q) := by
  have h := pcs_load (F := F) (U := UU) c (m := m) (r := r) (hn := hn) (S := S) (q := q) (g := g) (k := k) (Q := Q) hS
  rw [show (fun j => g (r.emb j)) = v from funext hv] at h
  exact h

/-- A load whose value is not used. -/
theorem ldg (c : Dev nD) {m : Memref sig .tc .vmem s .bf16} {r : Rect s} {hn : 0 < r.shape.numel} {S : Finset s.Idx}
    {K : KP F} {Q : PUnit → sProp 𝕄} (hS : r.set ⊆ S) :
    (gpc (F := F) c m S : sProp 𝕄) ⊢ iprop((gpc (F := F) c m S -∗ WP c K Q) -∗ WP c (loadP m r hn fun _ => K) Q) := by
  iintro H Hk
  unfold gpc; icases H with ⟨%g, H⟩
  iapply (ld c (fun j => g (r.emb j)) hS fun _ => rfl) $$ H
  iintro H; iapply Hk; iexists g; iexact H

theorem stg (c : Dev nD) {m : Memref sig .tc .vmem s .bf16} {r : Rect s} {w : r.shape.Idx → Elt F .bf16} {hx : (m.access r).Stores Finset.univ}
    {K : KP F} {Q : PUnit → sProp 𝕄} (g' : s.Idx → Elt F .bf16) (hw : ∀ j, g' (r.emb j) = w j) :
    (gpc (F := F) c m r.set : sProp 𝕄) ⊢ iprop((pcs c m r.set fullShare g' -∗ WP c K Q) -∗ WP c (storeP m r w hx K) Q) := by
  iintro H Hk
  unfold gpc; icases H with ⟨%g, H⟩
  iapply (pcs_store c (Finset.Subset.refl _) hw (fun i hi h => absurd hi h)) $$ H
  iexact Hk

/-- A slot is loaded, unused, and stored over. -/
theorem slot (c : Dev nD) {m : Memref sig .tc .vmem s .bf16} {r : Rect s} {hn : 0 < r.shape.numel} {w : r.shape.Idx → Elt F .bf16} {hx : (m.access r).Stores Finset.univ}
    {K : KP F} {Q : PUnit → sProp 𝕄} (g' : s.Idx → Elt F .bf16) (hw : ∀ j, g' (r.emb j) = w j) :
    (gpc (F := F) c m r.set : sProp 𝕄) ⊢ iprop((pcs c m r.set fullShare g' -∗ WP c K Q) -∗ WP c (loadP m r hn fun _ => storeP m r w hx K) Q) := by
  iintro H Hk
  iapply (ldg c (Finset.Subset.refl _)) $$ H
  iintro H
  iapply (stg c g' hw) $$ H
  iexact Hk

variable (A : Dev nD → S2048x1024.Idx → Elt F .bf16) (B : Dev nD → S1024x2048.Idx → Elt F .bf16)

/-- An instruction that only computes. -/
theorem tri_pure (Kn : Dev nD × CK → ℕ) (c : Dev nD) (i : Instr) (l : List Ob) (pre post : List Atom)
    (h : ∀ (K : KP F) (Q : PUnit → sProp 𝕄), chain A B c pre ⊢ iprop((chain A B c post -∗ WP c K Q) -∗ WP c (i.run c K) Q)) : Tri A B Kn c i l l pre post := by
  intro W K Q
  iintro ⟨-, HO, H⟩ Hk
  iapply (h K Q) $$ H
  iintro H; iapply Hk; isplitl [HO]; · iexact HO
  iexact H

/-! ## Rows -/

theorem emb_row {off : Fin 3 → ℕ} {inb} {r : Fin 16} (h : off = ![r.val, 0, 0]) (j : S1x128x2048.Idx) :
    (Rect.unit (s := SO) off S1x128x2048.size inb).emb j = ix3 r (j 1) (j 2) := by
  have h0 : (j 0).val < 1 := (j 0).isLt
  exact emb_unit3 h j (by omega) (by omega) (by omega)

theorem row_off {off : Fin 3 → ℕ} {c : Dev nD} {δ δ' l : ℕ} (hl : l < 2) (h : off = ![2 * prw c δ' + l, 0, 0]) (e : prw c δ' = prw c δ) :
    off = ![(rowF c δ l).val, 0, 0] := by rw [rowF_val c δ l hl, h, e]

theorem row_sub {off : Fin 3 → ℕ} {inb} {c : Dev nD} {k : Fin 8} {δ l : ℕ} (hl : l < 2) (h : off = ![(rowF c δ l).val, 0, 0]) (e : prw c δ = prw c (offk k)) :
    (Rect.unit (s := SO) off S1x128x2048.size inb).set ⊆ pairS c k := by
  intro i hi
  rw [set_bx (n := 128) (m := 2048) h, mem_bx] at hi
  rw [mem_pairS, ← e]
  have := rowF_val c δ l hl
  omega

omit [FloatOps F] in
theorem row_val {off : Fin 3 → ℕ} {inb} {r : Fin 16} (h : off = ![r.val, 0, 0]) (g : SO.Idx → Elt F .bf16) (j : S1x128x2048.Idx) :
    g ((Rect.unit (s := SO) off S1x128x2048.size inb).emb j) = rowV g r j := congrArg g (emb_row h j)

theorem emb_unit2 {n0 n1 : ℕ} {off : Fin 2 → ℕ} {sz : Fin 2 → ℕ} {inb} {r a : ℕ} (h : off = ![r, a])
    (j : (Rect.unit (s := ⟨2, ![n0, n1]⟩) off sz inb).shape.Idx) {p : Fin n0} {q : Fin n1}
    (hp : p.val = r + (j 0).val) (hq : q.val = a + (j 1).val) :
    (Rect.unit (s := ⟨2, ![n0, n1]⟩) off sz inb).emb j = ix2 p q := by
  subst h
  funext x
  apply Fin.ext
  rw [rect_emb_unit_val]
  fin_cases x
  · exact hp.symm
  · exact hq.symm

/-! ## A row block of the product -/

/-- One row block of the product, computed into its place. -/
theorem lane (c : Dev nD) (r : Fin 16) {offA : Fin 2 → ℕ} {offP : Fin 3 → ℕ} {inbA} {inbP} (hA : offA = ![r.val * 128, 0]) (hP : offP = ![r.val, 0, 0])
    {hx : ((partM : Memref sig .tc .vmem _ _).access (Rect.unit (s := S16x128x2048) offP S1x128x2048.size inbP)).Stores Finset.univ}
    {S : Finset SO.Idx} (hS : (Rect.unit (s := SO) offP S1x128x2048.size inbP).set ⊆ S) (g : SO.Idx → Elt F .bf16) (K : KP F) (Q : PUnit → sProp 𝕄) :
    iprop(Atom.interp A B c .ab ∗ pcs c partM S fullShare g)
      ⊢ iprop(((Atom.interp A B c .ab ∗ pcs c partM S fullShare (fun i => if (i 0).val = r.val then dotF A B c i else g i)) -∗ WP c K Q)
        -∗ WP c (loadP aM (Rect.unit (s := S2048x1024) offA S128x1024.size inbA) h_S128x1024 fun a =>
            loadP bM (Rect.unit (s := S1024x2048) ![0, 0] S1024x2048.size inb_S1024x2048_S1024x2048_0_0) h_S1024x2048 fun b =>
            loadP partM (Rect.unit (s := S16x128x2048) offP S1x128x2048.size inbP) h_S1x128x2048 fun _ =>
            storeP partM (Rect.unit (s := S16x128x2048) offP S1x128x2048.size inbP) (dotV a b) hx K) Q) := by
  simp only [Atom.interp]
  iintro ⟨⟨Ha, Hb⟩, Hp⟩ Hk
  iapply (ld c (blkA A c r) (Finset.subset_univ _) (fun j => congrArg (A c) (emb_unit2 hA j rfl (by omega)))) $$ Ha
  iintro Ha
  iapply (ld c (B c) (Finset.subset_univ _) (fun j => congrArg (B c) ((emb_unit2 (p := j 0) (q := j 1) rfl j (Nat.zero_add _).symm (Nat.zero_add _).symm).trans (eq_ix2 j).symm))) $$ Hb
  iintro Hb
  iapply (ld c (fun j => g ((Rect.unit (s := SO) offP S1x128x2048.size inbP).emb j)) hS (fun _ => rfl)) $$ Hp
  iintro Hp
  iapply (pcs_store c (g' := fun i => if (i 0).val = r.val then dotF A B c i else g i) hS
    (fun j => by
      have e := emb_row (inb := inbP) hP j
      rw [e]
      refine (if_pos (show ((ix3 r (j 1) (j 2) : SO.Idx) 0).val = r.val from rfl)).trans ?_
      have h0 : j 0 = (0 : Fin 1) := Subsingleton.elim (α := Fin 1) _ _
      show dotV (blkA A c r) (B c) (ix3 (0 : Fin 1) (j 1) (j 2)) = dotV (blkA A c r) (B c) j
      rw [← h0]; exact congrArg _ (eq_ix3 j).symm)
    (fun i _ hi => if_neg fun h => hi (by
      rw [set_bx (n := 128) (m := 2048) hP, mem_bx]
      have h1 : (i 1).val < 128 := (i 1).isLt
      have h2 : (i 2).val < 2048 := (i 2).isLt
      omega))) $$ Hp
  iintro Hp
  iapply Hk
  isplitl [Ha Hb]
  · isplitl [Ha] <;> iassumption
  · iexact Hp

/-- A pair just computed, as the copy that gives its half away wants it. -/
theorem pair_out (c : Dev nD) (k : Fin 8) :
    (pcs c partM (pairS c k) fullShare (dotF A B c) : sProp 𝕄) ⊢ iprop(Atom.interp A B c (.PR k) ∗ Atom.interp A B c (.PL k) ∗ Atom.interp A B c (.src (.p0x1 k))) := by
  have hsub : (r01 c k).set ⊆ pairS c k := by
    intro i hi; rw [set_r01, mem_bx] at hi; rw [mem_pairS]; omega
  simp only [Atom.interp]
  unfold srcA
  iintro H
  ihave H' := (pcs_halve c partM (pairS c k) fullShare (dotF A B c)) $$ H
  icases H' with ⟨HL, HR⟩
  ihave HL' := (show (pcs c partM (pairS c k) fullShare.left (dotF A B c) : sProp 𝕄) ⊢ iprop(pcs c partM (keepS c k) fullShare.left (dotF A B c) ∗ pcs c partM (r01 c k).set fullShare.left (dotF A B c)) from by
    rw [show pairS c k = keepS c k ∪ (r01 c k).set from (Finset.sdiff_union_of_subset hsub).symm]
    have := pcs_split (F := F) (U := UU) c partM fullShare.left (dotF A B c) (S := keepS c k) (T := (r01 c k).set) Finset.sdiff_disjoint
    exact this) $$ HL
  icases HL' with ⟨H1, H2⟩
  isplitl [HR]; · iexact HR
  isplitl [H1]; · iexact H1
  iexact H2

/-- Both row blocks of a pair. -/
theorem pair_two (c : Dev nD) (k : Fin 8) {oA₀ oA₁ : Fin 2 → ℕ} {oP₀ oP₁ : Fin 3 → ℕ} {iA₀ iA₁ iP₀ iP₁}
    (hA₀ : oA₀ = ![(rowF c (offk k) 0).val * 128, 0]) (hA₁ : oA₁ = ![(rowF c (offk k) 1).val * 128, 0])
    (hP₀ : oP₀ = ![(rowF c (offk k) 0).val, 0, 0]) (hP₁ : oP₁ = ![(rowF c (offk k) 1).val, 0, 0])
    {hx₀ : ((partM : Memref sig .tc .vmem _ _).access (Rect.unit (s := S16x128x2048) oP₀ S1x128x2048.size iP₀)).Stores Finset.univ}
    {hx₁ : ((partM : Memref sig .tc .vmem _ _).access (Rect.unit (s := S16x128x2048) oP₁ S1x128x2048.size iP₁)).Stores Finset.univ}
    (K : KP F) (Q : PUnit → sProp 𝕄) :
    chain A B c [.ab, .P0 k]
      ⊢ iprop((chain A B c [.ab, .PR k, .PL k, .src (.p0x1 k)] -∗ WP c K Q)
        -∗ WP c (loadP aM (Rect.unit (s := S2048x1024) oA₀ S128x1024.size iA₀) h_S128x1024 fun a =>
            loadP bM (Rect.unit (s := S1024x2048) ![0, 0] S1024x2048.size inb_S1024x2048_S1024x2048_0_0) h_S1024x2048 fun b =>
            loadP partM (Rect.unit (s := S16x128x2048) oP₀ S1x128x2048.size iP₀) h_S1x128x2048 fun _ =>
            storeP partM (Rect.unit (s := S16x128x2048) oP₀ S1x128x2048.size iP₀) (dotV a b) hx₀
            (loadP aM (Rect.unit (s := S2048x1024) oA₁ S128x1024.size iA₁) h_S128x1024 fun a =>
            loadP bM (Rect.unit (s := S1024x2048) ![0, 0] S1024x2048.size inb_S1024x2048_S1024x2048_0_0) h_S1024x2048 fun b =>
            loadP partM (Rect.unit (s := S16x128x2048) oP₁ S1x128x2048.size iP₁) h_S1x128x2048 fun _ =>
            storeP partM (Rect.unit (s := S16x128x2048) oP₁ S1x128x2048.size iP₁) (dotV a b) hx₁ K)) Q) := by
  simp only [chain_cons, chain_nil]
  iintro ⟨Hab, HP, -⟩ Hk
  ihave HP' := (Entails.of_eq (show Atom.interp A B c (.P0 k) = iprop(∃ g : SO.Idx → Elt F .bf16, pcs c partM (pairS c k) fullShare g) from rfl)) $$ HP
  icases HP' with ⟨%g, HP⟩
  iapply (lane A B c (rowF c (offk k) 0) hA₀ hP₀ (row_sub (by decide) hP₀ rfl) g _ Q) $$ [Hab HP]
  · isplitl [Hab] <;> iassumption
  iintro ⟨Hab, HP⟩
  iapply (lane A B c (rowF c (offk k) 1) hA₁ hP₁ (row_sub (by decide) hP₁ rfl) _ _ Q) $$ [Hab HP]
  · isplitl [Hab] <;> iassumption
  iintro ⟨Hab, HP⟩
  iapply Hk
  isplitl [Hab]; · iexact Hab
  ihave HP1 := (pcs_congr (F := F) (U := UU) c partM (S := pairS c k) fullShare (g' := dotF A B c) (fun i hi => by
    rw [mem_pairS] at hi
    have h0 := rowF_val c (offk k) 0 (by decide)
    have h1 := rowF_val c (offk k) 1 (by decide)
    by_cases h : (i 0).val = (rowF c (offk k) 1).val
    · exact if_pos h
    · exact (if_neg h).trans (if_pos (by omega)))) $$ HP
  ihave HP2 := (pair_out A B c k) $$ HP1
  icases HP2 with ⟨H1, H2, H3⟩
  isplitl [H1]; · iexact H1
  isplitl [H2]; · iexact H2
  isplitl [H3]; · iexact H3
  iempintro

theorem tri_comp (Kn : Dev nD × CK → ℕ) (c : Dev nD) (k : Fin 8) (l : List Ob) :
    Tri A B Kn c (.comp k) l l [.ab, .P0 k] [.ab, .PR k, .PL k, .src (.p0x1 k)] := by
  refine tri_pure A B Kn c _ l _ _ fun K Q => ?_
  have r0 := rowF_val c (offk k) 0 (by decide)
  have r1 := rowF_val c (offk k) 1 (by decide)
  by_cases hk : k = 0
  · subst hk
    exact pair_two A B c 0 (by rw [r0]; exact off1_eq c 0) (by rw [r1]; exact off1_eq c 1) (by rw [r0]; exact off2_eq c 0) (by rw [r1]; exact off2_eq c 1) K Q
  · have hA0 := off4_eq c k 0 hk; have hA1 := off4_eq c k 1 hk; have hP0 := off5_eq c k 0 hk; have hP1 := off5_eq c k 1 hk
    have := fun hx₀ hx₁ => pair_two A B c k (iA₀ := k0_off4_inb c (i4 k 0)) (iA₁ := k0_off4_inb c (i4 k 1)) (iP₀ := k0_off5_inb c (i5 k 0)) (iP₁ := k0_off5_inb c (i5 k 1))
      (by rw [r0]; exact hA0) (by rw [r1]; exact hA1) (by rw [r0]; exact hP0) (by rw [r1]; exact hP1) (hx₀ := hx₀) (hx₁ := hx₁) K Q
    fin_cases k
    · exact absurd rfl hk
    all_goals exact this _ _

/-! ## Slots -/

/-- A slot of a stack of tiles, by its tile. -/
theorem slot_val {T : Type} {n n1 n2 : ℕ} (V : (⟨3, ![1, n1, n2]⟩ : Shape).Idx → T) (s : Fin n)
    {inb : ∀ a : Fin 3, (![s.val, 0, 0] : Fin 3 → ℕ) a + (![1, n1, n2] : Fin 3 → ℕ) a ≤ (⟨3, ![n, n1, n2]⟩ : Shape).size a} (j : (⟨3, ![1, n1, n2]⟩ : Shape).Idx) :
    (fun i : (⟨3, ![n, n1, n2]⟩ : Shape).Idx => V (ix3 (0 : Fin 1) (i 1) (i 2)))
      ((Rect.unit (s := ⟨3, ![n, n1, n2]⟩) ![s.val, 0, 0] ![1, n1, n2] inb).emb j) = V j := by
  have h0 : j 0 = (0 : Fin 1) := Subsingleton.elim (α := Fin 1) _ _
  have e := emb_unit3 (inb := inb) (r := s.val) (a := 0) (b := 0) rfl j (p := s) (q := j 1) (t := j 2)
    (by rw [h0]; rfl) (Nat.zero_add _).symm (Nat.zero_add _).symm
  rw [e]
  show V (ix3 (0 : Fin 1) (j 1) (j 2)) = V j
  rw [← h0]; exact congrArg V (eq_ix3 j).symm

theorem eq_lane (c : Dev nD) {δ l : ℕ} {r : Fin 16} (hl : l < 2) (h : r.val = 2 * prw c δ + l) : r = rowF c δ l := Fin.ext (h.trans (rowF_val c δ l hl).symm)

/-- A row block read out of a pair, whichever way the pair is named. -/
theorem ldRow (c : Dev nD) (k : Fin 8) {off : Fin 3 → ℕ} {inb} {δ l : ℕ} (hl : l < 2) (h : off = ![2 * prw c δ + l, 0, 0]) (e : prw c (offk k) = prw c δ)
    {q : PosShare TreeShare} {g : SO.Idx → Elt F .bf16} {kk : Vec F S1x128x2048 .bf16 → KP F} {Q : PUnit → sProp 𝕄} :
    (pcs c partM (pairS c k) q g : sProp 𝕄)
      ⊢ iprop((pcs c partM (pairS c k) q g -∗ WP c (kk (rowV g (rowF c δ l))) Q)
        -∗ WP c (loadP partM (Rect.unit (s := S16x128x2048) off S1x128x2048.size inb) h_S1x128x2048 kk) Q) :=
  ld c (m := partM) (r := Rect.unit (s := S16x128x2048) off S1x128x2048.size inb) (g := g) (rowV g (rowF c δ l)) (row_sub (k := k) (δ := δ) hl (row_off hl h rfl) e.symm) (fun j => row_val (inb := inb) (row_off hl h rfl) g j)

/-- Loads of what has landed, and of a pair's rows. -/
theorem ld11 (c : Dev nD) (f : Fin 4) (h : Fin 7) {hn} {k : Vec F S1x128x640 .bf16 → KP F} {Q : PUnit → sProp 𝕄} :
    (Atom.interp A B c (.dst (.p11 f h)) : sProp 𝕄) ⊢ iprop((Atom.interp A B c (.dst (.p11 f h)) -∗ WP c (k (V11 A B f h.val (prv f c))) Q) -∗ WP c (loadP (p11rM f) (r11r h) hn k) Q) :=
  ld c (m := p11rM f) (r := r11r h) (g := fun i => V11 A B f h.val (prv f c) (ix3 (0 : Fin 1) (i 1) (i 2))) (V11 A B f h.val (prv f c)) (Finset.Subset.refl _) (slot_val (V11 A B f h.val (prv f c)) h)
theorem ld02 (c : Dev nD) (f : Fin 4) (h : Fin 7) {hn} {k : Vec F S1x64x384 .bf16 → KP F} {Q : PUnit → sProp 𝕄} :
    (Atom.interp A B c (.dst (.p02 f h)) : sProp 𝕄) ⊢ iprop((Atom.interp A B c (.dst (.p02 f h)) -∗ WP c (k (V02 A B f h.val (prv f c))) Q) -∗ WP c (loadP (p02rM f) (r02r h) hn k) Q) :=
  ld c (m := p02rM f) (r := r02r h) (g := fun i => V02 A B f h.val (prv f c) (ix3 (0 : Fin 1) (i 1) (i 2))) (V02 A B f h.val (prv f c)) (Finset.Subset.refl _) (slot_val (V02 A B f h.val (prv f c)) h)
theorem ld01 (c : Dev nD) (i : Fin 8) {hn} {k : Vec F S1x128x768 .bf16 → KP F} {Q : PUnit → sProp 𝕄} :
    (Atom.interp A B c (.dst (.p0x1 i)) : sProp 𝕄) ⊢ iprop((Atom.interp A B c (.dst (.p0x1 i)) -∗ WP c (k (w01 A B c (rowF c (offk i) (xp c)))) Q) -∗ WP c (loadP p0rM (r0r i) hn k) Q) :=
  ld c (m := p0rM) (r := r0r i) (g := fun j => w01 A B c (rowF c (offk i) (xp c)) (ix3 (0 : Fin 1) (j 1) (j 2))) (w01 A B c (rowF c (offk i) (xp c))) (Finset.Subset.refl _)
    (slot_val (w01 A B c (rowF c (offk i) (xp c))) i)
/-- The partner's sums of a tile, as they land. -/
abbrev w12 (c : Dev nD) (d : Fin 2) : Vec F S1x128x640 .bf16 := fun j => xaF A B (nbr c 0) (ix4 d (⟨xp c, xp_lt c⟩ : Fin 2) (j 1) (j 2))
theorem ld12 (c : Dev nD) (d : Fin 2) {hn} {k : Vec F S1x128x640 .bf16 → KP F} {Q : PUnit → sProp 𝕄} :
    (Atom.interp A B c (.dst (.p12 d)) : sProp 𝕄) ⊢ iprop((Atom.interp A B c (.dst (.p12 d)) -∗ WP c (k (w12 A B c d)) Q) -∗ WP c (loadP p12rM (r11s d) hn k) Q) :=
  ld c (m := p12rM) (r := r11s d) (g := fun i => w12 A B c d (ix3 (0 : Fin 1) (i 1) (i 2))) (w12 A B c d) (Finset.Subset.refl _) (slot_val (w12 A B c d) d)
theorem ldPR (c : Dev nD) (k : Fin 8) {off : Fin 3 → ℕ} {inb} {δ l : ℕ} (hl : l < 2) (h : off = ![2 * prw c δ + l, 0, 0]) (e : prw c (offk k) = prw c δ)
    {kk : Vec F S1x128x2048 .bf16 → KP F} {Q : PUnit → sProp 𝕄} :
    (Atom.interp A B c (.PR k) : sProp 𝕄)
      ⊢ iprop((Atom.interp A B c (.PR k) -∗ WP c (kk (rowV (dotF A B c) (rowF c δ l))) Q)
        -∗ WP c (loadP partM (Rect.unit (s := S16x128x2048) off S1x128x2048.size inb) h_S1x128x2048 kk) Q) := ldRow c k hl h e
theorem ldQR (c : Dev nD) (k : Fin 8) {off : Fin 3 → ℕ} {inb} {δ l : ℕ} (hl : l < 2) (h : off = ![2 * prw c δ + l, 0, 0]) (e : prw c (offk k) = prw c δ)
    {kk : Vec F S1x128x2048 .bf16 → KP F} {Q : PUnit → sProp 𝕄} :
    (Atom.interp A B c (.QR k) : sProp 𝕄)
      ⊢ iprop((Atom.interp A B c (.QR k) -∗ WP c (kk (rowV (accF A B c) (rowF c δ l))) Q)
        -∗ WP c (loadP partM (Rect.unit (s := S16x128x2048) off S1x128x2048.size inb) h_S1x128x2048 kk) Q) := ldRow c k hl h e

theorem tri_seed11 (Kn : Dev nD × CK → ℕ) (c : Dev nD) (f : Fin 4) (l : List Ob) :
    Tri A B Kn c (.seed11 f) l l [.PR 0, .g11 f 0] [.PR 0, .src (.p11 f 0)] := by
  refine tri_pure A B Kn c _ l _ _ fun K Q => ?_
  simp only [chain_cons, chain_nil, Instr.run, seed11P]
  iintro ⟨HP, Hg, -⟩ Hk
  iapply (ldPR A B c 0 (δ := gd (fdir f) 0) (flane f).isLt (by rw [off2_eq, show prw c (offk 0) = prw c (gd (fdir f) 0) from by revert c f; decide +kernel]) (by revert c f; decide +kernel)) $$ HP
  iintro HP
  ihave Hg := (Entails.of_eq (show Atom.interp A B c (.g11 f 0) = gpc (F := F) c (p11sM f) (r11s 0).set from rfl)) $$ Hg
  iapply (slot c (m := p11sM f) (r := r11s 0) (fun i => V11 A B f 0 c (ix3 (0 : Fin 1) (i 1) (i 2))) (slot_val (V11 A B f 0 c) 0)) $$ Hg
  iintro Hg
  ihave Hg := (Entails.of_eq (show pcs c (p11sM f) (r11s 0).set fullShare (fun i => V11 A B f 0 c (ix3 (0 : Fin 1) (i 1) (i 2))) = Atom.interp A B c (.src (.p11 f 0)) from rfl)) $$ Hg
  iapply Hk
  isplitl [HP]; · iexact HP
  isplitl [Hg]; · iexact Hg
  iempintro

theorem prw_kg' (c : Dev nD) (f : Fin 4) (h : Fin 7) : prw c (offk (kg (fdir f) ⟨h.val + 1, by omega⟩)) = prw c (gd (fdir f) (h.val + 1)) :=
  prw_kg c (fdir f) ⟨h.val + 1, by omega⟩

/-- The end of a second-group hop: the sum goes into the next copy's slot. -/
theorem tail11 (c : Dev nD) (f : Fin 4) (h : ℕ) (hh : h + 1 < 7) (K : KP F) (Q : PUnit → sProp 𝕄) :
    (gpc (F := F) c (p11sM f) (r11s (par2 (h + 1))).set : sProp 𝕄)
      ⊢ iprop((Atom.interp A B c (.src (.p11 f ⟨h + 1, hh⟩)) -∗ WP c K Q)
        -∗ WP c (loadP (p11sM f) (r11s (par2 (h + 1))) h_S1x128x640 fun _ =>
            storeP (p11sM f) (r11s (par2 (h + 1))) (acc11V (fdir f) (rowV (dotF A B c) (rowF c (gd (fdir f) (h + 1)) (flane f).val)) (V11 A B f h (prv f c))) (hx11s f (par2 (h + 1))) K) Q) :=
  slot c (m := p11sM f) (r := r11s (par2 (h + 1))) (fun i => V11 A B f (h + 1) c (ix3 (0 : Fin 1) (i 1) (i 2))) (slot_val (V11 A B f (h + 1) c) (par2 (h + 1)))

theorem tri_acc11_0 (Kn : Dev nD × CK → ℕ) (c : Dev nD) (f : Fin 4) (l : List Ob) :
    Tri A B Kn c (.acc11 f 0) l l [.PR (kg (fdir f) 1), .dst (.p11 f 0), .g11 f 1] [.PR (kg (fdir f) 1), .dst (.p11 f 0), .src (.p11 f 1)] := by
  refine tri_pure A B Kn c _ l _ _ fun K Q => ?_
  simp only [chain_cons, chain_nil, Instr.run, acc11P]
  iintro ⟨HP, Hd, Hg, -⟩ Hk
  iapply (ldPR A B c (kg (fdir f) 1) (δ := gd (fdir f) 1) (flane f).isLt (off5h_eq c f 0) (prw_kg' c f 0)) $$ HP
  iintro HP
  iapply (ld11 A B c f 0) $$ Hd
  iintro Hd
  ihave Hg := (Entails.of_eq (show Atom.interp A B c (.g11 f 1) = gpc (F := F) c (p11sM f) (r11s (par2 (0 + 1))).set from rfl)) $$ Hg
  iapply (tail11 A B c f 0 (by decide) K Q) $$ Hg
  iintro Hs
  iapply Hk
  isplitl [HP]; · iexact HP
  isplitl [Hd]; · iexact Hd
  isplitl [Hs]; · iexact Hs
  iempintro

theorem tri_acc11 (Kn : Dev nD × CK → ℕ) (c : Dev nD) (f : Fin 4) (h : ℕ) (hh : h + 2 < 7) (l : List Ob) :
    Tri A B Kn c (.acc11 f ⟨h + 1, by omega⟩) l l [.PR (kg (fdir f) ⟨h + 2, by omega⟩), .dst (.p11 f ⟨h + 1, by omega⟩), .fly (.p11 f ⟨h, by omega⟩)]
      [.PR (kg (fdir f) ⟨h + 2, by omega⟩), .dst (.p11 f ⟨h + 1, by omega⟩), .sdone (.p11 f ⟨h, by omega⟩), .src (.p11 f ⟨h + 1 + 1, hh⟩)] := by
  have b2 : h + 2 < 8 := by omega
  have b1 : h + 1 < 7 := by omega
  have b0 : h < 7 := by omega
  intro W K Q
  simp only [chain_cons, chain_nil, Instr.run, acc11P]
  iintro ⟨#Hc, HO, HP, Hd, Hf, -⟩ Hk
  iapply (ldPR A B c (kg (fdir f) ⟨h + 2, b2⟩) (δ := gd (fdir f) (h + 2)) (flane f).isLt (off5h_eq c f ⟨h + 1, b1⟩) (prw_kg' c f ⟨h + 1, b1⟩)) $$ HP
  iintro HP
  iapply (ld11 A B c f ⟨h + 1, b1⟩) $$ Hd
  iintro Hd
  iapply (waitS_any A B Kn c (.p11 f ⟨h, b0⟩) l W _ Q) $$ [HO Hf]
  · isplitr; · iexact Hc
    isplitl [HO] <;> iassumption
  iintro %W' ⟨HO, Hs, Hn⟩
  ihave Hg := (show (srcA A B c (.p11 f ⟨h, b0⟩) : sProp 𝕄) ⊢ gpc (F := F) c (p11sM f) (r11s (par2 (h + 1 + 1))).set from by
    rw [show par2 (h + 1 + 1) = par2 h from Fin.ext (Nat.add_mod_right h 2)]
    exact gpc_intro c _ _ _) $$ Hs
  iapply (tail11 A B c f (h + 1) hh K Q) $$ Hg
  iintro Hs
  iapply Hk
  isplitl [HO]; · iexact HO
  isplitl [HP]; · iexact HP
  isplitl [Hd]; · iexact Hd
  isplitl [Hn]; · iexact Hn
  isplitl [Hs]; · iexact Hs
  iempintro

theorem fl_of (f : Fin 4) : fl (fdir f).val (flane f).val = f := by revert f; decide

theorem tri_fin11 (Kn : Dev nD × CK → ℕ) (c : Dev nD) (f : Fin 4) (l : List Ob) :
    Tri A B Kn c (.fin11 f) l l [.PR (kg (fdir f) 7), .dst (.p11 f 6), .xg f] [.PR (kg (fdir f) 7), .dst (.p11 f 6), .xa f] := by
  refine tri_pure A B Kn c _ l _ _ fun K Q => ?_
  simp only [chain_cons, chain_nil, Instr.run, fin11P]
  iintro ⟨HP, Hd, Hg, -⟩ Hk
  iapply (ldPR A B c (kg (fdir f) 7) (δ := gd (fdir f) 7) (flane f).isLt (off5h_eq c f 6) (prw_kg' c f 6)) $$ HP
  iintro HP
  iapply (ld11 A B c f 6) $$ Hd
  iintro Hd
  ihave Hg := (Entails.of_eq (show Atom.interp A B c (.xg f) = gpc (F := F) c xaM (rxa (fdir f) (flane f)).set from rfl)) $$ Hg
  iapply (slot c (m := xaM) (r := rxa (fdir f) (flane f)) (xaF A B c) (fun j => by
    have h0 : j 0 = (0 : Fin 1) := Subsingleton.elim (α := Fin 1) _ _
    have h1 : j 1 = (0 : Fin 1) := Subsingleton.elim (α := Fin 1) _ _
    have e := emb_unit4 (inb := inb_xa (fdir f) (flane f)) (r := (fdir f).val) (s := (flane f).val) (a := 0) (b := 0) rfl j (p := fdir f) (u := flane f) (q := j 2) (t := j 3)
      (by rw [h0]; rfl) (by rw [h1]; rfl) (Nat.zero_add _).symm (Nat.zero_add _).symm
    refine (congrArg (xaF A B c) e).trans ?_
    show X11 A B (fl (fdir f).val (flane f).val) c (ix4 (0 : Fin 1) (0 : Fin 1) (j 2) (j 3)) = X11 A B f c j
    rw [fl_of]
    refine congrArg (X11 A B f c) ?_
    refine Eq.trans ?_ (eq_ix4 j).symm
    rw [h0, h1]; rfl)) $$ Hg
  iintro Hg
  ihave Hg := (Entails.of_eq (show pcs c xaM (rxa (fdir f) (flane f)).set fullShare (xaF A B c) = Atom.interp A B c (.xa f) from rfl)) $$ Hg
  iapply Hk
  isplitl [HP]; · iexact HP
  isplitl [Hd]; · iexact Hd
  isplitl [Hg]; · iexact Hg
  iempintro

/-! ## The first column group -/

theorem acc_off (c : Dev nD) (k : Fin 8) (i : SO.Idx) (hi : i ∈ pairS c k) (h : i ∉ (r9 c k).set) : accF A B c i = dotF A B c i := by
  refine dif_neg fun hh => h ?_
  rw [mem_pairS] at hi
  rw [set_r9, mem_bx]
  have h1 : (i 1).val < 128 := (i 1).isLt
  have := xp_lt c
  omega

theorem acc_at (c : Dev nD) (k : Fin 8) (j : S1x128x768.Idx) :
    accF A B c ((r9 c k).emb j) = acc01V (w01 A B c (rowF c (offk k) (xp c))) (rowV (dotF A B c) (rowF c (offk k) (xp c))) j := by
  have h0 : j 0 = (0 : Fin 1) := Subsingleton.elim (α := Fin 1) _ _
  have hr := rowF_val c (offk k) (xp c) (xp_lt c)
  have h2 : (j 2).val < 768 := (j 2).isLt
  have e := emb_unit3 (inb := k0_off9_inb c k) (off9_eq c k) j (p := rowF c (offk k) (xp c)) (q := j 1) (t := ⟨(j 2).val, lt_trans h2 (by decide)⟩)
    (by rw [hr, h0]; rfl) (Nat.zero_add _).symm (Nat.zero_add _).symm
  refine (congrArg (accF A B c) e).trans ?_
  have hm : (rowF c (offk k) (xp c)).val % 2 = xp c := by rw [hr]; have := xp_lt c; omega
  refine (dif_pos ⟨hm, h2⟩).trans ?_
  · show acc01V _ _ (ix3 (0 : Fin 1) (j 1) (j 2)) = _
    rw [← h0]; exact congrArg _ (eq_ix3 j).symm

theorem r9_sub (c : Dev nD) (k : Fin 8) : (r9 c k).set ⊆ keepS c k := by
  intro i hi
  rw [set_r9, mem_bx] at hi
  rw [Finset.mem_sdiff, mem_pairS, set_r01, mem_bx]
  have := xp_lt c
  omega

theorem give_sub (c : Dev nD) (k : Fin 8) : (r01 c k).set ⊆ pairS c k := by
  intro i hi; rw [set_r01, mem_bx] at hi; rw [mem_pairS]; omega

theorem tri_acc01 (Kn : Dev nD × CK → ℕ) (c : Dev nD) (k : Fin 8) (l : List Ob) :
    Tri A B Kn c (.acc01 k) l l [.dst (.p0x1 k), .PR k, .PL k] [.dst (.p0x1 k), .QR k, .QL k] := by
  refine tri_pure A B Kn c _ l _ _ fun K Q => ?_
  simp only [chain_cons, chain_nil, Instr.run, acc01P]
  have hun : keepS c k ∪ (r01 c k).set = pairS c k := Finset.sdiff_union_of_subset (give_sub c k)
  iintro ⟨Hd, HR, HL, -⟩ Hk
  iapply (ld01 A B c k) $$ Hd
  iintro Hd
  iapply (ldPR A B c k (δ := offk k) (xp_lt c) (off8_eq c k) rfl) $$ HR
  iintro HR
  ihave HR := (Entails.of_eq (show Atom.interp A B c (.PR k) = pcs c partM (pairS c k) fullShare.right (dotF A B c) from rfl)) $$ HR
  ihave HL := (Entails.of_eq (show Atom.interp A B c (.PL k) = pcs c partM (keepS c k) fullShare.left (dotF A B c) from rfl)) $$ HL
  ihave HR := (show (pcs c partM (pairS c k) fullShare.right (dotF A B c) : sProp 𝕄)
      ⊢ iprop(pcs c partM (keepS c k) fullShare.right (dotF A B c) ∗ pcs c partM (r01 c k).set fullShare.right (dotF A B c)) from by
    have := pcs_split (F := F) (U := UU) c partM fullShare.right (dotF A B c) (S := keepS c k) (T := (r01 c k).set) Finset.sdiff_disjoint
    rw [hun] at this; exact this) $$ HR
  icases HR with ⟨HR, HG⟩
  ihave HU := (pcs_unhalve c partM (keepS c k) fullShare (dotF A B c)) $$ [HL HR]
  · isplitl [HL] <;> iassumption
  iapply (ld c (fun j => dotF A B c ((r9 c k).emb j)) (r9_sub c k) fun _ => rfl) $$ HU
  iintro HU
  iapply (pcs_store c (g' := accF A B c) (r9_sub c k) (acc_at A B c k) (fun i hi h => acc_off A B c k i (Finset.sdiff_subset hi) h)) $$ HU
  iintro HU
  ihave HU := (pcs_halve c partM (keepS c k) fullShare (accF A B c)) $$ HU
  icases HU with ⟨HL, HR⟩
  ihave HG := (pcs_congr (F := F) (U := UU) c partM (S := (r01 c k).set) fullShare.right (g := dotF A B c) (g' := accF A B c)
    (fun i hi => (acc_off A B c k i (give_sub c k hi) (fun h => (Finset.mem_sdiff.mp (r9_sub c k h)).2 hi)).symm)) $$ HG
  ihave HR := (show iprop(pcs c partM (keepS c k) fullShare.right (accF A B c) ∗ pcs c partM (r01 c k).set fullShare.right (accF A B c))
      ⊢ (pcs c partM (pairS c k) fullShare.right (accF A B c) : sProp 𝕄) from by
    have := pcs_join (F := F) (U := UU) c partM fullShare.right (accF A B c) (S := keepS c k) (T := (r01 c k).set) Finset.sdiff_disjoint
    rw [hun] at this; exact this) $$ [HR HG]
  · isplitl [HR] <;> iassumption
  ihave HR := (Entails.of_eq (show pcs c partM (pairS c k) fullShare.right (accF A B c) = Atom.interp A B c (.QR k) from rfl)) $$ HR
  ihave HL := (Entails.of_eq (show pcs c partM (keepS c k) fullShare.left (accF A B c) = Atom.interp A B c (.QL k) from rfl)) $$ HL
  iapply Hk
  isplitl [Hd]; · iexact Hd
  isplitl [HR]; · iexact HR
  isplitl [HL]; · iexact HL
  iempintro

theorem seed_slot (c : Dev nD) (f : Fin 4) (K : KP F) (Q : PUnit → sProp 𝕄) :
    (Atom.interp A B c (.g02 f 0) : sProp 𝕄)
      ⊢ iprop((Atom.interp A B c (.src (.p02 f 0)) -∗ WP c K Q)
        -∗ WP c (loadP (p02sM f) (r02s 0) h_S1x64x384 fun _ => storeP (p02sM f) (r02s 0) (seed02V f (rowV (accF A B c) (rowF c (offk 0) (xp c)))) (hx02s f 0) K) Q) :=
  slot c (m := p02sM f) (r := r02s 0) (fun i => V02 A B f 0 c (ix3 (0 : Fin 1) (i 1) (i 2))) (fun j => (slot_val (V02 A B f 0 c) 0 j).trans (by
    show seed02V f (rowV (accF A B c) (rowF c (gd (fdir f) 0) (xp c))) j = _
    rw [show rowF c (gd (fdir f) 0) (xp c) = rowF c (offk 0) (xp c) from by revert c f; decide +kernel]))

theorem tri_seed02 (Kn : Dev nD × CK → ℕ) (c : Dev nD) (l : List Ob) :
    Tri A B Kn c .seed02 l l [.QR 0, .g02 0 0, .g02 1 0, .g02 2 0, .g02 3 0] [.QR 0, .src (.p02 0 0), .src (.p02 1 0), .src (.p02 2 0), .src (.p02 3 0)] := by
  refine tri_pure A B Kn c _ l _ _ fun K Q => ?_
  simp only [chain_cons, chain_nil, Instr.run, seed02P]
  iintro ⟨HP, H0, H1, H2, H3, -⟩ Hk
  iapply (ldQR A B c 0 (δ := offk 0) (xp_lt c) (off10_eq c) rfl) $$ HP
  iintro HP
  iapply (seed_slot A B c 0) $$ H0
  iintro H0
  iapply (seed_slot A B c 1) $$ H1
  iintro H1
  iapply (seed_slot A B c 2) $$ H2
  iintro H2
  iapply (seed_slot A B c 3) $$ H3
  iintro H3
  iapply Hk
  isplitl [HP]; · iexact HP
  isplitl [H0]; · iexact H0
  isplitl [H1]; · iexact H1
  isplitl [H2]; · iexact H2
  isplitl [H3]; · iexact H3
  iempintro

/-- The end of a first-group hop. -/
theorem tail02 (c : Dev nD) (f : Fin 4) (h : ℕ) (hh : h + 1 < 7) (K : KP F) (Q : PUnit → sProp 𝕄) :
    (gpc (F := F) c (p02sM f) (r02s (par2 (h + 1))).set : sProp 𝕄)
      ⊢ iprop((Atom.interp A B c (.src (.p02 f ⟨h + 1, hh⟩)) -∗ WP c K Q)
        -∗ WP c (loadP (p02sM f) (r02s (par2 (h + 1))) h_S1x64x384 fun _ =>
            storeP (p02sM f) (r02s (par2 (h + 1))) (acc02V f (rowV (accF A B c) (rowF c (gd (fdir f) (h + 1)) (xp c))) (V02 A B f h (prv f c))) (hx02s f (par2 (h + 1))) K) Q) :=
  slot c (m := p02sM f) (r := r02s (par2 (h + 1))) (fun i => V02 A B f (h + 1) c (ix3 (0 : Fin 1) (i 1) (i 2))) (slot_val (V02 A B f (h + 1) c) (par2 (h + 1)))

theorem tri_acc02_0 (Kn : Dev nD × CK → ℕ) (c : Dev nD) (f : Fin 4) (l : List Ob) :
    Tri A B Kn c (.acc02 f 0) l l [.QR (kg (fdir f) 1), .dst (.p02 f 0), .g02 f 1] [.QR (kg (fdir f) 1), .dst (.p02 f 0), .src (.p02 f 1)] := by
  refine tri_pure A B Kn c _ l _ _ fun K Q => ?_
  simp only [chain_cons, chain_nil, Instr.run, acc02P]
  iintro ⟨HP, Hd, Hg, -⟩ Hk
  iapply (ldQR A B c (kg (fdir f) 1) (δ := gd (fdir f) 1) (xp_lt c) (off8h_eq c f 0) (prw_kg' c f 0)) $$ HP
  iintro HP
  iapply (ld02 A B c f 0) $$ Hd
  iintro Hd
  ihave Hg := (Entails.of_eq (show Atom.interp A B c (.g02 f 1) = gpc (F := F) c (p02sM f) (r02s (par2 (0 + 1))).set from rfl)) $$ Hg
  iapply (tail02 A B c f 0 (by decide) K Q) $$ Hg
  iintro Hs
  iapply Hk
  isplitl [HP]; · iexact HP
  isplitl [Hd]; · iexact Hd
  isplitl [Hs]; · iexact Hs
  iempintro

theorem tri_acc02 (Kn : Dev nD × CK → ℕ) (c : Dev nD) (f : Fin 4) (h : ℕ) (hh : h + 2 < 7) (l : List Ob) :
    Tri A B Kn c (.acc02 f ⟨h + 1, by omega⟩) l l [.QR (kg (fdir f) ⟨h + 2, by omega⟩), .dst (.p02 f ⟨h + 1, by omega⟩), .fly (.p02 f ⟨h, by omega⟩)]
      [.QR (kg (fdir f) ⟨h + 2, by omega⟩), .dst (.p02 f ⟨h + 1, by omega⟩), .sdone (.p02 f ⟨h, by omega⟩), .src (.p02 f ⟨h + 1 + 1, hh⟩)] := by
  have b2 : h + 2 < 8 := by omega
  have b1 : h + 1 < 7 := by omega
  have b0 : h < 7 := by omega
  intro W K Q
  simp only [chain_cons, chain_nil, Instr.run, acc02P]
  iintro ⟨#Hc, HO, HP, Hd, Hf, -⟩ Hk
  iapply (ldQR A B c (kg (fdir f) ⟨h + 2, b2⟩) (δ := gd (fdir f) (h + 2)) (xp_lt c) (off8h_eq c f ⟨h + 1, b1⟩) (prw_kg' c f ⟨h + 1, b1⟩)) $$ HP
  iintro HP
  iapply (ld02 A B c f ⟨h + 1, b1⟩) $$ Hd
  iintro Hd
  iapply (waitS_any A B Kn c (.p02 f ⟨h, b0⟩) l W _ Q) $$ [HO Hf]
  · isplitr; · iexact Hc
    isplitl [HO] <;> iassumption
  iintro %W' ⟨HO, Hs, Hn⟩
  ihave Hg := (show (srcA A B c (.p02 f ⟨h, b0⟩) : sProp 𝕄) ⊢ gpc (F := F) c (p02sM f) (r02s (par2 (h + 1 + 1))).set from by
    rw [show par2 (h + 1 + 1) = par2 h from Fin.ext (Nat.add_mod_right h 2)]
    exact gpc_intro c _ _ _) $$ Hs
  iapply (tail02 A B c f (h + 1) hh K Q) $$ Hg
  iintro Hs
  iapply Hk
  isplitl [HO]; · iexact HO
  isplitl [HP]; · iexact HP
  isplitl [Hd]; · iexact Hd
  isplitl [Hn]; · iexact Hn
  isplitl [Hs]; · iexact Hs
  iempintro

/-! ## Finished tiles -/

/-- The result at a piece its own device finished; -/
theorem out02 (c : Dev nD) (f : Fin 4) (j : S1x64x384.Idx) {i : SO.Idx} (h0 : (i 0).val = 2 * prw c (od (fdir f) 0) + xp c)
    (h1 : (i 1).val = 64 * (flane f).val + (j 1).val) (h2 : (i 2).val = 384 * (fdir f).val + (j 2).val) : outV A B i = o02 A B f c j := by
  have hj0 : j 0 = (0 : Fin 1) := Subsingleton.elim (α := Fin 1) _ _
  have hj1 : (j 1).val < 64 := (j 1).isLt
  have hj2 : (j 2).val < 384 := (j 2).isLt
  have hd := (fdir f).isLt
  have hl := (flane f).isLt
  have ev : (i 2).val / 384 % 2 = (fdir f).val := by omega
  have el : (i 1).val / 64 = (flane f).val := by omega
  unfold outV
  rw [if_pos (show (i 2).val < 768 by omega)]
  dsimp only
  have e1 : fl ((i 2).val / 384 % 2) ((i 1).val / 64) = f := by rw [ev, el, fl_of]
  have e2 : owner (i 0).val ⟨(i 2).val / 384 % 2, Nat.mod_lt _ (by decide)⟩ = c := by
    rw [show (⟨(i 2).val / 384 % 2, Nat.mod_lt _ (by decide)⟩ : Fin 2) = fdir f from Fin.ext ev, h0, owner_at]
  rw [e1, e2]
  refine congrArg (o02 A B f c) ?_
  refine Eq.trans ?_ (eq_ix3 j).symm
  rw [hj0]
  congr 1
  · exact Fin.ext (by show (i 1).val % 64 = _; omega)
  · exact Fin.ext (by show (i 2).val % 384 = _; omega)

/-- and at a tile of the second group. -/
theorem out13 (c : Dev nD) (d : Fin 2) (j : S1x128x640.Idx) {i : SO.Idx} (h0 : (i 0).val = 2 * prw c (od d 0) + xp c)
    (h1 : (i 1).val = (j 1).val) (h2 : (i 2).val = 768 + 640 * d.val + (j 2).val) : outV A B i = o13 A B d c j := by
  have hj0 : j 0 = (0 : Fin 1) := Subsingleton.elim (α := Fin 1) _ _
  have hj2 : (j 2).val < 640 := (j 2).isLt
  have hd := d.isLt
  have ed : (⟨((i 2).val - 768) / 640 % 2, Nat.mod_lt _ (by decide)⟩ : Fin 2) = d := Fin.ext (by show ((i 2).val - 768) / 640 % 2 = _; omega)
  unfold outV
  rw [if_neg (show ¬ (i 2).val < 768 by omega)]
  dsimp only
  rw [ed, h0, owner_at]
  refine congrArg (o13 A B d c) ?_
  refine Eq.trans ?_ (eq_ix3 j).symm
  rw [hj0]
  congr 1
  · exact Fin.ext h1
  · exact Fin.ext (by show ((i 2).val - 768) % 640 = _; omega)

theorem arm02 (c : Dev nD) (f : Fin 4) {off : Fin 3 → ℕ} {inb} (h : off = ![2 * prw c (od (fdir f) 0) + xp c, 64 * (flane f).val, 384 * (fdir f).val])
    {hx : ((outM : Memref sig .tc .vmem _ _).access (Rect.unit (s := S16x128x2048) off S1x64x384.size inb)).Stores Finset.univ} (K : KP F) (Q : PUnit → sProp 𝕄) :
    (gpc (F := F) c outM (oS c f 0) : sProp 𝕄)
      ⊢ iprop((pcs c outM (oS c f 0) fullShare (outV A B) -∗ WP c K Q)
        -∗ WP c (loadP outM (Rect.unit (s := S16x128x2048) off S1x64x384.size inb) h_S1x64x384 fun _ =>
            storeP outM (Rect.unit (s := S16x128x2048) off S1x64x384.size inb) (o02 A B f c) hx K) Q) := by
  have es : oS c f 0 = (Rect.unit (s := SO) off S1x64x384.size inb).set := (set_bx (n := 64) (m := 384) h).symm
  rw [es]
  refine slot c (outV A B) fun j => ?_
  have hj0 : j 0 = (0 : Fin 1) := Subsingleton.elim (α := Fin 1) _ _
  have v := fun a => rect_emb_unit_val (s := SO) off _ inb j a
  subst h
  exact out02 A B c f j ((v 0).trans (by rw [hj0]; rfl)) (v 1) (v 2)

theorem arm13 (c : Dev nD) (d : Fin 2) {off : Fin 3 → ℕ} {inb} (h : off = ![2 * prw c (od d 0) + xp c, 0, 768 + 640 * d.val])
    {hx : ((outM : Memref sig .tc .vmem _ _).access (Rect.unit (s := S16x128x2048) off S1x128x640.size inb)).Stores Finset.univ} (K : KP F) (Q : PUnit → sProp 𝕄) :
    (gpc (F := F) c outM (bx (2 * prw c (od d 0) + xp c) 0 128 (768 + 640 * d.val) 640) : sProp 𝕄)
      ⊢ iprop((pcs c outM (bx (2 * prw c (od d 0) + xp c) 0 128 (768 + 640 * d.val) 640) fullShare (outV A B) -∗ WP c K Q)
        -∗ WP c (loadP outM (Rect.unit (s := S16x128x2048) off S1x128x640.size inb) h_S1x128x640 fun _ =>
            storeP outM (Rect.unit (s := S16x128x2048) off S1x128x640.size inb) (o13 A B d c) hx K) Q) := by
  have es : bx (2 * prw c (od d 0) + xp c) 0 128 (768 + 640 * d.val) 640 = (Rect.unit (s := SO) off S1x128x640.size inb).set := (set_bx (n := 128) (m := 640) h).symm
  rw [es]
  refine slot c (outV A B) fun j => ?_
  have hj0 : j 0 = (0 : Fin 1) := Subsingleton.elim (α := Fin 1) _ _
  have v := fun a => rect_emb_unit_val (s := SO) off _ inb j a
  subst h
  exact out13 A B c d j ((v 0).trans (by rw [hj0]; rfl)) ((v 1).trans (Nat.zero_add _)) (v 2)

/-- A finished first-group piece: half of it stays, half of it goes. -/
theorem out_halve (c : Dev nD) (f : Fin 4) :
    (pcs c outM (oS c f 0) fullShare (outV A B) : sProp 𝕄) ⊢ iprop(Atom.interp A B c (.src (.p03 f 0)) ∗ Atom.interp A B c (.oR f 0)) := by
  simp only [Atom.interp]; unfold srcA
  have e : (sRect c (.p03 f 0)).set = oS c f 0 := set_r03 c f 0
  rw [e]
  exact pcs_halve c outM (oS c f 0) fullShare (outV A B)

theorem tri_fin02 (Kn : Dev nD × CK → ℕ) (c : Dev nD) (f : Fin 4) (l : List Ob) :
    Tri A B Kn c (.fin02 f) l l [.QR (kg (fdir f) 7), .dst (.p02 f 6), .og f] [.QR (kg (fdir f) 7), .dst (.p02 f 6), .src (.p03 f 0), .oR f 0] := by
  refine tri_pure A B Kn c _ l _ _ fun K Q => ?_
  simp only [chain_cons, chain_nil, Instr.run, fin02P]
  iintro ⟨HP, Hd, Hg, -⟩ Hk
  iapply (ldQR A B c (kg (fdir f) 7) (δ := gd (fdir f) 7) (xp_lt c) (off8h_eq c f 6) (prw_kg' c f 6)) $$ HP
  iintro HP
  iapply (ld02 A B c f 6) $$ Hd
  iintro Hd
  ihave Hg := (Entails.of_eq (show Atom.interp A B c (.og f) = gpc (F := F) c outM (oS c f 0) from rfl)) $$ Hg
  iapply (show (gpc (F := F) c outM (oS c f 0) : sProp 𝕄) ⊢ iprop((pcs c outM (oS c f 0) fullShare (outV A B) -∗ WP c K Q) -∗ WP c _ Q) from by
    fin_cases f
    · exact arm02 A B c 0 (off11_eq c) K Q
    · exact arm02 A B c 1 (off12_eq c) K Q
    · exact arm02 A B c 2 (off13_eq c) K Q
    · exact arm02 A B c 3 (off14_eq c) K Q) $$ Hg
  iintro Hg
  ihave Hg := (out_halve A B c f) $$ Hg
  icases Hg with ⟨H1, H2⟩
  iapply Hk
  isplitl [HP]; · iexact HP
  isplitl [Hd]; · iexact Hd
  isplitl [H1]; · iexact H1
  isplitl [H2]; · iexact H2
  iempintro

theorem armX (c : Dev nD) (d : Fin 2) {offX : Fin 4 → ℕ} {offO : Fin 3 → ℕ} {inbX} {inbO} (hX : offX = ![d.val, xp c, 0, 0])
    (hs : (rxk c d).set = (Rect.unit (s := S2x2x128x640) offX S1x1x128x640.size inbX).set) (hO : offO = ![2 * prw c (od d 0) + xp c, 0, 768 + 640 * d.val])
    {hx : ((outM : Memref sig .tc .vmem _ _).access (Rect.unit (s := S16x128x2048) offO S1x128x640.size inbO)).Stores Finset.univ} (K : KP F) (Q : PUnit → sProp 𝕄) :
    iprop(Atom.interp A B c (.xk d) ∗ Atom.interp A B c (.oh d))
      ⊢ iprop(((Atom.interp A B c (.xk d) ∗ Atom.interp A B c (.src (.p13 d))) -∗ WP c K Q)
        -∗ WP c (loadP xaM (Rect.unit (s := S2x2x128x640) offX S1x1x128x640.size inbX) h_S1x1x128x640 fun y =>
          loadP outM (Rect.unit (s := S16x128x2048) offO S1x128x640.size inbO) h_S1x128x640 fun _ =>
          storeP outM (Rect.unit (s := S16x128x2048) offO S1x128x640.size inbO) (fin13V (w12 A B c d) y) hx K) Q) := by
  have ho : (r13 c d).set = bx (2 * prw c (od d 0) + xp c) 0 128 (768 + 640 * d.val) 640 := set_r13 c d
  have hsrc : Atom.interp A B c (.src (.p13 d)) = pcs c outM (bx (2 * prw c (od d 0) + xp c) 0 128 (768 + 640 * d.val) 640) fullShare (outV A B) := by
    rw [← ho]; rfl
  have hoh : Atom.interp A B c (.oh d) = gpc (F := F) c outM (bx (2 * prw c (od d 0) + xp c) 0 128 (768 + 640 * d.val) 640) := by
    rw [← ho]; rfl
  have hxk : Atom.interp A B c (.xk d) = pcs c xaM (Rect.unit (s := S2x2x128x640) offX S1x1x128x640.size inbX).set fullShare (xaF A B c) := by
    rw [← hs]; rfl
  rw [hsrc, hoh, hxk]
  iintro ⟨Hx, Hg⟩ Hk
  iapply (ld c (m := xaM) (r := Rect.unit (s := S2x2x128x640) offX S1x1x128x640.size inbX) (q := fullShare) (g := xaF A B c)
    (fun j => xaF A B c (ix4 d (⟨xp c, xp_lt c⟩ : Fin 2) (j 2) (j 3))) (Finset.Subset.refl _) (fun j => by
      have h0 : j 0 = (0 : Fin 1) := Subsingleton.elim (α := Fin 1) _ _
      have h1 : j 1 = (0 : Fin 1) := Subsingleton.elim (α := Fin 1) _ _
      exact congrArg (xaF A B c) (emb_unit4 hX j (by rw [h0]; rfl) (by rw [h1]; rfl) (Nat.zero_add _).symm (Nat.zero_add _).symm))) $$ Hx
  iintro Hx
  iapply (arm13 A B c d hO K Q) $$ Hg
  iintro Hg
  iapply Hk; isplitl [Hx] <;> iassumption

theorem tri_fin13 (Kn : Dev nD × CK → ℕ) (c : Dev nD) (d : Fin 2) (l : List Ob) :
    Tri A B Kn c (.fin13 d) l l [.dst (.p12 d), .xk d, .oh d] [.dst (.p12 d), .xk d, .src (.p13 d)] := by
  refine tri_pure A B Kn c _ l _ _ fun K Q => ?_
  simp only [chain_cons, chain_nil, Instr.run, fin13P]
  iintro ⟨Hd, Hx, Hg, -⟩ Hk
  iapply (ld12 A B c d) $$ Hd
  iintro Hd
  iapply (show iprop(Atom.interp A B c (.xk d) ∗ Atom.interp A B c (.oh d))
      ⊢ iprop(((Atom.interp A B c (.xk d) ∗ Atom.interp A B c (.src (.p13 d))) -∗ WP c K Q) -∗ WP c _ Q) from by
    fin_cases d
    · exact armX A B c 0 (off15_eq c) rfl (off16_eq c) K Q
    · exact armX A B c 1 (off18_eq c) rfl (off19_eq c) K Q) $$ [Hx Hg]
  · isplitl [Hx] <;> iassumption
  iintro ⟨Hx, Hs⟩
  iapply Hk
  isplitl [Hd]; · iexact Hd
  isplitl [Hx]; · iexact Hx
  isplitl [Hs]; · iexact Hs
  iempintro

end Cert.Proof

end
-- ==== Proof.Ghost.lean ====
/-
  Regrouping the pieces a device holds, with no instruction run.
-/
module

public import proofs.«01_k».proof.Proof.Sums

@[expose] public section

set_option maxRecDepth 20000

noncomputable section

namespace Cert.Proof

open Cert.KernelIdeal Cert.KernelIdeal.Gen

open Idealize.ShloMosaic
open Idealize.ShloMosaic.TcCoe
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The regroupings: of a direction's ring sums into the given and the kept tile; of a first-group piece as it arrives
    into the half that travels on and the half that stays; of four such halves into the last exchange's source; of a
    finished tile and the partner's into the gather rings' first sources; of a tile that arrives into the next source. -/
inductive Ghost where
  | xsplit (d : Fin 2) | got03 (f : Fin 4) (h : Fin 7) | mk04 (i : Fin 8) | mk14 (d : Fin 2) | got14 (f : Fin 4) (h : Fin 6)

/-- The gather step whose piece belongs to the `i`th copy of the last exchange. -/
abbrev g04 (d : Fin 2) (i : Fin 8) : Fin 8 := match d with | 0 => ⟨(9 - d4 i) % 8, Nat.mod_lt _ (by decide)⟩ | 1 => ⟨(d4 i + 1) % 8, Nat.mod_lt _ (by decide)⟩

def Ghost.pre : Ghost → List Atom
  | .xsplit d => [.xa (fl d.val 0), .xa (fl d.val 1)]
  | .got03 f h => [.dst (.p03 f h)]
  | .mk04 i => [.oR 0 (g04 0 i), .oR 1 (g04 0 i), .oR 2 (g04 1 i), .oR 3 (g04 1 i)]
  | .mk14 d => [.src (.p13 d), .dst (.p13 d)]
  | .got14 f h => [.dst (.p14 f ⟨h.val, by omega⟩)]
def Ghost.post : Ghost → List Atom
  | .xsplit d => [.src (.p12 d), .xk d]
  | .got03 f h => if hh : h.val < 6 then [.src (.p03 f ⟨h.val + 1, by omega⟩), .oR f ⟨h.val + 1, by omega⟩] else [.oL f, .oR f 7]
  | .mk04 i => [.src (.p04 i)]
  | .mk14 d => [.src (.p14 (fl d.val 0) 0), .src (.p14 (fl d.val 1) 0)]
  | .got14 f h => [.src (.p14 f ⟨h.val + 1, by omega⟩)]

variable (A : Dev nD → S2048x1024.Idx → Elt F .bf16) (B : Dev nD → S1024x2048.Idx → Elt F .bf16)

/-- Two pieces that may be named the other way round. -/
theorem two_swap {P Q R S : sProp 𝕄} (h : (P = R ∧ Q = S) ∨ (P = S ∧ Q = R)) : iprop(P ∗ Q ∗ emp) ⊢ iprop(R ∗ S ∗ emp) := by
  rcases h with ⟨rfl, rfl⟩ | ⟨rfl, rfl⟩
  · exact .rfl
  · iintro ⟨H1, H2, -⟩
    isplitl [H2]; · iexact H2
    isplitl [H1]; · iexact H1
    iempintro

theorem set_rxa (d l : Fin 2) {i : S2x2x128x640.Idx} : i ∈ (rxa d l).set ↔ (i 0).val = d.val ∧ (i 1).val = l.val := by
  have h2 : (i 2).val < 128 := (i 2).isLt
  have h3 : (i 3).val < 640 := (i 3).isLt
  rw [mem_unit4 (n := 128) (m := 640) (l := 1) (k := 1) (r := d.val) (s := l.val) (a := 0) (b := 0) rfl]
  omega

theorem set_x {d : Fin 2} {l : ℕ} {lf : Fin 2} (hl : lf.val = l) {off : Fin 4 → ℕ} {inb} (h : off = ![d.val, l, 0, 0]) :
    (Rect.unit (s := S2x2x128x640) off S1x1x128x640.size inb).set = (rxa d lf).set := by
  ext i
  have h2 : (i 2).val < 128 := (i 2).isLt
  have h3 : (i 3).val < 640 := (i 3).isLt
  rw [set_rxa]
  rw [mem_unit4 (n0 := 2) (n1 := 2) (n2 := 128) (n3 := 640) (n := 128) (m := 640) (l := 1) (k := 1) h]
  omega

theorem set_r12 (c : Dev nD) (d : Fin 2) (lf : Fin 2) (hl : lf.val = 1 - xp c) : (r12 c d).set = (rxa d lf).set := by
  fin_cases d
  · exact set_x (d := 0) hl (off6_eq c)
  · exact set_x (d := 1) hl (off7_eq c)
theorem set_rxk (c : Dev nD) (d : Fin 2) (lf : Fin 2) (hl : lf.val = xp c) : (rxk c d).set = (rxa d lf).set := by
  fin_cases d
  · exact set_x (d := 0) hl (off15_eq c)
  · exact set_x (d := 1) hl (off18_eq c)

theorem fdir_fl (d l : Fin 2) : fdir (fl d.val l.val) = d := by revert d l; decide
theorem flane_fl (d l : Fin 2) : flane (fl d.val l.val) = l := by revert d l; decide

theorem g_xsplit (c : Dev nD) (d : Fin 2) : chain A B c (Ghost.xsplit d).pre ⊢ chain A B c (Ghost.xsplit d).post := by
  refine two_swap ?_
  have ha : ∀ l : Fin 2, Atom.interp A B c (.xa (fl d.val l.val)) = pcs c xaM (rxa d l).set fullShare (xaF A B c) := fun l => by
    show pcs c xaM (rxa (fdir (fl d.val l.val)) (flane (fl d.val l.val))).set fullShare (xaF A B c) = _
    rw [fdir_fl, flane_fl]
  have hs : ∀ lf : Fin 2, lf.val = 1 - xp c → pcs c xaM (rxa d lf).set fullShare (xaF A B c) = Atom.interp A B c (.src (.p12 d)) := fun lf hl => by
    rw [← set_r12 c d lf hl]; rfl
  have hk : ∀ lf : Fin 2, lf.val = xp c → pcs c xaM (rxa d lf).set fullShare (xaF A B c) = Atom.interp A B c (.xk d) := fun lf hl => by
    rw [← set_rxk c d lf hl]; rfl
  have hx := xp_lt c
  rcases (show xp c = 1 ∨ xp c = 0 by omega) with h | h
  · exact Or.inl ⟨(ha 0).trans (hs 0 (by rw [h]; rfl)), (ha 1).trans (hk 1 (by rw [h]; rfl))⟩
  · exact Or.inr ⟨(ha 0).trans (hk 0 (by rw [h]; rfl)), (ha 1).trans (hs 1 (by rw [h]; rfl))⟩

/-- What lands of a first-group gather hop, as the piece of the next step. -/
theorem dst03 (c : Dev nD) (f : Fin 4) (h : Fin 7) : Atom.interp A B c (.dst (.p03 f h)) = pcs c outM (oS c f (h.val + 1)) fullShare (outV A B) := by
  show pcs c outM (r03 (snd c (.p03 f h)) f h).set fullShare (outV A B) = _
  rw [set_r03, show snd c (.p03 f h) = prv f c from by revert c f h; decide +kernel, prw_prv_o f c ⟨h.val, by omega⟩, xp_prv]

theorem src03 (c : Dev nD) (f : Fin 4) (h : Fin 7) : Atom.interp A B c (.src (.p03 f h)) = pcs c outM (oS c f h.val) fullShare.left (outV A B) := by
  show pcs c outM (r03 c f h).set fullShare.left (outV A B) = _
  rw [set_r03]

theorem g_got03 (c : Dev nD) (f : Fin 4) (h : Fin 7) : chain A B c (Ghost.got03 f h).pre ⊢ chain A B c (Ghost.got03 f h).post := by
  simp only [Ghost.pre, Ghost.post, chain_cons, chain_nil]
  rw [dst03]
  have hv : iprop(pcs c outM (oS c f (h.val + 1)) fullShare.left (outV A B) ∗ pcs c outM (oS c f (h.val + 1)) fullShare.right (outV A B) ∗ emp)
      = chain A B c (Ghost.got03 f h).post := by
    simp only [Ghost.post]
    by_cases hh : h.val < 6
    · rw [dif_pos hh]
      simp only [chain_cons, chain_nil]
      rw [src03]
      rfl
    · rw [dif_neg hh]
      have : h.val + 1 = 7 := by have := h.isLt; omega
      rw [this]; rfl
  refine (show _ ⊢ iprop(pcs c outM (oS c f (h.val + 1)) fullShare.left (outV A B) ∗ pcs c outM (oS c f (h.val + 1)) fullShare.right (outV A B) ∗ emp) from ?_).trans (Entails.of_eq hv)
  iintro ⟨H, -⟩
  ihave H := (pcs_halve c outM (oS c f (h.val + 1)) fullShare (outV A B)) $$ H
  icases H with ⟨H1, H2⟩
  isplitl [H1]; · iexact H1
  isplitl [H2]; · iexact H2
  iempintro

theorem od_g04 : ∀ (c : Dev nD) (d : Fin 2) (i : Fin 8), prw c (od d (g04 d i).val) = prw c (d4 i) := by decide +kernel

theorem g_mk04 (c : Dev nD) (i : Fin 8) : chain A B c (Ghost.mk04 i).pre ⊢ chain A B c (Ghost.mk04 i).post := by
  simp only [Ghost.pre, Ghost.post, chain_cons, chain_nil]
  have ho : ∀ f : Fin 4, Atom.interp A B c (.oR f (g04 (fdir f) i)) = pcs c outM (bx (2 * prw c (d4 i) + xp c) (64 * (flane f).val) 64 (384 * (fdir f).val) 384) fullShare.right (outV A B) := fun f => by
    show pcs c outM (bx (2 * prw c (od (fdir f) (g04 (fdir f) i).val) + xp c) _ 64 _ 384) fullShare.right (outV A B) = _
    rw [od_g04]
  have hs : Atom.interp A B c (.src (.p04 i)) = pcs c outM (bx (2 * prw c (d4 i) + xp c) 0 128 0 768) fullShare.right (outV A B) := by
    rw [← set_r04]; rfl
  rw [show Atom.oR 0 (g04 0 i) = .oR 0 (g04 (fdir 0) i) from rfl, show Atom.oR 1 (g04 0 i) = .oR 1 (g04 (fdir 1) i) from rfl,
    show Atom.oR 2 (g04 1 i) = .oR 2 (g04 (fdir 2) i) from rfl, show Atom.oR 3 (g04 1 i) = .oR 3 (g04 (fdir 3) i) from rfl, ho, ho, ho, ho, hs]
  generalize 2 * prw c (d4 i) + xp c = r
  have hd : ∀ f g : Fin 4, f ≠ g → Disjoint (bx r (64 * (flane f).val) 64 (384 * (fdir f).val) 384) (bx r (64 * (flane g).val) 64 (384 * (fdir g).val) 384) := fun f g hfg => by
    rw [Finset.disjoint_left]
    intro i hi hj
    rw [mem_bx] at hi hj
    refine hfg ?_
    have : (flane f).val = (flane g).val := by omega
    have : (fdir f).val = (fdir g).val := by omega
    rw [← fl_of f, ← fl_of g]; congr 1
  have e : ((bx r (64 * (flane 0).val) 64 (384 * (fdir 0).val) 384 ∪ bx r (64 * (flane 1).val) 64 (384 * (fdir 1).val) 384)
      ∪ (bx r (64 * (flane 2).val) 64 (384 * (fdir 2).val) 384 ∪ bx r (64 * (flane 3).val) 64 (384 * (fdir 3).val) 384)) = bx r 0 128 0 768 := by
    ext i
    simp only [Finset.mem_union, mem_bx]
    rw [show (flane 0).val = 0 from rfl, show (flane 1).val = 1 from rfl]
    omega
  rw [← e]
  iintro ⟨H0, H1, H2, H3, -⟩
  isplitl; swap; · iempintro
  ihave Ha := (pcs_join (F := F) (U := UU) c outM fullShare.right (outV A B) (hd 0 1 (by decide))) $$ [H0 H1]
  · isplitl [H0] <;> iassumption
  ihave Hb := (pcs_join (F := F) (U := UU) c outM fullShare.right (outV A B) (hd 2 3 (by decide))) $$ [H2 H3]
  · isplitl [H2] <;> iassumption
  iapply (pcs_join (F := F) (U := UU) c outM fullShare.right (outV A B) (by
    rw [Finset.disjoint_union_left, Finset.disjoint_union_right, Finset.disjoint_union_right]
    exact ⟨⟨hd 0 2 (by decide), hd 0 3 (by decide)⟩, hd 1 2 (by decide), hd 1 3 (by decide)⟩))
  isplitl [Ha] <;> iassumption

theorem prw_nbr0 : ∀ (c : Dev nD) (d : Fin 2), prw (nbr c 0) (od d 0) = prw c (od d 0) := by decide +kernel

theorem g_mk14 (c : Dev nD) (d : Fin 2) : chain A B c (Ghost.mk14 d).pre ⊢ chain A B c (Ghost.mk14 d).post := by
  refine two_swap ?_
  have hsrc : ∀ l : Fin 2, Atom.interp A B c (.src (.p14 (fl d.val l.val) 0)) = pcs c outM (bx (2 * prw c (od d 0) + l.val) 0 128 (768 + 640 * d.val) 640) fullShare (outV A B) := fun l => by
    show pcs c outM (r14 c (fl d.val l.val) 0).set fullShare (outV A B) = _
    rw [set_r14, fdir_fl, flane_fl]
    rfl
  have h1 : Atom.interp A B c (.src (.p13 d)) = pcs c outM (bx (2 * prw c (od d 0) + xp c) 0 128 (768 + 640 * d.val) 640) fullShare (outV A B) := by
    rw [← set_r13]; rfl
  have h2 : Atom.interp A B c (.dst (.p13 d)) = pcs c outM (bx (2 * prw c (od d 0) + (1 - xp c)) 0 128 (768 + 640 * d.val) 640) fullShare (outV A B) := by
    show pcs c outM (r13 (nbr c 0) d).set fullShare (outV A B) = _
    rw [set_r13, xp_nbr0, prw_nbr0]
  have hx := xp_lt c
  rcases (show xp c = 0 ∨ xp c = 1 by omega) with h | h
  · rw [h] at h1 h2
    exact Or.inl ⟨h1.trans (hsrc 0).symm, h2.trans (hsrc 1).symm⟩
  · rw [h] at h1 h2
    exact Or.inr ⟨h1.trans (hsrc 1).symm, h2.trans (hsrc 0).symm⟩

theorem g_got14 (c : Dev nD) (f : Fin 4) (h : Fin 6) : chain A B c (Ghost.got14 f h).pre ⊢ chain A B c (Ghost.got14 f h).post := by
  simp only [Ghost.pre, Ghost.post, chain_cons, chain_nil]
  refine Entails.of_eq (congrArg (fun P => iprop(P ∗ emp)) ?_)
  show pcs c outM (r14 (snd c (.p14 f ⟨h.val, _⟩)) f ⟨h.val, _⟩).set fullShare (outV A B) = pcs c outM (r14 c f ⟨h.val + 1, _⟩).set fullShare (outV A B)
  rw [set_r14, set_r14, show snd c (.p14 f ⟨h.val, by omega⟩) = prv f c from by revert c f h; decide +kernel, prw_prv_o f c ⟨h.val, by omega⟩]

theorem ghost_ok (c : Dev nD) : (g : Ghost) → (chain A B c g.pre ⊢ chain A B c g.post)
  | .xsplit d => g_xsplit A B c d
  | .got03 f h => g_got03 A B c f h
  | .mk04 i => g_mk04 A B c i
  | .mk14 d => g_mk14 A B c d
  | .got14 f h => g_got14 A B c f h

end Cert.Proof

end
-- ==== Proof.Run.lean ====
/-
  The whole body: a list of steps, each taking atoms to atoms, checked by evaluation.
-/
module

public import proofs.«01_k».proof.Proof.Ghost

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Instructions as takers and givers of atoms -/

def Instr.pre : Instr → List Atom
  | .sig κ => [.sigA κ]
  | .bar => [.barA]
  | .comp k => [.ab, .P0 k]
  | .seed11 f => [.PR 0, .g11 f 0]
  | .start e => [.todo e, .dg e, .src e]
  | .waitR e => [.inR e]
  | .waitS e => [.fly e]
  | .acc11 f ⟨0, _⟩ => [.PR (kg (fdir f) 1), .dst (.p11 f 0), .g11 f 1]
  | .acc11 f ⟨h + 1, _⟩ => if hh : h + 2 < 7 then [.PR (kg (fdir f) ⟨h + 2, by omega⟩), .dst (.p11 f ⟨h + 1, by omega⟩), .fly (.p11 f ⟨h, by omega⟩)] else []
  | .fin11 f => [.PR (kg (fdir f) 7), .dst (.p11 f 6), .xg f]
  | .acc01 k => [.dst (.p0x1 k), .PR k, .PL k]
  | .seed02 => [.QR 0, .g02 0 0, .g02 1 0, .g02 2 0, .g02 3 0]
  | .acc02 f ⟨0, _⟩ => [.QR (kg (fdir f) 1), .dst (.p02 f 0), .g02 f 1]
  | .acc02 f ⟨h + 1, _⟩ => if hh : h + 2 < 7 then [.QR (kg (fdir f) ⟨h + 2, by omega⟩), .dst (.p02 f ⟨h + 1, by omega⟩), .fly (.p02 f ⟨h, by omega⟩)] else []
  | .fin02 f => [.QR (kg (fdir f) 7), .dst (.p02 f 6), .og f]
  | .fin13 d => [.dst (.p12 d), .xk d, .oh d]
def Instr.post : Instr → List Atom
  | .sig _ => []
  | .bar => .barD :: edges.map .dg
  | .comp k => [.ab, .PR k, .PL k, .src (.p0x1 k)]
  | .seed11 f => [.PR 0, .src (.p11 f 0)]
  | .start e => [.fly e]
  | .waitR e => [.dst e, .rdone e]
  | .waitS e => [.src e, .sdone e]
  | .acc11 f ⟨0, _⟩ => [.PR (kg (fdir f) 1), .dst (.p11 f 0), .src (.p11 f 1)]
  | .acc11 f ⟨h + 1, _⟩ => if hh : h + 2 < 7 then
      [.PR (kg (fdir f) ⟨h + 2, by omega⟩), .dst (.p11 f ⟨h + 1, by omega⟩), .sdone (.p11 f ⟨h, by omega⟩), .src (.p11 f ⟨h + 1 + 1, hh⟩)] else []
  | .fin11 f => [.PR (kg (fdir f) 7), .dst (.p11 f 6), .xa f]
  | .acc01 k => [.dst (.p0x1 k), .QR k, .QL k]
  | .seed02 => [.QR 0, .src (.p02 0 0), .src (.p02 1 0), .src (.p02 2 0), .src (.p02 3 0)]
  | .acc02 f ⟨0, _⟩ => [.QR (kg (fdir f) 1), .dst (.p02 f 0), .src (.p02 f 1)]
  | .acc02 f ⟨h + 1, _⟩ => if hh : h + 2 < 7 then
      [.QR (kg (fdir f) ⟨h + 2, by omega⟩), .dst (.p02 f ⟨h + 1, by omega⟩), .sdone (.p02 f ⟨h, by omega⟩), .src (.p02 f ⟨h + 1 + 1, hh⟩)] else []
  | .fin02 f => [.QR (kg (fdir f) 7), .dst (.p02 f 6), .src (.p03 f 0), .oR f 0]
  | .fin13 d => [.dst (.p12 d), .xk d, .src (.p13 d)]

/-- What is owed after an instruction, if it may run owing `l`. -/
def Instr.owed : Instr → List Ob → Option (List Ob)
  | .sig κ, o :: l => if o = .sg κ then some l else none
  | .sig _, [] => none
  | .start e, o :: l => if o = .ed e then some l else none
  | .start _, [] => none
  | .bar, l => if (∀ o ∈ l, 1 < obLv o) then some l else none
  | .waitR e, l => if (∀ o ∈ l, 2 + lvE e < obLv o) then some l else none
  | .acc11 _ h, l => if h.val < 6 then some l else none
  | .acc02 _ h, l => if h.val < 6 then some l else none
  | .comp _, l | .seed11 _, l | .waitS _, l | .fin11 _, l | .acc01 _, l | .seed02, l | .fin02 _, l | .fin13 _, l => some l

variable (A : Dev nD → S2048x1024.Idx → Elt F .bf16) (B : Dev nD → S1024x2048.Idx → Elt F .bf16)

/-- Every instruction does what the lists say. -/
theorem instr_ok (Kn : Dev nD × CK → ℕ) (c : Dev nD) (i : Instr) (l l' : List Ob) (h : i.owed l = some l') : Tri A B Kn c i l l' i.pre i.post := by
  cases i with
  | sig κ =>
    cases l with
    | nil => exact absurd h (by simp [Instr.owed])
    | cons o l =>
      simp only [Instr.owed] at h
      split at h
      · rename_i ho; subst ho; cases h; exact tri_sig A B Kn c κ _
      · exact absurd h (by simp)
  | start e =>
    cases l with
    | nil => exact absurd h (by simp [Instr.owed])
    | cons o l =>
      simp only [Instr.owed] at h
      split at h
      · rename_i ho; subst ho; cases h; exact tri_start A B Kn c e _
      · exact absurd h (by simp)
  | bar =>
    simp only [Instr.owed] at h
    split at h
    · rename_i ho; cases h; exact tri_bar A B Kn c _ ho
    · exact absurd h (by simp)
  | waitR e =>
    simp only [Instr.owed] at h
    split at h
    · rename_i ho; cases h; exact tri_waitR A B Kn c e _ ho
    · exact absurd h (by simp)
  | comp k => cases h; exact tri_comp A B Kn c k _
  | seed11 f => cases h; exact tri_seed11 A B Kn c f _
  | waitS e => cases h; exact tri_waitS A B Kn c e _
  | fin11 f => cases h; exact tri_fin11 A B Kn c f _
  | acc01 k => cases h; exact tri_acc01 A B Kn c k _
  | seed02 => cases h; exact tri_seed02 A B Kn c _
  | fin02 f => cases h; exact tri_fin02 A B Kn c f _
  | fin13 d => cases h; exact tri_fin13 A B Kn c d _
  | acc11 f h' =>
    obtain ⟨h', hh⟩ := h'
    simp only [Instr.owed] at h
    split at h
    · rename_i ho; cases h
      cases h' with
      | zero => exact tri_acc11_0 A B Kn c f _
      | succ n =>
        have hn : n + 2 < 7 := Nat.succ_lt_succ ho
        simp only [Instr.pre, Instr.post, dif_pos hn]
        exact tri_acc11 A B Kn c f n hn _
    · exact absurd h (by simp)
  | acc02 f h' =>
    obtain ⟨h', hh⟩ := h'
    simp only [Instr.owed] at h
    split at h
    · rename_i ho; cases h
      cases h' with
      | zero => exact tri_acc02_0 A B Kn c f _
      | succ n =>
        have hn : n + 2 < 7 := Nat.succ_lt_succ ho
        simp only [Instr.pre, Instr.post, dif_pos hn]
        exact tri_acc02 A B Kn c f n hn _
    · exact absurd h (by simp)

/-! ## Steps -/

inductive Step where
  | ins (i : Instr) | gh (g : Ghost)

def Step.pre : Step → List Atom
  | .ins i => i.pre | .gh g => g.pre
def Step.post : Step → List Atom
  | .ins i => i.post | .gh g => g.post
def Step.owed : Step → List Ob → Option (List Ob)
  | .ins i, l => i.owed l | .gh _, l => some l
def Step.run (c : Dev nD) : Step → KP F → KP F
  | .ins i, K => i.run c K | .gh _, K => K
def Step.ins? : Step → Option Instr
  | .ins i => some i | .gh _ => none

/-- The regroupings that go with an instruction. -/
def around : Instr → List Step
  | .start (.p12 d) => [.gh (.xsplit d), .ins (.start (.p12 d))]
  | .start (.p14 f h) => if h.val = 0 ∧ (flane f).val = 0 then [.gh (.mk14 (fdir f)), .ins (.start (.p14 f h))] else [.ins (.start (.p14 f h))]
  | .start (.p04 i) => [.gh (.mk04 i), .ins (.start (.p04 i))]
  | .waitR (.p03 f h) => [.ins (.waitR (.p03 f h)), .gh (.got03 f h)]
  | .waitR (.p14 f h) => if hh : h.val < 6 then [.ins (.waitR (.p14 f h)), .gh (.got14 f ⟨h.val, hh⟩)] else [.ins (.waitR (.p14 f h))]
  | i => [.ins i]
def steps : List Step := instrs.flatMap around

theorem around_run (c : Dev nD) (i : Instr) (K : KP F) : (around i).foldr (fun s K => s.run c K) K = i.run c K := by
  unfold around
  split <;> (try split) <;> rfl

theorem steps_run (c : Dev nD) (K : KP F) : steps.foldr (fun s K => s.run c K) K = runI c instrs K := by
  unfold steps runI
  induction instrs with
  | nil => rfl
  | cons i l ih => rw [List.flatMap_cons, List.foldr_append, ih, around_run]; rfl

/-! ## The check -/

/-- A list with one occurrence taken out. -/
def take (a : Atom) : List Atom → Option (List Atom)
  | [] => none
  | b :: l => if a = b then some l else (take a l).map (b :: ·)

theorem take_perm (a : Atom) : ∀ (l r : List Atom), take a l = some r → l.Perm (a :: r)
  | [], r, h => absurd h (by simp [take])
  | b :: l, r, h => by
    simp only [take] at h
    split at h
    · rename_i hab; subst hab; cases h; exact List.Perm.refl _
    · obtain ⟨r', hr', rfl⟩ := Option.map_eq_some_iff.mp h
      exact ((take_perm a l r' hr').cons b).trans (List.Perm.swap a b r')

def takes : List Atom → List Atom → Option (List Atom)
  | [], l => some l
  | a :: ts, l => (take a l).bind (takes ts)

theorem takes_perm : ∀ (ts l r : List Atom), takes ts l = some r → l.Perm (ts ++ r)
  | [], l, r, h => by cases h; exact List.Perm.refl _
  | a :: ts, l, r, h => by
    obtain ⟨m, hm, h⟩ := Option.bind_eq_some_iff.mp h
    exact (take_perm a l m hm).trans ((takes_perm ts m r h).cons a)

/-- Whether an atom is one no later step wants. -/
def settled : Atom → Bool
  | .sdone _ | .rdone _ | .barD => true
  | _ => false

/-- What a device owes and holds. -/
structure St where
  owed : List Ob
  live : List Atom
  done : List Atom

def exec : List Step → St → Option St
  | [], S => some S
  | s :: ss, S => (s.owed S.owed).bind fun l => (takes s.pre S.live).bind fun r => exec ss ⟨l, s.post.filter (fun a => !settled a) ++ r, s.post.filter settled ++ S.done⟩

theorem exec_wp (Kn : Dev nD × CK → ℕ) (c : Dev nD) (K : KP F) (Q : PUnit → sProp 𝕄) : ∀ (ss : List Step) (S S' : St) (_ : exec ss S = some S') (W : Waits sig Unit),
    iprop(ctx A B Kn ∗ owes (c : Thread nD τ) (owe c S.owed) W ∗ chain A B c (S.live ++ S.done))
      ⊢ iprop((∀ W' : Waits sig Unit, (owes (c : Thread nD τ) (owe c S'.owed) W' ∗ chain A B c (S'.live ++ S'.done)) -∗ WP c K Q)
        -∗ WP c (ss.foldr (fun s K => s.run c K) K) Q)
  | [], S, S', h, W => by
    cases h
    show _ ⊢ iprop(_ -∗ WP c K Q)
    iintro ⟨-, H⟩ Hk
    iapply Hk; iexact H
  | s :: ss, S, S', h, W => by
    obtain ⟨l, hl, h⟩ := Option.bind_eq_some_iff.mp h
    obtain ⟨r, hr, h⟩ := Option.bind_eq_some_iff.mp h
    have ih := exec_wp Kn c K Q ss _ S' h
    have e1 : chain A B c (S.live ++ S.done) = iprop(chain A B c s.pre ∗ chain A B c (r ++ S.done)) := by
      rw [← chain_append, ← List.append_assoc]; exact chain_perm A B c ((takes_perm _ _ _ hr).append_right _)
    have e2 : chain A B c ((s.post.filter (fun a => !settled a) ++ r) ++ (s.post.filter settled ++ S.done)) = iprop(chain A B c s.post ∗ chain A B c (r ++ S.done)) := by
      rw [← chain_append]
      refine chain_perm A B c ?_
      have hp : (s.post.filter settled ++ s.post.filter (fun a => !settled a)).Perm s.post := List.filter_append_perm settled s.post
      refine List.Perm.trans ?_ (hp.append_right _)
      rw [List.append_assoc, List.append_assoc]
      refine List.Perm.trans (List.Perm.append_left _ ?_) (List.perm_append_comm_assoc _ _ _)
      exact List.perm_append_comm_assoc _ _ _
    simp only [List.foldr_cons]
    rw [e2] at ih
    rw [e1]
    cases s with
    | ins i =>
      iintro ⟨#Hc, HO, Hp, HR⟩ Hk
      iapply (instr_ok A B Kn c i S.owed l hl W _ Q) $$ [HO Hp]
      · isplitr; · iexact Hc
        isplitl [HO]; · iexact HO
        iexact Hp
      iintro %W' ⟨HO, Hp⟩
      iapply (ih W') $$ [HO Hp HR]
      · isplitr; · iexact Hc
        isplitl [HO]; · iexact HO
        isplitl [Hp]; · iexact Hp
        iexact HR
      iexact Hk
    | gh g =>
      cases hl
      iintro ⟨#Hc, HO, Hp, HR⟩ Hk
      ihave Hp := (show chain A B c (Step.gh g).pre ⊢ chain A B c (Step.gh g).post from ghost_ok A B c g) $$ Hp
      iapply (ih W) $$ [HO Hp HR]
      · isplitr; · iexact Hc
        isplitl [HO]; · iexact HO
        isplitl [Hp]; · iexact Hp
        iexact HR
      iexact Hk

/-! ## The body -/

abbrev f4 : List (Fin 4) := List.finRange 4
abbrev f8 : List (Fin 8) := List.finRange 8
abbrev f7 : List (Fin 7) := List.finRange 7
abbrev f2 : List (Fin 2) := List.finRange 2

/-- What a device starts with; -/
def atoms₀ : List Atom :=
  [.sigA 0, .sigA 1, .sigA 2, .barA, .ab] ++ f8.map .P0 ++ f4.flatMap (fun f => [.g11 f 0, .g11 f 1, .g02 f 0, .g02 f 1]) ++ f4.map .xg ++ f4.map .og ++ f2.map .oh
    ++ edges.map .todo ++ edges.map .inR
/-- what of its result buffer it ends with; -/
def outAtoms : List Atom :=
  f4.flatMap (fun f => f7.map fun h => .src (.p03 f h)) ++ f4.map .oL ++ f8.flatMap (fun i => [.src (.p04 i), .dst (.p04 i)])
    ++ f4.flatMap (fun f => f7.map fun h => .src (.p14 f h)) ++ f4.map fun f => .dst (.p14 f 6)
/-- what of its other buffers; -/
def bufAtoms : List Atom :=
  f8.flatMap (fun k => [.QR k, .QL k, .src (.p0x1 k), .dst (.p0x1 k)])
    ++ f4.flatMap (fun f => f7.map fun h => .dst (.p11 f h)) ++ f4.flatMap (fun f => f7.map fun h => .dst (.p02 f h))
    ++ f4.flatMap (fun f => [.src (.p11 f 5), .src (.p11 f 6), .src (.p02 f 5), .src (.p02 f 6)])
    ++ f2.flatMap (fun d => [.dst (.p12 d), .src (.p12 d), .xk d])
/-- and of its semaphores. -/
def semAtoms : List Atom := .barD :: (edges.map .sdone ++ edges.map .rdone)
def atoms₁ : List Atom := .ab :: (outAtoms ++ bufAtoms ++ semAtoms)

/-- Whether two lists hold the same atoms. -/
def same : List Atom → List Atom → Bool
  | [], l => l.isEmpty
  | a :: ts, l => match take a l with | some r => same ts r | none => false

theorem same_perm : ∀ ts l : List Atom, same ts l = true → l.Perm ts
  | [], l, h => by rw [List.isEmpty_iff.mp h]
  | a :: ts, l, h => by
    simp only [same] at h
    split at h
    · rename_i r hr; exact (take_perm a l r hr).trans ((same_perm ts r h).cons a)
    · exact absurd h (by simp)

end Cert.Proof

end
-- ==== Proof.Check.lean ====
/-
  The check of the whole body, by evaluation, and what it gives.
-/
module

public import proofs.«01_k».proof.Proof.Run

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The steps run from what a device starts with to what it ends with, owing nothing. -/
def bodyOk : Bool :=
  match exec steps ⟨obl, atoms₀, []⟩ with
  | some S => S.owed.isEmpty && same atoms₁ (S.live ++ S.done)
  | none => false

set_option maxRecDepth 1000000 in
theorem bodyOk_eq : bodyOk = true := by decide +kernel

variable (A : Dev nD → S2048x1024.Idx → Elt F .bf16) (B : Dev nD → S1024x2048.Idx → Elt F .bf16)

/-- The body's instructions take what a device starts with to what it ends with, and pay all it owes. -/
theorem body_run (Kn : Dev nD × CK → ℕ) (c : Dev nD) (K : KP F) (Q : PUnit → sProp 𝕄) (W : Waits sig Unit) :
    iprop(ctx A B Kn ∗ owes (c : Thread nD τ) (owe c obl) W ∗ chain A B c atoms₀)
      ⊢ iprop((∀ W' : Waits sig Unit, (owes (c : Thread nD τ) 0 W' ∗ chain A B c atoms₁) -∗ WP c K Q) -∗ WP c (runI c instrs K) Q) := by
  have hb := bodyOk_eq
  unfold bodyOk at hb
  split at hb
  · rename_i S hS
    rw [Bool.and_eq_true] at hb
    have ho : S.owed = [] := List.isEmpty_iff.mp hb.1
    have h := exec_wp A B Kn c K Q steps _ S hS W
    rw [ho, steps_run, chain_perm A B c (same_perm _ _ hb.2), List.append_nil] at h
    exact h
  · exact absurd hb (by simp)

end Cert.Proof

end
-- ==== Proof.Mem.lean ====
/-
  A device's buffers taken apart at the start and put together at the end: the whole scratch buffers and the result at
  whatever they hold give the pieces the device starts with and the landing places it offers; the pieces it ends with
  give its result at the common contents and the scratch buffers back.
-/
module

public import proofs.«01_k».proof.Proof.Run

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families -/

/-- A family over the numbers below `n + 1`: its first member and the others; -/
theorem bigSep_first {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl
/-- the others and its last. -/
theorem bigSep_last {n : ℕ} (Φ : Fin (n + 1) → sProp 𝕄) : bigSep Finset.univ Φ = iprop(Φ (Fin.last n) ∗ bigSep Finset.univ fun i : Fin n => Φ i.castSucc) := by
  rw [Fin.univ_castSuccEmb, Finset.cons_eq_insert, bigSep_insert (by simp), bigSep_map]; rfl
theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The copies, kind by kind. -/
abbrev EK : Type := Fin 8 ⊕ (Fin 4 × Fin 7) ⊕ Fin 2 ⊕ (Fin 4 × Fin 7) ⊕ Fin 2 ⊕ (Fin 4 × Fin 7) ⊕ (Fin 4 × Fin 7) ⊕ Fin 8
def ofEK : EK → Edge
  | .inl k => .p0x1 k
  | .inr (.inl x) => .p11 x.1 x.2
  | .inr (.inr (.inl d)) => .p12 d
  | .inr (.inr (.inr (.inl x))) => .p02 x.1 x.2
  | .inr (.inr (.inr (.inr (.inl d)))) => .p13 d
  | .inr (.inr (.inr (.inr (.inr (.inl x))))) => .p03 x.1 x.2
  | .inr (.inr (.inr (.inr (.inr (.inr (.inl x)))))) => .p14 x.1 x.2
  | .inr (.inr (.inr (.inr (.inr (.inr (.inr i)))))) => .p04 i
def toEK : Edge → EK
  | .p0x1 k => .inl k
  | .p11 f h => .inr (.inl (f, h))
  | .p12 d => .inr (.inr (.inl d))
  | .p02 f h => .inr (.inr (.inr (.inl (f, h))))
  | .p13 d => .inr (.inr (.inr (.inr (.inl d))))
  | .p03 f h => .inr (.inr (.inr (.inr (.inr (.inl (f, h))))))
  | .p14 f h => .inr (.inr (.inr (.inr (.inr (.inr (.inl (f, h)))))))
  | .p04 i => .inr (.inr (.inr (.inr (.inr (.inr (.inr i))))))
def ekEquiv : EK ≃ Edge where
  toFun := ofEK
  invFun := toEK
  left_inv x := by rcases x with _ | _ | _ | _ | _ | _ | _ | _ <;> rfl
  right_inv e := by cases e <;> rfl

/-- A family over the copies, kind by kind. -/
theorem bigSep_kinds (Φ : Edge → sProp 𝕄) : bigSep Finset.univ Φ
    = iprop((bigSep Finset.univ fun k : Fin 8 => Φ (.p0x1 k))
      ∗ (bigSep Finset.univ fun f : Fin 4 => bigSep Finset.univ fun h : Fin 7 => Φ (.p11 f h))
      ∗ (bigSep Finset.univ fun d : Fin 2 => Φ (.p12 d))
      ∗ (bigSep Finset.univ fun f : Fin 4 => bigSep Finset.univ fun h : Fin 7 => Φ (.p02 f h))
      ∗ (bigSep Finset.univ fun d : Fin 2 => Φ (.p13 d))
      ∗ (bigSep Finset.univ fun f : Fin 4 => bigSep Finset.univ fun h : Fin 7 => Φ (.p03 f h))
      ∗ (bigSep Finset.univ fun f : Fin 4 => bigSep Finset.univ fun h : Fin 7 => Φ (.p14 f h))
      ∗ (bigSep Finset.univ fun i : Fin 8 => Φ (.p04 i))) := by
  rw [bigSep_univ_equiv ekEquiv Φ]
  simp only [bigSep_univ_sum, bigSep_univ_prod]
  rfl

variable (A : Dev nD → S2048x1024.Idx → Elt F .bf16) (B : Dev nD → S1024x2048.Idx → Elt F .bf16)

/-- A list of atoms numbered from zero; -/
theorem chain_fin {n : ℕ} (c : Dev nD) (a : Fin n → Atom) : chain A B c ((List.finRange n).map a) = bigSep Finset.univ fun t => (a t).interp A B c := by
  rw [chain_bigSep A B c _ (List.nodup_finRange n) a, List.toFinset_finRange]
/-- and a list of numbered lists. -/
theorem chain_flat {n : ℕ} (c : Dev nD) (a : Fin n → List Atom) :
    chain A B c ((List.finRange n).flatMap a) = bigSep Finset.univ fun t => chain A B c (a t) := by
  have key : ∀ l : List (Fin n), l.Nodup → chain A B c (l.flatMap a) = bigSep l.toFinset fun t => chain A B c (a t) := by
    intro l hl
    induction l with
    | nil => rfl
    | cons t l ih =>
      obtain ⟨ht, hl⟩ := List.nodup_cons.mp hl
      rw [List.toFinset_cons, bigSep_insert (fun h => ht (List.mem_toFinset.mp h)), List.flatMap_cons, chain_append, ih hl]; rfl
  rw [key _ (List.nodup_finRange n), List.toFinset_finRange]

/-! ## Parts of a buffer -/

section
variable {s : Shape} {T : Type} [Fintype T] [DecidableEq T]

/-- The parts `K t` make up `S`, each element in one of them. -/
def Parts (S : Finset s.Idx) (K : T → Finset s.Idx) : Prop := (∀ i, i ∈ S ↔ ∃ t, i ∈ K t) ∧ ∀ i t t', i ∈ K t → i ∈ K t' → t = t'

omit [FloatOps F] in
theorem Parts.union {S : Finset s.Idx} {K : T → Finset s.Idx} (h : Parts S K) : Finset.univ.biUnion K = S := by
  ext i; rw [h.1]; simp
omit [FloatOps F] in
theorem Parts.disj {S : Finset s.Idx} {K : T → Finset s.Idx} (h : Parts S K) : ∀ t ∈ (Finset.univ : Finset T), ∀ t' ∈ (Finset.univ : Finset T), t ≠ t' → Disjoint (K t) (K t') :=
  fun t _ t' _ hne => Finset.disjoint_left.mpr fun i hi hi' => hne (h.2 i t t' hi hi')

theorem parts_split (c : Dev nD) (m : Memref sig .tc .vmem s .bf16) {S : Finset s.Idx} {K : T → Finset s.Idx} (h : Parts S K) (q : PosShare TreeShare) (g : s.Idx → Elt F .bf16) :
    (pcs c m S q g : sProp 𝕄) ⊢ bigSep Finset.univ fun t => pcs c m (K t) q g := by
  rw [← h.union]; exact pcs_family_split c m Finset.univ K q g h.disj
theorem parts_join (c : Dev nD) (m : Memref sig .tc .vmem s .bf16) {S : Finset s.Idx} {K : T → Finset s.Idx} (h : Parts S K) (q : PosShare TreeShare) (g : s.Idx → Elt F .bf16) :
    (bigSep Finset.univ fun t => pcs c m (K t) q g) ⊢ (pcs c m S q g : sProp 𝕄) := by
  conv_rhs => rw [← h.union]
  exact pcs_family_join c m Finset.univ K q g h.disj
theorem gparts_split (c : Dev nD) (m : Memref sig .tc .vmem s .bf16) {S : Finset s.Idx} {K : T → Finset s.Idx} (h : Parts S K) :
    (gpc (F := F) c m S : sProp 𝕄) ⊢ bigSep Finset.univ fun t => gpc (F := F) c m (K t) := by
  have h1 : (gpc (F := F) c m S : sProp 𝕄) ⊢ iprop(∃ g, pcs c m S fullShare g) := .rfl
  refine h1.trans ?_
  iintro ⟨%g, H⟩
  ihave H := (parts_split c m h fullShare g) $$ H
  have hm : (bigSep Finset.univ fun t : T => (pcs c m (K t) fullShare g : sProp 𝕄)) ⊢ bigSep Finset.univ fun t : T => gpc (F := F) c m (K t) :=
    bigSep_mono fun t _ => gpc_intro c m (K t) g
  iapply hm; iexact H
theorem gparts_join (c : Dev nD) (m : Memref sig .tc .vmem s .bf16) {S : Finset s.Idx} {K : T → Finset s.Idx} (h : Parts S K) :
    (bigSep Finset.univ fun t => gpc (F := F) c m (K t)) ⊢ (gpc (F := F) c m S : sProp 𝕄) := by
  conv_rhs => rw [← h.union]
  exact gpc_family_join c m Finset.univ K h.disj
end

/-- The slots of a stack of matrices. -/
theorem parts_slot {n n1 n2 : ℕ} (inb : ∀ (t : Fin n) a, (![t.val, 0, 0] : Fin 3 → ℕ) a + (![1, n1, n2] : Fin 3 → ℕ) a ≤ (⟨3, ![n, n1, n2]⟩ : Shape).size a) :
    Parts (s := ⟨3, ![n, n1, n2]⟩) Finset.univ fun t : Fin n => (Rect.unit (s := ⟨3, ![n, n1, n2]⟩) ![t.val, 0, 0] ![1, n1, n2] (inb t)).set := by
  have hm : ∀ (i : (⟨3, ![n, n1, n2]⟩ : Shape).Idx) (t : Fin n), i ∈ (Rect.unit (s := ⟨3, ![n, n1, n2]⟩) ![t.val, 0, 0] ![1, n1, n2] (inb t)).set ↔ (i 0).val = t.val := by
    intro i t
    rw [mem_unit3 (n := n1) (m := n2) (l := 1) (r := t.val) (a := 0) (b := 0) rfl]
    have h1 : (i 1).val < n1 := (i 1).isLt
    have h2 : (i 2).val < n2 := (i 2).isLt
    omega
  refine ⟨fun i => ⟨fun _ => ⟨i 0, (hm i (i 0)).mpr rfl⟩, fun _ => Finset.mem_univ i⟩, fun i t t' h h' => ?_⟩
  exact Fin.ext (((hm i t).mp h).symm.trans ((hm i t').mp h'))

theorem parts_pair (c : Dev nD) : Parts Finset.univ (pairS c) := by
  refine ⟨fun i => ⟨fun _ => ?_, fun _ => Finset.mem_univ i⟩, fun i k k' h h' => ?_⟩
  · have h0 : (i 0).val < 16 := (i 0).isLt
    obtain ⟨k, hk⟩ := prw_off_surj c ⟨(i 0).val / 2, by omega⟩
    exact ⟨k, mem_pairS.mpr hk.symm⟩
  · exact prw_off_inj c k k' ((mem_pairS.mp h).symm.trans (mem_pairS.mp h'))

theorem fl_eq {f g : Fin 4} (hd : (fdir f).val = (fdir g).val) (hl : (flane f).val = (flane g).val) : f = g := by
  rw [← fl_of f, ← fl_of g]; congr 1

theorem parts_xa : Parts Finset.univ fun f : Fin 4 => (rxa (fdir f) (flane f)).set := by
  refine ⟨fun i => ⟨fun _ => ⟨fl (i 0).val (i 1).val, ?_⟩, fun _ => Finset.mem_univ i⟩, fun i f g h h' => ?_⟩
  · rw [set_rxa]
    rw [show fdir (fl (i 0).val (i 1).val) = i 0 from fdir_fl (i 0) (i 1), show flane (fl (i 0).val (i 1).val) = i 1 from flane_fl (i 0) (i 1)]
    exact ⟨rfl, rfl⟩
  · rw [set_rxa] at h h'
    exact fl_eq (h.1.symm.trans h'.1) (h.2.symm.trans h'.2)

/-! ## Parts of the result -/

/-- The first column group's row blocks a device finishes; -/
def loS (c : Dev nD) : Finset SO.Idx := Finset.univ.filter fun i => (i 0).val % 2 = xp c ∧ (i 2).val < 768
/-- its other row blocks; -/
def loS' (c : Dev nD) : Finset SO.Idx := Finset.univ.filter fun i => (i 0).val % 2 = 1 - xp c ∧ (i 2).val < 768
/-- the second column group. -/
def hiS : Finset SO.Idx := Finset.univ.filter fun i => 768 ≤ (i 2).val
/-- The tile of the result a second-group gather ring holds at step `g`. -/
abbrev tS (c : Dev nD) (f : Fin 4) (g : ℕ) : Finset SO.Idx :=
  bx (2 * prw c (od (fdir f) g) + (flane f).val) 0 128 (768 + 640 * (fdir f).val) 640

theorem mem_loS {c : Dev nD} {i : SO.Idx} : i ∈ loS c ↔ (i 0).val % 2 = xp c ∧ (i 2).val < 768 := by
  unfold loS; simp only [Finset.mem_filter, Finset.mem_univ, true_and]
theorem mem_loS' {c : Dev nD} {i : SO.Idx} : i ∈ loS' c ↔ (i 0).val % 2 = 1 - xp c ∧ (i 2).val < 768 := by
  unfold loS'; simp only [Finset.mem_filter, Finset.mem_univ, true_and]
theorem mem_hiS {i : SO.Idx} : i ∈ hiS ↔ 768 ≤ (i 2).val := by
  unfold hiS; simp only [Finset.mem_filter, Finset.mem_univ, true_and]

theorem parts_lo (c : Dev nD) : Parts (loS c) fun x : Fin 4 × Fin 8 => oS c x.1 x.2.val := by
  have hx := xp_lt c
  refine ⟨fun i => ⟨fun h => ?_, fun ⟨x, h⟩ => ?_⟩, fun i x y h h' => ?_⟩
  · rw [mem_loS] at h
    have h0 : (i 0).val < 16 := (i 0).isLt
    have h1 : (i 1).val < 128 := (i 1).isLt
    obtain ⟨d, hd⟩ : ∃ d : Fin 2, d.val = (i 2).val / 384 := ⟨⟨(i 2).val / 384, by omega⟩, rfl⟩
    obtain ⟨l, hl⟩ : ∃ l : Fin 2, l.val = (i 1).val / 64 := ⟨⟨(i 1).val / 64, by omega⟩, rfl⟩
    obtain ⟨g, hg⟩ := prw_od_surj c d ⟨(i 0).val / 2, by omega⟩
    refine ⟨(fl d.val l.val, g), ?_⟩
    show i ∈ bx (2 * prw c (od (fdir (fl d.val l.val)) g.val) + xp c) (64 * (flane (fl d.val l.val)).val) 64 (384 * (fdir (fl d.val l.val)).val) 384
    rw [fdir_fl, flane_fl, mem_bx, hg]
    show _ = 2 * ((i 0).val / 2) + _ ∧ _
    omega
  · rw [mem_bx] at h
    have := (flane x.1).isLt; have := (fdir x.1).isLt
    rw [mem_loS]; omega
  · rw [mem_bx] at h h'
    have e : x.1 = y.1 := fl_eq (by omega) (by omega)
    have e2 : x.2 = y.2 := prw_od_inj c (fdir x.1) x.2 y.2 (by
      have h0 := h.1; have h0' := h'.1
      rw [← e] at h0'
      omega)
    exact Prod.ext e e2

theorem parts_row (c : Dev nD) (l : ℕ) (hl : l < 2) (S : Finset SO.Idx) (hS : ∀ i, i ∈ S ↔ (i 0).val % 2 = l ∧ (i 2).val < 768) :
    Parts S fun k : Fin 8 => bx (2 * prw c (d4 k) + l) 0 128 0 768 := by
  refine ⟨fun i => ⟨fun h => ?_, fun ⟨x, h⟩ => ?_⟩, fun i x y h h' => ?_⟩
  · rw [hS] at h
    have h0 : (i 0).val < 16 := (i 0).isLt
    have h1 : (i 1).val < 128 := (i 1).isLt
    obtain ⟨g, hg⟩ := prw_d4_surj c ⟨(i 0).val / 2, by omega⟩
    refine ⟨g, ?_⟩
    rw [mem_bx, hg]
    show _ = 2 * ((i 0).val / 2) + _ ∧ _
    omega
  · rw [mem_bx] at h
    rw [hS]; omega
  · rw [mem_bx] at h h'
    exact prw_d4_inj c x y (by omega)

theorem parts_hi (c : Dev nD) : Parts hiS fun x : Fin 4 × Fin 8 => tS c x.1 x.2.val := by
  refine ⟨fun i => ⟨fun h => ?_, fun ⟨x, h⟩ => ?_⟩, fun i x y h h' => ?_⟩
  · rw [mem_hiS] at h
    have h0 : (i 0).val < 16 := (i 0).isLt
    have h1 : (i 1).val < 128 := (i 1).isLt
    have h2 : (i 2).val < 2048 := (i 2).isLt
    obtain ⟨d, hd⟩ : ∃ d : Fin 2, d.val = ((i 2).val - 768) / 640 := ⟨⟨((i 2).val - 768) / 640, by omega⟩, rfl⟩
    obtain ⟨l, hl⟩ : ∃ l : Fin 2, l.val = (i 0).val % 2 := ⟨⟨(i 0).val % 2, by omega⟩, rfl⟩
    obtain ⟨g, hg⟩ := prw_od_surj c d ⟨(i 0).val / 2, by omega⟩
    refine ⟨(fl d.val l.val, g), ?_⟩
    show i ∈ bx (2 * prw c (od (fdir (fl d.val l.val)) g.val) + (flane (fl d.val l.val)).val) 0 128 (768 + 640 * (fdir (fl d.val l.val)).val) 640
    rw [fdir_fl, flane_fl, mem_bx, hg]
    show _ = 2 * ((i 0).val / 2) + _ ∧ _
    omega
  · rw [mem_bx] at h
    rw [mem_hiS]; omega
  · rw [mem_bx] at h h'
    have := (flane x.1).isLt; have := (flane y.1).isLt
    have e : x.1 = y.1 := fl_eq (by omega) (by omega)
    have e2 : x.2 = y.2 := prw_od_inj c (fdir x.1) x.2 y.2 (by
      have h0 := h.1; have h0' := h'.1
      rw [← e] at h0'
      omega)
    exact Prod.ext e e2

theorem univ_out (c : Dev nD) : (Finset.univ : Finset SO.Idx) = loS c ∪ (loS' c ∪ hiS) := by
  have hx := xp_lt c
  ext i
  simp only [Finset.mem_union, mem_loS, mem_loS', mem_hiS, Finset.mem_univ, true_iff]
  omega
theorem disj_out (c : Dev nD) : Disjoint (loS c) (loS' c ∪ hiS) := by
  have hx := xp_lt c
  rw [Finset.disjoint_left]; intro i h h'
  simp only [Finset.mem_union, mem_loS, mem_loS', mem_hiS] at h h'
  omega
theorem disj_out' (c : Dev nD) : Disjoint (loS' c) hiS := by
  rw [Finset.disjoint_left]; intro i h h'
  simp only [mem_loS', mem_hiS] at h h'
  omega

/-! ## What lands where in the result -/

theorem in03 (c : Dev nD) (f : Fin 4) (h : Fin 7) : (r03 (snd c (.p03 f h)) f h).set = oS c f (h.val + 1) := by
  rw [set_r03, show snd c (.p03 f h) = prv f c from by revert c f h; decide +kernel, prw_prv_o f c ⟨h.val, by omega⟩, xp_prv]
theorem in14 (c : Dev nD) (f : Fin 4) (h : Fin 7) : (r14 (snd c (.p14 f h)) f h).set = tS c f (h.val + 1) := by
  rw [set_r14, show snd c (.p14 f h) = prv f c from by revert c f h; decide +kernel, prw_prv_o f c ⟨h.val, by omega⟩]
theorem in04 (c : Dev nD) (i : Fin 8) : (r04 (snd c (.p04 i)) i).set = bx (2 * prw c (d4 i) + (1 - xp c)) 0 128 0 768 := by
  rw [set_r04, show snd c (.p04 i) = nbr c 0 from rfl, xp_nbr0]
  show bx (2 * ((r8 (nbr c 0) + _) % 8) + _) _ _ _ _ = _
  rw [r8_nbr0]
theorem in13 (c : Dev nD) (d : Fin 2) : (r13 (snd c (.p13 d)) d).set = bx (2 * prw c (od d 0) + (1 - xp c)) 0 128 (768 + 640 * d.val) 640 := by
  rw [set_r13, show snd c (.p13 d) = nbr c 0 from rfl, xp_nbr0, prw_nbr0]

end Cert.Proof

end
-- ==== Proof.Ends.lean ====
/-
  What a device starts and ends with, as whole buffers: its scratch buffers and its result at whatever they hold become
  the atoms it starts with and the landing places it offers; the atoms it ends with become its result at the common
  contents and its scratch buffers.
-/
module

public import proofs.«01_k».proof.Proof.Mem
public import proofs.«01_k».proof.Proof.Gen.KernelIdeal.Launch

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Dev nD → S2048x1024.Idx → Elt F .bf16) (B : Dev nD → S1024x2048.Idx → Elt F .bf16)

/-! ## The scratch buffers -/

/-- A device's scratch buffers, each whole at whatever it holds. -/
def bufs (c : Dev nD) : sProp 𝕄 :=
  iprop(gpc (F := F) c partM Finset.univ ∗ gpc (F := F) c p0rM Finset.univ
    ∗ (bigSep Finset.univ fun f : Fin 4 => gpc (F := F) c (p02rM f) Finset.univ) ∗ (bigSep Finset.univ fun f : Fin 4 => gpc (F := F) c (p02sM f) Finset.univ)
    ∗ (bigSep Finset.univ fun f : Fin 4 => gpc (F := F) c (p11rM f) Finset.univ) ∗ (bigSep Finset.univ fun f : Fin 4 => gpc (F := F) c (p11sM f) Finset.univ)
    ∗ gpc (F := F) c xaM Finset.univ ∗ gpc (F := F) c p12rM Finset.univ)

theorem gpc_univ {s : Shape} (c : Dev nD) (m : Memref sig .tc .vmem s .bf16) :
    (gpc (F := F) c m Finset.univ : sProp 𝕄) = iprop(∃ g, owns (c : Thread nD τ) m fullShare g) := by
  unfold gpc; simp only [pcs_univ]

theorem held_eq (c : Dev nD) (b : Ref sig .tc) :
    (iprop(∃ f : Buf (Elt F) ((c : Thread nD τ).loc b), ((c : Thread nD τ).loc b) ↦{fullShare} f) : sProp 𝕄)
      = iprop(∃ f : b.ty.Contents (Elt F), owns (c : Thread nD τ) (Memref.whole b) fullShare f) := by
  simp only [owns_whole]

theorem bufs_eq (c : Dev nD) : (Pipeline.scopedRest spec0 c : sProp 𝕄) = bufs (F := F) c := by
  rw [scopedRest0_eq]
  unfold bufs
  simp only [bigSep_four, gpc_univ]
  simp only [held_eq]
  simp only [← sep_as]
  rfl

/-! ## At the start -/

theorem gpc_split {s : Shape} (c : Dev nD) (m : Memref sig .tc .vmem s .bf16) {S T : Finset s.Idx} (h : Disjoint S T) :
    (gpc (F := F) c m (S ∪ T) : sProp 𝕄) ⊢ iprop(gpc (F := F) c m S ∗ gpc (F := F) c m T) := by
  have h1 : (gpc (F := F) c m (S ∪ T) : sProp 𝕄) ⊢ iprop(∃ g, pcs c m (S ∪ T) fullShare g) := .rfl
  refine h1.trans ?_
  iintro ⟨%g, H⟩
  ihave H := (pcs_split c m fullShare g h) $$ H
  icases H with ⟨H1, H2⟩
  isplitl [H1]
  · iapply (gpc_intro c m S g); iexact H1
  · iapply (gpc_intro c m T g); iexact H2

theorem fam_first (Φ : Fin 4 × Fin 8 → sProp 𝕄) : bigSep Finset.univ Φ
    = iprop((bigSep Finset.univ fun f : Fin 4 => Φ (f, 0)) ∗ (bigSep Finset.univ fun f : Fin 4 => bigSep Finset.univ fun h : Fin 7 => Φ (f, h.succ))) := by
  rw [bigSep_univ_prod, ← bigSep_sep']
  exact bigSep_congr fun f _ => bigSep_first fun g => Φ (f, g)
theorem fam_last (Φ : Fin 4 × Fin 8 → sProp 𝕄) : bigSep Finset.univ Φ
    = iprop((bigSep Finset.univ fun f : Fin 4 => Φ (f, Fin.last 7)) ∗ (bigSep Finset.univ fun f : Fin 4 => bigSep Finset.univ fun h : Fin 7 => Φ (f, h.castSucc))) := by
  rw [bigSep_univ_prod, ← bigSep_sep']
  exact bigSep_congr fun f _ => bigSep_last fun g => Φ (f, g)

/-- The first gather tiles of the second group: the device's own and the one its partner sends. -/
theorem in_hi (c : Dev nD) : (bigSep Finset.univ fun f : Fin 4 => (gpc (F := F) c outM (tS c f 0) : sProp 𝕄))
    ⊢ iprop((bigSep Finset.univ fun d : Fin 2 => (Atom.oh d).interp A B c) ∗ (bigSep Finset.univ fun d : Fin 2 => inG (F := F) c (.p13 d))) := by
  have hd : ∀ d : Fin 2, iprop(gpc (F := F) c outM (tS c (fl d.val 0) 0) ∗ gpc (F := F) c outM (tS c (fl d.val 1) 0) ∗ emp)
      ⊢ iprop((Atom.oh d).interp A B c ∗ inG (F := F) c (.p13 d) ∗ emp) := fun d => by
    refine two_swap ?_
    have ho : (Atom.oh d).interp A B c = gpc (F := F) c outM (bx (2 * prw c (od d 0) + xp c) 0 128 (768 + 640 * d.val) 640) := by rw [← set_r13]; rfl
    have hi : inG (F := F) c (.p13 d) = gpc (F := F) c outM (bx (2 * prw c (od d 0) + (1 - xp c)) 0 128 (768 + 640 * d.val) 640) := by rw [← in13]; rfl
    have ht : ∀ l : Fin 2, (gpc (F := F) c outM (tS c (fl d.val l.val) 0) : sProp 𝕄) = gpc (F := F) c outM (bx (2 * prw c (od d 0) + l.val) 0 128 (768 + 640 * d.val) 640) := fun l => by
      unfold tS; rw [fdir_fl, flane_fl]
    have hx := xp_lt c
    rcases (show xp c = 0 ∨ xp c = 1 by omega) with h | h
    · rw [h] at ho hi
      exact Or.inl ⟨(ht 0).trans ho.symm, (ht 1).trans hi.symm⟩
    · rw [h] at ho hi
      exact Or.inr ⟨(ht 0).trans hi.symm, (ht 1).trans ho.symm⟩
  rw [bigSep_four, bigSep_two, bigSep_two]
  iintro ⟨H0, H1, H2, H3⟩
  ihave Ha := (hd 0) $$ [H0 H1]
  · isplitl [H0]; · iexact H0
    isplitl [H1]; · iexact H1
    iempintro
  ihave Hb := (hd 1) $$ [H2 H3]
  · isplitl [H2]; · iexact H2
    isplitl [H3]; · iexact H3
    iempintro
  icases Ha with ⟨Ha, Ha', -⟩
  icases Hb with ⟨Hb, Hb', -⟩
  isplitl [Ha Hb]
  · isplitl [Ha] <;> iassumption
  · isplitl [Ha'] <;> iassumption

/-- The result's buffer: what the device fills itself, and where its neighbours' copies land. -/
theorem in_out (c : Dev nD) : (gpc (F := F) c outM Finset.univ : sProp 𝕄)
    ⊢ iprop((bigSep Finset.univ fun f : Fin 4 => (Atom.og f).interp A B c) ∗ (bigSep Finset.univ fun d : Fin 2 => (Atom.oh d).interp A B c)
      ∗ (bigSep Finset.univ fun d : Fin 2 => inG (F := F) c (.p13 d))
      ∗ (bigSep Finset.univ fun f : Fin 4 => bigSep Finset.univ fun h : Fin 7 => inG (F := F) c (.p03 f h))
      ∗ (bigSep Finset.univ fun f : Fin 4 => bigSep Finset.univ fun h : Fin 7 => inG (F := F) c (.p14 f h))
      ∗ (bigSep Finset.univ fun i : Fin 8 => inG (F := F) c (.p04 i))) := by
  have e03 : ∀ f h, inG (F := F) c (.p03 f h) = gpc (F := F) c outM (oS c f (h.val + 1)) := fun f h => by rw [← in03]; rfl
  have e14 : ∀ f h, inG (F := F) c (.p14 f h) = gpc (F := F) c outM (tS c f (h.val + 1)) := fun f h => by rw [← in14]; rfl
  have e04 : ∀ i, inG (F := F) c (.p04 i) = gpc (F := F) c outM (bx (2 * prw c (d4 i) + (1 - xp c)) 0 128 0 768) := fun i => by rw [← in04]; rfl
  simp only [e03, e14, e04]
  rw [univ_out c]
  have hlo : (gpc (F := F) c outM (loS c) : sProp 𝕄) ⊢ iprop((bigSep Finset.univ fun f : Fin 4 => (Atom.og f).interp A B c)
      ∗ (bigSep Finset.univ fun f : Fin 4 => bigSep Finset.univ fun h : Fin 7 => gpc (F := F) c outM (oS c f (h.val + 1)))) :=
    (gparts_split c outM (parts_lo c)).trans (Entails.of_eq (fam_first _))
  have hlo' := gparts_split (F := F) c outM (parts_row c (1 - xp c) (by have := xp_lt c; omega) (loS' c) fun i => mem_loS')
  have hhi : (gpc (F := F) c outM hiS : sProp 𝕄) ⊢ iprop((bigSep Finset.univ fun f : Fin 4 => (gpc (F := F) c outM (tS c f 0) : sProp 𝕄))
      ∗ (bigSep Finset.univ fun f : Fin 4 => bigSep Finset.univ fun h : Fin 7 => gpc (F := F) c outM (tS c f (h.val + 1)))) :=
    (gparts_split c outM (parts_hi c)).trans (Entails.of_eq (fam_first _))
  iintro H
  ihave H := (gpc_split c outM (disj_out c)) $$ H
  icases H with ⟨H1, H⟩
  ihave H := (gpc_split c outM (disj_out' c)) $$ H
  icases H with ⟨H2, H3⟩
  ihave H1 := hlo $$ H1
  ihave H2 := hlo' $$ H2
  ihave H3 := hhi $$ H3
  icases H1 with ⟨Hg, H03⟩
  icases H3 with ⟨H3, H14⟩
  ihave H3 := (in_hi A B c) $$ H3
  icases H3 with ⟨Hh, H13⟩
  isplitl [Hg]; · iexact Hg
  isplitl [Hh]; · iexact Hh
  isplitl [H13]; · iexact H13
  isplitl [H03]; · iexact H03
  isplitl [H14]; · iexact H14
  iexact H2

/-- The atoms of a device's buffers at the start. -/
abbrev memAtoms : List Atom := f8.map .P0 ++ f4.flatMap (fun f => [.g11 f 0, .g11 f 1, .g02 f 0, .g02 f 1]) ++ f4.map .xg ++ f4.map .og ++ f2.map .oh

/-- The send buffers' slots. -/
theorem in_send (c : Dev nD) : iprop((bigSep Finset.univ fun f : Fin 4 => gpc (F := F) c (p02sM f) Finset.univ) ∗ (bigSep Finset.univ fun f : Fin 4 => gpc (F := F) c (p11sM f) Finset.univ))
    ⊢ chain A B c (f4.flatMap (fun f => [.g11 f 0, .g11 f 1, .g02 f 0, .g02 f 1])) := by
  rw [chain_flat, ← bigSep_sep']
  refine bigSep_mono fun f _ => ?_
  have h1 : (gpc (F := F) c (p11sM f) Finset.univ : sProp 𝕄) ⊢ iprop((Atom.g11 f 0).interp A B c ∗ (Atom.g11 f 1).interp A B c) :=
    (gparts_split c (p11sM f) (parts_slot inb_p11s)).trans (Entails.of_eq (bigSep_two _))
  have h2 : (gpc (F := F) c (p02sM f) Finset.univ : sProp 𝕄) ⊢ iprop((Atom.g02 f 0).interp A B c ∗ (Atom.g02 f 1).interp A B c) :=
    (gparts_split c (p02sM f) (parts_slot inb_p02s)).trans (Entails.of_eq (bigSep_two _))
  simp only [chain_cons, chain_nil]
  show (iprop(gpc (F := F) c (p02sM f) Finset.univ ∗ gpc (F := F) c (p11sM f) Finset.univ) : sProp 𝕄) ⊢ _
  iintro ⟨H2, H1⟩
  ihave H1 := h1 $$ H1
  ihave H2 := h2 $$ H2
  icases H1 with ⟨Ha, Hb⟩
  icases H2 with ⟨Hc, Hd⟩
  isplitl [Ha]; · iexact Ha
  isplitl [Hb]; · iexact Hb
  isplitl [Hc]; · iexact Hc
  isplitl [Hd]; · iexact Hd
  iempintro

/-- A device's buffers at the start: the pieces it begins with, and all the landing places it offers. -/
theorem mem_start (c : Dev nD) : iprop(bufs (F := F) c ∗ gpc (F := F) c outM Finset.univ)
    ⊢ iprop(chain A B c memAtoms ∗ bigSep Finset.univ fun e => inG (F := F) c e) := by
  have hP : (gpc (F := F) c partM Finset.univ : sProp 𝕄) ⊢ bigSep Finset.univ fun k : Fin 8 => (Atom.P0 k).interp A B c := gparts_split c partM (parts_pair c)
  have h0 : (gpc (F := F) c p0rM Finset.univ : sProp 𝕄) ⊢ bigSep Finset.univ fun k : Fin 8 => inG (F := F) c (.p0x1 k) := gparts_split c p0rM (parts_slot inb_p0r)
  have h02 : (bigSep Finset.univ fun f : Fin 4 => (gpc (F := F) c (p02rM f) Finset.univ : sProp 𝕄)) ⊢ bigSep Finset.univ fun f : Fin 4 => bigSep Finset.univ fun h : Fin 7 => inG (F := F) c (.p02 f h) :=
    bigSep_mono fun f _ => gparts_split c (p02rM f) (parts_slot inb_p02r)
  have h11 : (bigSep Finset.univ fun f : Fin 4 => (gpc (F := F) c (p11rM f) Finset.univ : sProp 𝕄)) ⊢ bigSep Finset.univ fun f : Fin 4 => bigSep Finset.univ fun h : Fin 7 => inG (F := F) c (.p11 f h) :=
    bigSep_mono fun f _ => gparts_split c (p11rM f) (parts_slot inb_p11r)
  have hx : (gpc (F := F) c xaM Finset.univ : sProp 𝕄) ⊢ bigSep Finset.univ fun f : Fin 4 => (Atom.xg f).interp A B c := gparts_split c xaM parts_xa
  have h12 : (gpc (F := F) c p12rM Finset.univ : sProp 𝕄) ⊢ bigSep Finset.univ fun d : Fin 2 => inG (F := F) c (.p12 d) := gparts_split c p12rM (parts_slot inb_p11s)
  unfold bufs memAtoms
  rw [chain_append, chain_append, chain_append, chain_append, chain_fin, chain_fin, chain_fin, chain_fin, bigSep_kinds]
  iintro ⟨⟨HP, H0, H02r, H02s, H11r, H11s, Hx, H12⟩, Ho⟩
  ihave HP := hP $$ HP
  ihave H0 := h0 $$ H0
  ihave H02r := h02 $$ H02r
  ihave H11r := h11 $$ H11r
  ihave Hx := hx $$ Hx
  ihave H12 := h12 $$ H12
  ihave Hs := (in_send A B c) $$ [H02s H11s]
  · isplitl [H02s] <;> iassumption
  ihave Ho := (in_out A B c) $$ Ho
  icases Ho with ⟨Hg, Hh, H13, H03, H14, H04⟩
  isplitl [HP Hs Hx Hg Hh]
  · isplitl [HP Hs Hx Hg]
    · isplitl [HP Hs Hx]
      · isplitl [HP Hs]
        · isplitl [HP]; · iexact HP
          iexact Hs
        iexact Hx
      iexact Hg
    iexact Hh
  isplitl [H0]; · iexact H0
  isplitl [H11r]; · iexact H11r
  isplitl [H12]; · iexact H12
  isplitl [H02r]; · iexact H02r
  isplitl [H13]; · iexact H13
  isplitl [H03]; · iexact H03
  isplitl [H14]; · iexact H14
  iexact H04

/-- All the landing places are the offers to the three neighbours. -/
theorem offers (c : Dev nD) : (bigSep Finset.univ fun e => inG (F := F) c e) = iprop(offer (F := F) c 0 ∗ offer c 1 ∗ offer c 2) := by
  have hm : ∀ (κ : Fin 3) (e : Edge), e ∈ fromK κ ↔ rk (knd e) = κ := fun κ e => by simp only [Finset.mem_filter, Finset.mem_univ, true_and]
  have hd : ∀ κ κ' : Fin 3, κ ≠ κ' → Disjoint (fromK κ) (fromK κ') := fun κ κ' hne =>
    Finset.disjoint_left.mpr fun e h h' => hne (((hm κ e).mp h).symm.trans ((hm κ' e).mp h'))
  have e : (Finset.univ : Finset Edge) = fromK 0 ∪ (fromK 1 ∪ fromK 2) := by
    ext e
    simp only [Finset.mem_union, hm, Finset.mem_univ, true_iff]
    generalize rk (knd e) = κ
    revert κ; decide
  rw [e, bigSep_union (Finset.disjoint_union_right.mpr ⟨hd 0 1 (by decide), hd 0 2 (by decide)⟩), bigSep_union (hd 1 2 (by decide))]
  rfl

end Cert.Proof

end
-- ==== Proof.Back.lean ====
/-
  What a device ends with, put together: its result's buffer whole at the common contents, and its scratch buffers
  whole again.
-/
module

public import proofs.«01_k».proof.Proof.Ends

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Dev nD → S2048x1024.Idx → Elt F .bf16) (B : Dev nD → S1024x2048.Idx → Elt F .bf16)

theorem s_emp (P : sProp 𝕄) : iprop(P ∗ emp) = P :=
  have h1 : iprop(P ∗ emp) ⊢ P := by iintro ⟨H, -⟩; iexact H
  have h2 : P ⊢ iprop(P ∗ emp) := by
    iintro H; isplitl [H]; · iexact H
    iempintro
  BI.Entails.antisymm h1 h2

/-! ## The result -/

/-- The first column group's row blocks a device finishes, from the halves the gather rings and the last exchange leave. -/
theorem lo_back (c : Dev nD) :
    iprop((bigSep Finset.univ fun f : Fin 4 => bigSep Finset.univ fun h : Fin 7 => (Atom.src (.p03 f h)).interp A B c) ∗ (bigSep Finset.univ fun f : Fin 4 => (Atom.oL f).interp A B c)
      ∗ (bigSep Finset.univ fun i : Fin 8 => (Atom.src (.p04 i)).interp A B c)) ⊢ pcs c outM (loS c) fullShare (outV A B) := by
  have hl : iprop((bigSep Finset.univ fun f : Fin 4 => (Atom.oL f).interp A B c) ∗ (bigSep Finset.univ fun f : Fin 4 => bigSep Finset.univ fun h : Fin 7 => (Atom.src (.p03 f h)).interp A B c))
      ⊢ pcs c outM (loS c) fullShare.left (outV A B) := by
    refine (Entails.of_eq ?_).trans (parts_join c outM (parts_lo c) fullShare.left (outV A B))
    rw [fam_last]
    simp only [src03]
    rfl
  have hr : (bigSep Finset.univ fun i : Fin 8 => (Atom.src (.p04 i)).interp A B c) ⊢ pcs c outM (loS c) fullShare.right (outV A B) := by
    refine (Entails.of_eq ?_).trans (parts_join c outM (parts_row c (xp c) (xp_lt c) (loS c) fun i => mem_loS) fullShare.right (outV A B))
    refine bigSep_congr fun i _ => ?_
    rw [← set_r04]; rfl
  iintro ⟨H1, H2, H3⟩
  ihave Hl := hl $$ [H1 H2]
  · isplitl [H2] <;> iassumption
  ihave Hr := hr $$ H3
  iapply (pcs_unhalve c outM (loS c) fullShare (outV A B))
  isplitl [Hl] <;> iassumption

/-- The result's buffer at the end. -/
theorem out_back (c : Dev nD) : chain A B c outAtoms ⊢ pcs c outM Finset.univ fullShare (outV A B) := by
  have hlo' : (bigSep Finset.univ fun i : Fin 8 => (Atom.dst (.p04 i)).interp A B c) ⊢ pcs c outM (loS' c) fullShare (outV A B) := by
    refine (Entails.of_eq ?_).trans (parts_join c outM (parts_row c (1 - xp c) (by have := xp_lt c; omega) (loS' c) fun i => mem_loS') fullShare (outV A B))
    refine bigSep_congr fun i _ => ?_
    rw [← in04]; rfl
  have hhi : iprop((bigSep Finset.univ fun f : Fin 4 => (Atom.dst (.p14 f 6)).interp A B c) ∗ (bigSep Finset.univ fun f : Fin 4 => bigSep Finset.univ fun h : Fin 7 => (Atom.src (.p14 f h)).interp A B c))
      ⊢ pcs c outM hiS fullShare (outV A B) := by
    refine (Entails.of_eq ?_).trans (parts_join c outM (parts_hi c) fullShare (outV A B))
    rw [fam_last]
    have e1 : ∀ f : Fin 4, (Atom.dst (.p14 f 6)).interp A B c = pcs c outM (tS c f (Fin.last 7).val) fullShare (outV A B) := fun f => by
      rw [show tS c f (Fin.last 7).val = tS c f ((6 : Fin 7).val + 1) from rfl, ← in14]; rfl
    have e2 : ∀ (f : Fin 4) (h : Fin 7), (Atom.src (.p14 f h)).interp A B c = pcs c outM (tS c f h.castSucc.val) fullShare (outV A B) := fun f h => by
      rw [show tS c f h.castSucc.val = (r14 c f h).set from (set_r14 c f h).symm]; rfl
    simp only [e1, e2]
  unfold outAtoms
  rw [chain_append, chain_append, chain_append, chain_append, chain_flat, chain_fin, chain_flat, chain_flat, chain_fin]
  simp only [chain_fin, chain_cons, chain_nil, s_emp]
  rw [bigSep_sep']
  iintro ⟨⟨⟨⟨H03, HL⟩, H04s, H04d⟩, H14⟩, H6⟩
  ihave Hlo := (lo_back A B c) $$ [H03 HL H04s]
  · isplitl [H03]; · iexact H03
    isplitl [HL]; · iexact HL
    iexact H04s
  ihave Hlo' := hlo' $$ H04d
  ihave Hhi := hhi $$ [H14 H6]
  · isplitl [H6]; · iexact H6
    iexact H14
  rw [univ_out c]
  iapply (pcs_join c outM fullShare (outV A B) (disj_out c))
  isplitl [Hlo]; · iexact Hlo
  iapply (pcs_join c outM fullShare (outV A B) (disj_out' c))
  isplitl [Hlo']; · iexact Hlo'
  iexact Hhi

/-! ## The scratch buffers -/

/-- A row pair of the local product's buffer. -/
theorem pair_back (c : Dev nD) (k : Fin 8) :
    iprop((Atom.QR k).interp A B c ∗ (Atom.QL k).interp A B c ∗ (Atom.src (.p0x1 k)).interp A B c) ⊢ gpc (F := F) c partM (pairS c k) := by
  have hd : Disjoint (keepS c k) (r01 c k).set := Finset.sdiff_disjoint
  have hg : ∀ i ∈ (r01 c k).set, dotF A B c i = accF A B c i := fun i hi => by
    refine (acc_off A B c k i (give_sub c k hi) fun h9 => ?_).symm
    have hx := xp_lt c
    rw [set_r9, mem_bx] at h9
    rw [set_r01, mem_bx] at hi
    omega
  have e : keepS c k ∪ (r01 c k).set = pairS c k := Finset.sdiff_union_of_subset (give_sub c k)
  have hj : iprop((Atom.QL k).interp A B c ∗ (Atom.src (.p0x1 k)).interp A B c) ⊢ pcs c partM (pairS c k) fullShare.left (accF A B c) := by
    rw [← e]
    exact pcs_join' c partM fullShare.left hd (fun _ _ => rfl) hg
  iintro ⟨HR, HL, HS⟩
  ihave H := hj $$ [HL HS]
  · isplitl [HL] <;> iassumption
  iapply (gpc_intro c partM (pairS c k) (accF A B c))
  iapply (pcs_unhalve c partM (pairS c k) fullShare (accF A B c))
  isplitl [H]; · iexact H
  iapply (show (Atom.QR k).interp A B c ⊢ pcs c partM (pairS c k) fullShare.right (accF A B c) from .rfl); iexact HR

/-- What landed, as a piece at whatever it holds. -/
theorem dst_in (c : Dev nD) (e : Edge) : (Atom.dst e).interp A B c ⊢ inG (F := F) c e := gpc_intro c (dB e) _ _
theorem src_g (c : Dev nD) (f : Fin 4) : iprop((Atom.src (.p11 f 5)).interp A B c ∗ (Atom.src (.p11 f 6)).interp A B c ∗ (Atom.src (.p02 f 5)).interp A B c ∗ (Atom.src (.p02 f 6)).interp A B c)
    ⊢ iprop(gpc (F := F) c (p11sM f) Finset.univ ∗ gpc (F := F) c (p02sM f) Finset.univ) := by
  have a0 : (Atom.src (.p11 f 6)).interp A B c ⊢ gpc (F := F) c (p11sM f) (r11s 0).set := gpc_intro c (p11sM f) _ _
  have a1 : (Atom.src (.p11 f 5)).interp A B c ⊢ gpc (F := F) c (p11sM f) (r11s 1).set := gpc_intro c (p11sM f) _ _
  have b0 : (Atom.src (.p02 f 6)).interp A B c ⊢ gpc (F := F) c (p02sM f) (r02s 0).set := gpc_intro c (p02sM f) _ _
  have b1 : (Atom.src (.p02 f 5)).interp A B c ⊢ gpc (F := F) c (p02sM f) (r02s 1).set := gpc_intro c (p02sM f) _ _
  have h1 : iprop(gpc (F := F) c (p11sM f) (r11s 0).set ∗ gpc (F := F) c (p11sM f) (r11s 1).set) ⊢ (gpc (F := F) c (p11sM f) Finset.univ : sProp 𝕄) :=
    (Entails.of_eq (bigSep_two _).symm).trans (gparts_join c (p11sM f) (parts_slot inb_p11s))
  have h2 : iprop(gpc (F := F) c (p02sM f) (r02s 0).set ∗ gpc (F := F) c (p02sM f) (r02s 1).set) ⊢ (gpc (F := F) c (p02sM f) Finset.univ : sProp 𝕄) :=
    (Entails.of_eq (bigSep_two _).symm).trans (gparts_join c (p02sM f) (parts_slot inb_p02s))
  iintro ⟨Ha, Hb, Hc, Hd⟩
  isplitl [Ha Hb]
  · iapply h1
    isplitl [Hb]
    · iapply a0; iexact Hb
    · iapply a1; iexact Ha
  · iapply h2
    isplitl [Hd]
    · iapply b0; iexact Hd
    · iapply b1; iexact Hc

/-- A direction's two tiles of ring sums. -/
theorem xa_back (c : Dev nD) (d : Fin 2) : iprop((Atom.src (.p12 d)).interp A B c ∗ (Atom.xk d).interp A B c)
    ⊢ iprop((Atom.xg (fl d.val 0)).interp A B c ∗ (Atom.xg (fl d.val 1)).interp A B c) := by
  have hs : ∀ lf : Fin 2, lf.val = 1 - xp c → (Atom.src (.p12 d)).interp A B c ⊢ (Atom.xg (fl d.val lf.val)).interp A B c := fun lf hl => by
    show pcs c xaM (r12 c d).set fullShare (xaF A B c) ⊢ gpc (F := F) c xaM (rxa (fdir (fl d.val lf.val)) (flane (fl d.val lf.val))).set
    rw [set_r12 c d lf hl, fdir_fl, flane_fl]; exact gpc_intro c xaM _ _
  have hk : ∀ lf : Fin 2, lf.val = xp c → (Atom.xk d).interp A B c ⊢ (Atom.xg (fl d.val lf.val)).interp A B c := fun lf hl => by
    show pcs c xaM (rxk c d).set fullShare (xaF A B c) ⊢ gpc (F := F) c xaM (rxa (fdir (fl d.val lf.val)) (flane (fl d.val lf.val))).set
    rw [set_rxk c d lf hl, fdir_fl, flane_fl]; exact gpc_intro c xaM _ _
  have hx := xp_lt c
  rcases (show xp c = 1 ∨ xp c = 0 by omega) with h | h
  · have s0 := hs 0 (by rw [h]; rfl)
    have k1 := hk 1 (by rw [h]; rfl)
    iintro ⟨Hs, Hk⟩
    isplitl [Hs]
    · iapply s0; iexact Hs
    · iapply k1; iexact Hk
  · have k0 := hk 0 (by rw [h]; rfl)
    have s1 := hs 1 (by rw [h]; rfl)
    iintro ⟨Hs, Hk⟩
    isplitl [Hk]
    · iapply k0; iexact Hk
    · iapply s1; iexact Hs

/-- The scratch buffers at the end. -/
theorem bufs_back (c : Dev nD) : chain A B c bufAtoms ⊢ bufs (F := F) c := by
  have g0 : (bigSep Finset.univ fun k : Fin 8 => iprop((Atom.QR k).interp A B c ∗ (Atom.QL k).interp A B c ∗ (Atom.src (.p0x1 k)).interp A B c ∗ (Atom.dst (.p0x1 k)).interp A B c))
      ⊢ iprop(gpc (F := F) c partM Finset.univ ∗ gpc (F := F) c p0rM Finset.univ) := by
    have hm : (bigSep Finset.univ fun k : Fin 8 => iprop((Atom.QR k).interp A B c ∗ (Atom.QL k).interp A B c ∗ (Atom.src (.p0x1 k)).interp A B c ∗ (Atom.dst (.p0x1 k)).interp A B c))
        ⊢ bigSep Finset.univ fun k : Fin 8 => iprop(gpc (F := F) c partM (pairS c k) ∗ gpc (F := F) c p0rM (r0r k).set) := by
      refine bigSep_mono fun k _ => ?_
      have hp := pair_back A B c k
      have hd : (Atom.dst (.p0x1 k)).interp A B c ⊢ gpc (F := F) c p0rM (r0r k).set := dst_in A B c (.p0x1 k)
      show iprop((Atom.QR k).interp A B c ∗ (Atom.QL k).interp A B c ∗ (Atom.src (.p0x1 k)).interp A B c ∗ (Atom.dst (.p0x1 k)).interp A B c) ⊢ _
      iintro ⟨H1, H2, H3, H4⟩
      isplitl [H1 H2 H3]
      · iapply hp
        isplitl [H1]; · iexact H1
        isplitl [H2] <;> iassumption
      · iapply hd; iexact H4
    refine hm.trans ?_
    rw [bigSep_sep']
    have j1 := gparts_join (F := F) c partM (parts_pair c)
    have j2 : (bigSep Finset.univ fun k : Fin 8 => (gpc (F := F) c p0rM (r0r k).set : sProp 𝕄)) ⊢ gpc (F := F) c p0rM Finset.univ := gparts_join c p0rM (parts_slot inb_p0r)
    iintro ⟨H1, H2⟩
    isplitl [H1]
    · iapply j1; iexact H1
    · iapply j2; iexact H2
  have g11 : (bigSep Finset.univ fun f : Fin 4 => bigSep Finset.univ fun h : Fin 7 => (Atom.dst (.p11 f h)).interp A B c) ⊢ bigSep Finset.univ fun f : Fin 4 => (gpc (F := F) c (p11rM f) Finset.univ : sProp 𝕄) :=
    bigSep_mono fun f _ => (show _ ⊢ bigSep Finset.univ fun h : Fin 7 => (gpc (F := F) c (p11rM f) (r11r h).set : sProp 𝕄) from bigSep_mono fun h _ => dst_in A B c (.p11 f h)).trans
      (gparts_join c (p11rM f) (parts_slot inb_p11r))
  have g02 : (bigSep Finset.univ fun f : Fin 4 => bigSep Finset.univ fun h : Fin 7 => (Atom.dst (.p02 f h)).interp A B c) ⊢ bigSep Finset.univ fun f : Fin 4 => (gpc (F := F) c (p02rM f) Finset.univ : sProp 𝕄) :=
    bigSep_mono fun f _ => (show _ ⊢ bigSep Finset.univ fun h : Fin 7 => (gpc (F := F) c (p02rM f) (r02r h).set : sProp 𝕄) from bigSep_mono fun h _ => dst_in A B c (.p02 f h)).trans
      (gparts_join c (p02rM f) (parts_slot inb_p02r))
  have gs : (bigSep Finset.univ fun f : Fin 4 => iprop((Atom.src (.p11 f 5)).interp A B c ∗ (Atom.src (.p11 f 6)).interp A B c ∗ (Atom.src (.p02 f 5)).interp A B c ∗ (Atom.src (.p02 f 6)).interp A B c))
      ⊢ iprop((bigSep Finset.univ fun f : Fin 4 => gpc (F := F) c (p11sM f) Finset.univ) ∗ (bigSep Finset.univ fun f : Fin 4 => gpc (F := F) c (p02sM f) Finset.univ)) := by
    rw [← bigSep_sep']
    exact bigSep_mono fun f _ => src_g A B c f
  have gx : (bigSep Finset.univ fun d : Fin 2 => iprop((Atom.src (.p12 d)).interp A B c ∗ (Atom.xk d).interp A B c)) ⊢ gpc (F := F) c xaM Finset.univ := by
    have j : iprop((Atom.xg 0).interp A B c ∗ (Atom.xg 1).interp A B c ∗ (Atom.xg 2).interp A B c ∗ (Atom.xg 3).interp A B c) ⊢ gpc (F := F) c xaM Finset.univ :=
      (Entails.of_eq (bigSep_four fun f => (Atom.xg f).interp A B c).symm).trans (gparts_join c xaM parts_xa)
    have x0 : iprop((Atom.src (.p12 0)).interp A B c ∗ (Atom.xk 0).interp A B c) ⊢ iprop((Atom.xg 0).interp A B c ∗ (Atom.xg 1).interp A B c) := xa_back A B c 0
    have x1 : iprop((Atom.src (.p12 1)).interp A B c ∗ (Atom.xk 1).interp A B c) ⊢ iprop((Atom.xg 2).interp A B c ∗ (Atom.xg 3).interp A B c) := xa_back A B c 1
    rw [bigSep_two]
    iintro ⟨H0, H1⟩
    ihave H0 := x0 $$ H0
    ihave H1 := x1 $$ H1
    icases H0 with ⟨Ha, Hb⟩
    icases H1 with ⟨Hc, Hd⟩
    iapply j
    isplitl [Ha]; · iexact Ha
    isplitl [Hb]; · iexact Hb
    isplitl [Hc] <;> iassumption
  have g12 : (bigSep Finset.univ fun d : Fin 2 => (Atom.dst (.p12 d)).interp A B c) ⊢ gpc (F := F) c p12rM Finset.univ :=
    (show _ ⊢ bigSep Finset.univ fun d : Fin 2 => (gpc (F := F) c p12rM (r11s d).set : sProp 𝕄) from bigSep_mono fun d _ => dst_in A B c (.p12 d)).trans (gparts_join c p12rM (parts_slot inb_p11s))
  unfold bufAtoms bufs
  rw [chain_append, chain_append, chain_append, chain_append, chain_flat, chain_flat, chain_flat, chain_flat, chain_flat]
  simp only [chain_fin, chain_cons, chain_nil, s_emp]
  rw [bigSep_sep' (s := (Finset.univ : Finset (Fin 2)))]
  iintro ⟨⟨⟨⟨H0, H11⟩, H02⟩, Hs⟩, H12, Hx⟩
  ihave H0 := g0 $$ H0
  ihave H11 := g11 $$ H11
  ihave H02 := g02 $$ H02
  ihave Hs := gs $$ Hs
  ihave Hx := gx $$ Hx
  ihave H12 := g12 $$ H12
  icases H0 with ⟨HP, H0⟩
  icases Hs with ⟨H11s, H02s⟩
  isplitl [HP]; · iexact HP
  isplitl [H0]; · iexact H0
  isplitl [H02]; · iexact H02
  isplitl [H02s]; · iexact H02s
  isplitl [H11]; · iexact H11
  isplitl [H11s]; · iexact H11s
  isplitl [Hx]; · iexact Hx
  iexact H12

end Cert.Proof

end
-- ==== Proof.Setup.lean ====
/-
  The protocol's ghost state as the launch mints it and deals it out: each device's positions, the tokens of the duties
  it pays, the credits of the landings it waits for; and that, with its buffers, these are the atoms it starts with.
-/
module

public import proofs.«01_k».proof.Proof.Ends
public import Idealize.ShloMosaic.Lib.Pipeline.Launch

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S2048x1024.Idx → Elt F .bf16) (B : Dev nD → S1024x2048.Idx → Elt F .bf16)

/-! ## Families over the cells -/

theorem bigSep_opt {T : Type} [Fintype T] [DecidableEq T] (Φ : Option T → sProp 𝕄) :
    bigSep Finset.univ Φ = iprop(Φ none ∗ bigSep Finset.univ fun t => Φ (some t)) := by
  have e : (Finset.univ : Finset (Option T)) = insert none (Finset.univ.map Function.Embedding.some) := by
    ext x; cases x <;> simp
  rw [e, bigSep_insert (by simp), bigSep_map]; rfl

theorem bigSep_side (Φ : Bool × Edge → sProp 𝕄) :
    bigSep Finset.univ Φ = iprop((bigSep Finset.univ fun e => Φ (false, e)) ∗ bigSep Finset.univ fun e => Φ (true, e)) := by
  rw [bigSep_univ_prod]
  exact bigSep_univ_eq_bigSepL [false, true] (by decide) (by decide) _

theorem bigSep_cells (Φ : CK → sProp 𝕄) : bigSep Finset.univ Φ
    = iprop(Φ none ∗ (bigSep Finset.univ fun e => Φ (some (false, e))) ∗ bigSep Finset.univ fun e => Φ (some (true, e))) := by
  rw [bigSep_opt, bigSep_side]

theorem bigSep_three (Φ : Fin 3 → sProp 𝕄) : bigSep Finset.univ Φ = iprop(Φ 0 ∗ Φ 1 ∗ Φ 2) :=
  bigSep_univ_eq_bigSepL [0, 1, 2] (by decide) (by decide) Φ

/-! ## The tokens -/

/-- The protocol's cells, -/
def rdCells : Finset (GSem nD τ sig) := Finset.univ.map ⟨kcell, kcell_inj⟩
/-- and the tokens of their duties: three for a device's barrier, one for every other cell. -/
abbrev tokOf : Dev nD × (Fin 3 ⊕ (Bool × Edge)) → GSem nD τ sig × ℕ × Fin 3
  | (c, .inl κ) => (bCell c, 0, κ)
  | (c, .inr x) => (kcell (c, some x), 0, 0)
theorem tokOf_inj : Function.Injective tokOf := by
  rintro ⟨c, κ | x⟩ ⟨c', κ' | x'⟩ h
  · have h1 := kcell_inj (congrArg Prod.fst h)
    have h2 : κ = κ' := congrArg (fun y => y.2.2) h
    obtain rfl : c = c' := congrArg (fun y : Dev nD × CK => y.1) h1; rw [h2]
  · have h1 := congrArg Prod.snd (kcell_inj (congrArg Prod.fst h))
    cases h1
  · have h1 := congrArg Prod.snd (kcell_inj (congrArg Prod.fst h))
    cases h1
  · have h1 := kcell_inj (congrArg Prod.fst h)
    have h2 : x = x' := Option.some.inj (congrArg Prod.snd h1)
    obtain rfl : c = c' := congrArg (fun y : Dev nD × CK => y.1) h1; rw [h2]
def rdToks : Finset (GSem nD τ sig × ℕ × Fin 3) := Finset.univ.map ⟨tokOf, tokOf_inj⟩

/-- The launch's ghost element: the pipeline's and the protocol's. -/
def u₀ : UU := (initOf (Pipeline.cells cfgs cellOf_inj) (Pipeline.launchToks cfgs cellOf_inj), initOf rdCells rdToks)

/-- The tokens of a device's own cells. -/
def toks (c : Dev nD) : sProp 𝕄 :=
  iprop((bigSep Finset.univ fun κ : Fin 3 => dutyTok ER (bCell c) 0 κ) ∗ (bigSep Finset.univ fun e => dutyTok ER (sCell c e) 0 0) ∗ bigSep Finset.univ fun e => dutyTok ER (rCell c e) 0 0)
/-- The tokens of the duties a device pays. -/
def payToks (c : Dev nD) : sProp 𝕄 :=
  iprop((bigSep Finset.univ fun κ : Fin 3 => dutyTok ER (bCell (nbr c κ)) 0 κ) ∗ (bigSep Finset.univ fun e => dutyTok ER (sCell c e) 0 0)
    ∗ bigSep Finset.univ fun e => dutyTok ER (rCell (nbr c (knd e)) e) 0 0)
/-- A device's positions. -/
def poss (c : Dev nD) : sProp 𝕄 := bigSep Finset.univ fun k : CK => atPos ER (kcell (c, k)) 0 ∅ 0

/-- What the launch element deals a device. -/
def dealt (c : Dev nD) : sProp 𝕄 :=
  iprop((bigSep Finset.univ fun k : CK => roundState ER (Rd A B) (kcell (c, k)) 0)
    ∗ (bigSep Finset.univ fun k : CK => iprop(atPos ER (kcell (c, k)) 0 ∅ 0 ∗ reached ER (kcell (c, k)) 0)) ∗ toks c)

theorem fund_rd : BI.own (ER (initOf rdCells rdToks)) ⊢ (|==> bigSep Finset.univ (dealt A B) : sProp 𝕄) := by
  have hX (Φ : GSem nD τ sig → sProp 𝕄) : bigSep rdCells Φ = bigSep Finset.univ fun c : Dev nD => bigSep Finset.univ fun k : CK => Φ (kcell (c, k)) := by
    unfold rdCells; rw [bigSep_map, bigSep_univ_prod]; rfl
  have hT : bigSep rdToks (fun x => (dutyTok ER x.1 x.2.1 x.2.2 : sProp 𝕄)) = bigSep Finset.univ fun c : Dev nD => toks c := by
    unfold rdToks; rw [bigSep_map, bigSep_univ_prod]
    refine bigSep_congr fun c _ => ?_
    unfold toks
    rw [bigSep_univ_sum, bigSep_side]
    rfl
  iintro HX
  imod (Rounds.fund ER (Rd A B) rdCells rdToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

/-- The kernel's own semaphores. -/
abbrev osem : Bool × Edge → SemLoc sig := fun x => csem (some x)

set_option maxRecDepth 100000 in
theorem osem_scoped : ∀ e : Edge, (SemLoc.dma (ssem e) : SemLoc sig).isScoped .tc = true ∧ (SemLoc.dma (rsem e) : SemLoc sig).isScoped .tc = true
  | .p0x1 k => by revert k; decide +kernel
  | .p11 f h => by revert f h; decide +kernel
  | .p12 d => by revert d; decide +kernel
  | .p02 f h => by revert f h; decide +kernel
  | .p13 d => by revert d; decide +kernel
  | .p03 f h => by revert f h; decide +kernel
  | .p14 f h => by revert f h; decide +kernel
  | .p04 i => by revert i; decide +kernel

theorem key_stage (w : Fin cfg0.W) (s : Fin (cfg0.spec w).nbuf) : key (.dma ((cfg0.spec w).sem s)) = none := by
  fin_cases w <;> fin_cases s <;> decide +kernel

theorem ownSemFacts : Pipeline.OwnSemFacts cfg0.spec osem where
  isScoped := fun
    | (false, e) => (osem_scoped e).1
    | (true, e) => (osem_scoped e).2
  inj := fun _ _ h => Option.some.inj (csem_inj h)
  disj := fun x w s h => by
    have h1 := (key_csem (some x)).symm.trans ((congrArg key h).trans (key_stage w s))
    cases h1

theorem bar_sem (c : Dev nD) : (unscopedSems0 c : sProp 𝕄) = semVal (bCell c) 0 := by
  unfold unscopedSems0; rw [bigSep_eq_bigSepL_of_eq [SemLoc.reg barS] (by decide +kernel) (by decide)]; rfl

theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [bar_sem, bigSep_opt]; rfl

/-! ## The invariants -/

theorem alloc_dev (c : Dev nD) :
    iprop(Pipeline.ownSems0 (Ix := Unit) (Name := ℕ) (U := UU) (Lvl := ℕ) (Val := Elt F) (τ := τ) osem c ∗ unscopedSems0 c ∗ dealt A B c)
      ⊢ |={Set.univ}=> iprop((bigSep Finset.univ fun k : CK => iprop(∃ κ : ℕ, cellInv ER (Rd A B) κ (kcell (c, k))))
          ∗ (bigSep Finset.univ fun k : CK => iprop(atPos ER (kcell (c, k)) 0 ∅ 0 ∗ reached ER (kcell (c, k)) 0)) ∗ toks c) := by
  unfold dealt
  iintro ⟨Hos, Hus, Hst, Hat, Htok⟩
  ihave Hv := (Entails.of_eq (sems_eq (F := F) c)) $$ [Hos Hus]
  · isplitl [Hus] <;> iassumption
  imod (show iprop((bigSep Finset.univ fun k : CK => semVal (kcell (c, k)) 0) ∗ bigSep Finset.univ fun k : CK => roundState ER (Rd A B) (kcell (c, k)) 0)
      ⊢ (|={Set.univ}=> bigSep Finset.univ fun k : CK => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and every cell's round. -/
def known (Kn : Dev nD × CK → ℕ) : sProp 𝕄 :=
  iprop((bigSep Finset.univ fun p => cellInv ER (Rd A B) (Kn p) (kcell p)) ∗ bigSep Finset.univ fun p => reached ER (kcell p) 0)
instance known_persistent (Kn : Dev nD × CK → ℕ) : BI.Persistent (known A B Kn) := by unfold known; infer_instance

/-- What a device has after the launch's global step. -/
def given (c : Dev nD) : sProp 𝕄 := iprop(∃ Kn, known A B Kn ∗ poss c ∗ payToks c)

/-- The signals' tokens, by payer; -/
def sigEquiv : Dev nD × Fin 3 ≃ Dev nD × Fin 3 where
  toFun p := (nbr p.1 p.2, p.2)
  invFun p := (nbr p.1 (rk p.2), p.2)
  left_inv p := Prod.ext (rk_nbr p.1 p.2) rfl
  right_inv p := Prod.ext (nbr_rk p.1 p.2) rfl
/-- the landings' tokens, by issuer. -/
def edgeEquiv : Dev nD × Edge ≃ Dev nD × Edge where
  toFun p := (nbr p.1 (knd p.2), p.2)
  invFun p := (snd p.1 p.2, p.2)
  left_inv p := Prod.ext (snd_nbr p.1 p.2) rfl
  right_inv p := Prod.ext (nbr_snd p.1 p.2) rfl

theorem toks_around : (bigSep Finset.univ fun c : Dev nD => (toks c : sProp 𝕄)) ⊢ bigSep Finset.univ fun c : Dev nD => payToks c := by
  have h1 : (bigSep Finset.univ fun c : Dev nD => bigSep Finset.univ fun κ : Fin 3 => (dutyTok ER (bCell c) 0 κ : sProp 𝕄))
      = bigSep Finset.univ fun c : Dev nD => bigSep Finset.univ fun κ : Fin 3 => dutyTok ER (bCell (nbr c κ)) 0 κ := by
    rw [← bigSep_univ_prod (fun p : Dev nD × Fin 3 => (dutyTok ER (bCell p.1) 0 p.2 : sProp 𝕄)), bigSep_univ_equiv sigEquiv, bigSep_univ_prod]; rfl
  have h2 : (bigSep Finset.univ fun c : Dev nD => bigSep Finset.univ fun e : Edge => (dutyTok ER (rCell c e) 0 0 : sProp 𝕄))
      = bigSep Finset.univ fun c : Dev nD => bigSep Finset.univ fun e : Edge => dutyTok ER (rCell (nbr c (knd e)) e) 0 0 := by
    rw [← bigSep_univ_prod (fun p : Dev nD × Edge => (dutyTok ER (rCell p.1 p.2) 0 0 : sProp 𝕄)), bigSep_univ_equiv edgeEquiv, bigSep_univ_prod]; rfl
  unfold toks payToks
  rw [bigSep_sep', bigSep_sep', bigSep_sep', bigSep_sep', h1, h2]

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd A B) κ (kcell (c, k))))
          ∗ (bigSep Finset.univ fun k : CK => iprop(atPos ER (kcell (c, k)) 0 ∅ 0 ∗ reached ER (kcell (c, k)) 0)) ∗ toks c) : sProp 𝕄)
      ⊢ bigSep Finset.univ (given A B) := by
  have hp : (bigSep Finset.univ fun c : Dev nD => bigSep Finset.univ fun k : CK => (iprop(atPos ER (kcell (c, k)) 0 ∅ 0 ∗ reached ER (kcell (c, k)) 0) : sProp 𝕄))
      = iprop((bigSep Finset.univ fun c : Dev nD => poss c) ∗ bigSep Finset.univ fun p : Dev nD × CK => (reached ER (kcell p) 0 : sProp 𝕄)) := by
    rw [bigSep_univ_prod (fun p : Dev nD × CK => (reached ER (kcell p) 0 : sProp 𝕄)), ← bigSep_sep']
    exact bigSep_congr fun c _ => bigSep_sep' _ _ _
  rw [bigSep_sep', bigSep_sep', ← bigSep_univ_prod (fun p : Dev nD × CK => iprop(∃ κ : ℕ, cellInv ER (Rd A B) κ (kcell p))), hp]
  iintro ⟨HI, ⟨Hat, #HR⟩, Htok⟩
  ihave HK := (BI.bigSep_exists_pi Finset.univ (fun (p : Dev nD × CK) (κ : ℕ) => (cellInv ER (Rd A B) κ (kcell p) : sProp 𝕄))) $$ HI
  icases HK with ⟨%Kn, #HI⟩
  ihave Htk := (toks_around (F := F)) $$ Htok
  iapply (with_known (R := known A B Kn) (Φ := fun c : Dev nD => iprop(poss c ∗ payToks c)) fun c _ => show iprop(known A B Kn ∗ poss c ∗ payToks c) ⊢ given A B c from by
    unfold given; iintro H; iexists Kn; iexact H)
  isplitr
  · unfold known; isplitl; · iexact HI
    iexact HR
  · rw [bigSep_sep']
    isplitl [Hat]; · iexact Hat
    iexact Htk

/-- The launch's global step. -/
theorem glob : (bigSep Finset.univ fun c => iprop(Pipeline.ownSems0 (Ix := Unit) (Name := ℕ) (U := UU) (Lvl := ℕ) (Val := Elt F) (τ := τ) osem c ∗ unscopedSems0 c ∗ dealt A B c) : sProp 𝕄)
    ⊢ |={Set.univ}=> bigSep Finset.univ (given A B) :=
  ((bigSep_mono fun c _ => alloc_dev A B c).trans (bigSep_fupd _ _)).trans (BI.fupd_mono (regroup A B))

/-! ## The credits -/

/-- What is owed a cell, summed over what a device owes. -/
theorem owe_apply (d : Dev nD) (g : GSem nD τ sig) : ∀ l : List Ob, owe d l g () = (l.map fun o => if g = obCell d o then obN o else 0).sum
  | [] => rfl
  | o :: l => by
    show (owe d l + tallyAt (obCell d o) () (obN o)) g () = _
    rw [Pi.add_apply, Finsupp.add_apply, tallyAt_apply, owe_apply d g l, List.map_cons, List.sum_cons, Nat.add_comm]
    congr 1
    by_cases h : g = obCell d o
    · rw [if_pos ⟨h, rfl⟩, if_pos h]
    · rw [if_neg (fun h' => h h'.1), if_neg h]

theorem owed_all (g : GSem nD τ sig) : ∀ l : List Ob, (∑ d : Dev nD, owe d l g ()) = (l.map fun o => ∑ d : Dev nD, if g = obCell d o then obN o else 0).sum := by
    intro l
    rw [Finset.sum_congr rfl fun d _ => owe_apply d g l]
    induction l with
    | nil => simp
    | cons o l ih => simp only [List.map_cons, List.sum_cons, Finset.sum_add_distrib, ih]

theorem one_payer {p : Dev nD × CK} {o : Ob} {d₀ : Dev nD} (h : ∀ d, kcell p = obCell d o ↔ d = d₀) :
    (∑ d : Dev nD, if kcell p = obCell d o then obN o else 0) = obN o := by
  rw [Finset.sum_congr rfl fun d _ => if_congr (h d) rfl rfl, Finset.sum_ite_eq' Finset.univ d₀ fun _ => obN o, if_pos (Finset.mem_univ _)]
theorem no_payer {p : Dev nD × CK} {o : Ob} (h : ∀ d, kcell p ≠ obCell d o) :
    (∑ d : Dev nD, if kcell p = obCell d o then obN o else 0) = 0 :=
  (Finset.sum_congr rfl fun d _ => if_neg (h d)).trans Finset.sum_const_zero

theorem owed_bar (c : Dev nD) : (∑ d : Dev nD, owe d obl (bCell c) ()) = 3 := by
  have hs : ∀ κ : Fin 3, (∑ d : Dev nD, if bCell c = obCell d (.sg κ) then obN (.sg κ) else 0) = 1 := fun κ =>
    one_payer (p := (c, none)) (o := .sg κ) (d₀ := nbr c (rk κ)) fun d =>
      ⟨fun h => by rw [show c = nbr d κ from congrArg Prod.fst (kcell_inj h), rk_nbr], fun h => by rw [h]; show kcell (c, none) = kcell (nbr (nbr c (rk κ)) κ, none); rw [nbr_rk]⟩
  have he : ∀ l : List Edge, ((l.map Ob.ed).map fun o => ∑ d : Dev nD, if bCell c = obCell d o then obN o else 0).sum = 0 := fun l => by
    induction l with
    | nil => rfl
    | cons e l ih =>
      rw [List.map_cons, List.map_cons, List.sum_cons, ih, Nat.add_zero]
      exact no_payer (p := (c, none)) (o := .ed e) fun d h => by
        have := congrArg Prod.snd (kcell_inj h); cases this
  rw [owed_all]
  unfold obl
  rw [List.map_append, List.sum_append, he, Nat.add_zero]
  simp only [List.map_cons, List.map_nil, List.sum_cons, List.sum_nil]
  rw [hs 0, hs 1, hs 2]; rfl

theorem owed_land (c : Dev nD) (e : Edge) : (∑ d : Dev nD, owe d obl (rCell c e) ()) = NE e := by
  have hs : ∀ κ : Fin 3, (∑ d : Dev nD, if rCell c e = obCell d (.sg κ) then obN (.sg κ) else 0) = 0 := fun κ =>
    no_payer (p := (c, some (true, e))) (o := .sg κ) fun d h => by
      have := congrArg Prod.snd (kcell_inj h); cases this
  have he : ∀ e' : Edge, (∑ d : Dev nD, if rCell c e = obCell d (.ed e') then obN (.ed e') else 0) = if e' = e then NE e else 0 := fun e' => by
    by_cases hee : e' = e
    · subst hee
      rw [if_pos rfl]
      exact one_payer (p := (c, some (true, e'))) (o := .ed e') (d₀ := snd c e') fun d =>
        ⟨fun h => by rw [show c = nbr d (knd e') from congrArg Prod.fst (kcell_inj h), snd_nbr],
         fun h => by rw [h]; show kcell (c, some (true, e')) = kcell (nbr (snd c e') (knd e'), some (true, e')); rw [nbr_snd]⟩
    · rw [if_neg hee]
      exact no_payer (p := (c, some (true, e))) (o := .ed e') fun d h => hee (by
        have h1 : (some (true, e) : CK) = some (true, e') := congrArg Prod.snd (kcell_inj h)
        exact (congrArg Prod.snd (Option.some.inj h1)).symm)
  rw [owed_all]
  unfold obl
  rw [List.map_append, List.sum_append, List.map_map]
  rw [show ((fun o => ∑ d : Dev nD, if rCell c e = obCell d o then obN o else 0) ∘ Ob.ed) = fun e' => if e' = e then NE e else 0 from funext he,
    ← List.sum_toFinset _ edges_nodup, Finset.sum_ite_eq' edges.toFinset e fun _ => NE e, if_pos (List.mem_toFinset.mpr (edges_all e))]
  simp only [List.map_cons, List.map_nil, List.sum_cons, List.sum_nil]
  rw [hs 0, hs 1, hs 2]
  omega

/-- What each device owes at launch. -/
abbrev O₀ (c : Dev nD) : CellTallies nD τ sig Unit := owe c obl

theorem launch_tally (g : GSem nD τ sig) (n : ℕ) (h : (∑ d : Dev nD, owe d obl g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (bCell c) () 3) ∗ bigSep Finset.univ fun e => cred (tallyAt (rCell c e) () (NE e))) := by
  have hi : Set.InjOn (fun x : Option Edge => csem (x.map fun e => (true, e))) (Finset.univ : Finset (Option Edge)) := fun x _ y _ h => by
    have := csem_inj h
    cases x <;> cases y <;> simp_all
  unfold Pipeline.launchCred
  rw [bigSep_sdiff_split (Finset.subset_univ ((Finset.univ : Finset (Option Edge)).image fun x => csem (x.map fun e => (true, e)))), bigSep_image_of_injOn hi, bigSep_opt]
  refine (sep_mono_right (BI.affine)).trans ?_
  have e : iprop(cred (tallyAt (bCell c) () 3) ∗ bigSep Finset.univ fun e => cred (tallyAt (rCell c e) () (NE e)))
      = (iprop(cred (tallyOn (bCell c) (launchCredit (Pipeline.owing O₀) 0 (bCell c))) ∗ bigSep Finset.univ fun e => cred (tallyOn (rCell c e) (launchCredit (Pipeline.owing O₀) 0 (rCell c e)))) : sProp 𝕄) := by
    simp only [launch_tally _ _ (owed_bar c), launch_tally _ _ (owed_land c _)]
  rw [e]
  iintro ⟨H, -⟩
  iexact H

/-! ## What a device starts with -/

/-- The ghost state, the credits and the levels a device's body starts from. -/
def start (c : Dev nD) : sProp 𝕄 :=
  iprop((∃ Kn, ctx A B Kn ∗ poss c ∗ payToks c) ∗ cred (tallyAt (bCell c) () 3) ∗ bigSep Finset.univ fun e => cred (tallyAt (rCell c e) () (NE e)))

/-- With its buffers, these are the atoms a device starts with. -/
theorem atoms_start (c : Dev nD) :
    iprop((poss c ∗ payToks c) ∗ (cred (tallyAt (bCell c) () 3) ∗ bigSep Finset.univ fun e => cred (tallyAt (rCell c e) () (NE e)))
        ∗ (Atom.ab).interp A B c ∗ bufs (F := F) c ∗ gpc (F := F) c outM Finset.univ) ⊢ chain A B c atoms₀ := by
  have ht : chain A B c (edges.map .todo) = iprop((bigSep Finset.univ fun e => dutyTok ER (sCell c e) 0 0) ∗ (bigSep Finset.univ fun e => atPos ER (sCell c e) 0 ∅ 0)
      ∗ bigSep Finset.univ fun e => dutyTok ER (rCell (nbr c (knd e)) e) 0 0) := by
    rw [chain_edges, ← bigSep_sep', ← bigSep_sep']; rfl
  have hr : chain A B c (edges.map .inR) = iprop((bigSep Finset.univ fun e => cred (tallyAt (rCell c e) () (NE e))) ∗ bigSep Finset.univ fun e => atPos ER (rCell c e) 0 ∅ 0) := by
    rw [chain_edges, ← bigSep_sep']; rfl
  have h5 : chain A B c [.sigA 0, .sigA 1, .sigA 2, .barA, .ab] = iprop((dutyTok ER (bCell (nbr c 0)) 0 0 ∗ offer (F := F) c 0) ∗ (dutyTok ER (bCell (nbr c 1)) 0 1 ∗ offer (F := F) c 1)
      ∗ (dutyTok ER (bCell (nbr c 2)) 0 2 ∗ offer (F := F) c 2) ∗ (cred (tallyAt (bCell c) () 3) ∗ atPos ER (bCell c) 0 ∅ 0) ∗ (Atom.ab).interp A B c ∗ emp) := rfl
  have e0 : chain A B c atoms₀ = iprop(((chain A B c [.sigA 0, .sigA 1, .sigA 2, .barA, .ab] ∗ chain A B c memAtoms) ∗ chain A B c (edges.map .todo)) ∗ chain A B c (edges.map .inR)) := by
    rw [← chain_append, ← chain_append, ← chain_append]
    unfold atoms₀ memAtoms
    simp only [List.append_assoc]
  rw [e0, ht, hr, h5]
  unfold poss payToks
  rw [bigSep_cells, bigSep_three]
  iintro ⟨⟨⟨Hpb, Hps, Hpr⟩, ⟨Ht0, Ht1, Ht2⟩, Hts, Htr⟩, ⟨Hc3, Hcr⟩, Hab, Hb, Ho⟩
  ihave Hm := (mem_start A B c) $$ [Hb Ho]
  · isplitl [Hb] <;> iassumption
  icases Hm with ⟨Hm, Hin⟩
  ihave Hin := (Entails.of_eq (offers (F := F) c)) $$ Hin
  icases Hin with ⟨Ho0, Ho1, Ho2⟩
  isplitr [Hcr Hpr]
  · isplitr [Hts Hps Htr]
    · isplitr [Hm]
      · isplitl [Ht0 Ho0]
        · isplitl [Ht0] <;> iassumption
        isplitl [Ht1 Ho1]
        · isplitl [Ht1] <;> iassumption
        isplitl [Ht2 Ho2]
        · isplitl [Ht2] <;> iassumption
        isplitl [Hc3 Hpb]
        · isplitl [Hc3] <;> iassumption
        isplitl [Hab]; · iexact Hab
        iempintro
      · iexact Hm
    · isplitl [Hts]; · iexact Hts
      isplitl [Hps] <;> iassumption
  · isplitl [Hcr] <;> iassumption

/-- The cells closed at the end. -/
theorem close_all (Kn : Dev nD × CK → ℕ) (c : Dev nD) :
    iprop(ctx A B Kn ∗ chain A B c semAtoms) ⊢ |={Set.univ}=> (bigSep Finset.univ fun k : CK => semVal (kcell (c, k)) 0 : sProp 𝕄) := by
  have e : chain A B c semAtoms = bigSep Finset.univ fun k : CK => (atPos ER (kcell (c, k)) 1 ∅ 0 : sProp 𝕄) := by
    unfold semAtoms
    rw [chain_cons, chain_append, chain_edges, chain_edges, bigSep_cells]; rfl
  rw [e]
  refine (with_known (Ψ := fun k : CK => iprop(|={Set.univ}=> semVal (kcell (c, k)) 0)) fun k _ => ?_).trans (bigSep_fupd _ _)
  iintro ⟨#Hc, Hat⟩
  iapply (Rounds.cell_close ER (Rd A B) (Set.mem_univ (Kn (c, k))) (fun h => h) (R := 0 + 1) (duties_later A B (kcell (c, k))))
  isplitr
  · iapply (ctx_inv A B Kn (c, k)); iexact Hc
  · iexact Hat

end Cert.Proof

end
-- ==== Proof.Launch.lean ====
/-
  The run of all sixteen devices: the body's obligation on a device, and the launch, for any float values.
-/
module

public import proofs.«01_k».proof.Proof.Check
public import proofs.«01_k».proof.Proof.Back
public import proofs.«01_k».proof.Proof.Setup
public import Idealize.ShloMosaic.Lib.Pipeline.CollectiveSegs

@[expose] public section

set_option maxRecDepth 20000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

section Body

variable (A : Dev nD → S2048x1024.Idx → Elt F .bf16) (B : Dev nD → S1024x2048.Idx → Elt F .bf16)

/-- A device's counters at zero. -/
def zeros (c : Dev nD) : sProp 𝕄 := bigSep Finset.univ fun k : CK => semVal (kcell (c, k)) 0

/-- The body on a device: from its ghost state, its buffers and its staged blocks to the result staged, its buffers
    back and its counters at zero. -/
theorem body_sound (c : Dev nD) (W : Waits sig Unit) (Q : PUnit → sProp 𝕄) :
    iprop((start A B c ∗ bufs (F := F) c) ∗ owes (c : Thread nD τ) (owe c obl) W
        ∗ owns (c : Thread nD τ) aM fullShare (A c) ∗ owns (c : Thread nD τ) bM fullShare (B c) ∗ (∃ X, owns (c : Thread nD τ) outM fullShare X))
      ⊢ iprop((∀ W' : Waits sig Unit, (bufs (F := F) c ∗ zeros (F := F) c) ∗ owes (c : Thread nD τ) 0 W'
          ∗ owns (c : Thread nD τ) aM fullShare (A c) ∗ owns (c : Thread nD τ) bM fullShare (B c) ∗ owns (c : Thread nD τ) outM fullShare (outV A B) -∗ Q ⟨⟩)
        -∗ wp frame (wpE (defs₀ (F := F)) Variants.none c none) Set.univ (.op .deviceId fun c => runI c instrs (.ret ⟨⟩)) Q) := by
  have hab : (Atom.ab).interp A B c = (iprop(owns (c : Thread nD τ) aM fullShare (A c) ∗ owns (c : Thread nD τ) bM fullShare (B c)) : sProp 𝕄) := by
    rw [← pcs_univ, ← pcs_univ]; rfl
  have hg : iprop(∃ X, owns (c : Thread nD τ) outM fullShare X) ⊢ (gpc (F := F) c outM Finset.univ : sProp 𝕄) := by
    iintro ⟨%X, H⟩
    unfold gpc
    iexists X
    rw [pcs_univ]; iexact H
  have h1 : chain A B c atoms₁ = iprop((Atom.ab).interp A B c ∗ (chain A B c outAtoms ∗ chain A B c bufAtoms) ∗ chain A B c semAtoms) := by
    unfold atoms₁; rw [chain_cons, chain_append, chain_append]
  unfold start
  iintro ⟨⟨⟨⟨%Kn, #Hctx, Hlin⟩, Hcr⟩, Hb⟩, HO, Ha, Hbb, Hout⟩ Hk
  rw [wp_deviceId]
  ihave Hg := hg $$ Hout
  ihave Hat := (atoms_start A B c) $$ [Hlin Hcr Ha Hbb Hb Hg]
  · isplitl [Hlin]; · iexact Hlin
    isplitl [Hcr]; · iexact Hcr
    rw [hab]
    isplitl [Ha Hbb]
    · isplitl [Ha] <;> iassumption
    isplitl [Hb] <;> iassumption
  iapply (body_run A B Kn c (.ret ⟨⟩) Q W) $$ [HO Hat]
  · isplitr; · iexact Hctx
    isplitl [HO] <;> iassumption
  iintro %W' ⟨HO, Hat⟩
  ihave Hat := (Entails.of_eq h1) $$ Hat
  icases Hat with ⟨Hab, ⟨Ho, Hb⟩, Hs⟩
  unfold WP
  rw [wp_ret]
  imod (close_all A B Kn c) $$ [Hs] with Hz
  · isplitr; · iexact Hctx
    iexact Hs
  imodintro
  ihave Ho := (out_back A B c) $$ Ho
  ihave Hb := (bufs_back A B c) $$ Hb
  ihave Hab := (Entails.of_eq hab) $$ Hab
  ihave Ho := (Entails.of_eq (pcs_univ c outM fullShare (outV A B))) $$ Ho
  icases Hab with ⟨Ha, Hbb⟩
  iapply Hk
  isplitl [Hb Hz]
  · unfold zeros
    isplitl [Hb] <;> iassumption
  isplitl [HO]; · iexact HO
  isplitl [Ha]; · iexact Ha
  isplitl [Hbb] <;> iassumption

end Body

/-! ## The launch's data -/

variable (m : (ℓ : Loc nD τ sig) → Buf (Elt F) ℓ) (ρ : Dev nD → PrngReg)

abbrev s₀ : MemSt nD τ sig (Elt F) := ⟨m, fun _ => 0, ρ⟩

/-- A device's part of the first array, as staged; -/
def stA (c : Dev nD) : S2048x1024.Idx → Elt F .bf16 := (win0_0.blk (0 : Fin 1)).view.read (Elt F) ((s₀ m ρ).mem ((c : Thread nD τ).loc main_arg0))
/-- of the second. -/
def stB (c : Dev nD) : S1024x2048.Idx → Elt F .bf16 := (win0_1.blk (0 : Fin 1)).view.read (Elt F) ((s₀ m ρ).mem ((c : Thread nD τ).loc main_arg1))

/-- The launch's data: what each device stages, leaves and owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stA m ρ c
    | ⟨1, _⟩ => stB m ρ c
    | ⟨2, _⟩ => outV (stA m ρ) (stB m ρ)
  Φ t := match t with
    | ⟨0, _⟩ => iprop(start (stA m ρ) (stB m ρ) c ∗ bufs (F := F) c)
    | ⟨_ + 1, _⟩ => iprop(bufs (F := F) c ∗ zeros (F := F) c)
  q _ := fullShare
  owed t := match t with
    | ⟨0, _⟩ => owe c obl
    | ⟨_ + 1, _⟩ => 0

/-- What the body is given; -/
def given₀ (c : Dev nD) : sProp 𝕄 :=
  iprop((start (stA m ρ) (stB m ρ) c ∗ bufs (F := F) c) ∗ (dats m ρ 0 c).owesAt () (t0_0 : Fin cfg0.N).castSucc
    ∗ (∃ d, owns (c : Thread nD τ) aM fullShare ((dats m ρ 0 c).before (0 : Fin 3) t0_0 d))
    ∗ (∃ d, owns (c : Thread nD τ) bM fullShare ((dats m ρ 0 c).before (1 : Fin 3) t0_0 d))
    ∗ (∃ d, owns (c : Thread nD τ) outM fullShare ((dats m ρ 0 c).before (2 : Fin 3) t0_0 d)))
/-- and what it leaves. -/
def left₁ (c : Dev nD) : sProp 𝕄 :=
  iprop((bufs (F := F) c ∗ zeros (F := F) c) ∗ (dats m ρ 0 c).owesAt () (t0_0 : Fin cfg0.N).succ
    ∗ owns (c : Thread nD τ) aM fullShare (stA m ρ c) ∗ owns (c : Thread nD τ) bM fullShare (stB m ρ c) ∗ owns (c : Thread nD τ) outM fullShare (outV (stA m ρ) (stB m ρ)))

theorem before_a (c : Dev nD) (d) : (dats m ρ 0 c).before (0 : Fin 3) t0_0 d = stA m ρ c := by
  unfold Dat.before; rw [if_pos (show (cfg0.win (0 : Fin 3)).fetch t0_0 = true from rfl)]; rfl
theorem before_b (c : Dev nD) (d) : (dats m ρ 0 c).before (1 : Fin 3) t0_0 d = stB m ρ c := by
  unfold Dat.before; rw [if_pos (show (cfg0.win (1 : Fin 3)).fetch t0_0 = true from rfl)]; rfl

theorem body_given (c : Dev nD) :
    given₀ m ρ c ⊢ wp frame (wpE (defs₀ (F := F)) Variants.none c none) Set.univ (.op .deviceId fun c => runI c instrs (.ret ⟨⟩)) (fun _ => left₁ m ρ c) := by
  unfold given₀ Dat.owesAt Pipeline.owesWithin
  iintro ⟨Hs, ⟨%W, -, HO⟩, ⟨%d0, Ha⟩, ⟨%d1, Hb⟩, ⟨%d2, Ho⟩⟩
  rw [before_a, before_b]
  iapply (body_sound (stA m ρ) (stB m ρ) c W fun _ => left₁ m ρ c) $$ [Hs HO Ha Hb Ho]
  · isplitl [Hs]; · iexact Hs
    isplitl [HO]; · iexact HO
    isplitl [Ha]; · iexact Ha
    isplitl [Hb]; · iexact Hb
    iexists _; iexact Ho
  iintro %W' ⟨Hs, HO, Ha, Hb, Ho⟩
  unfold left₁ Dat.owesAt Pipeline.owesWithin
  isplitl [Hs]; · iexact Hs
  isplitl [HO]
  · iexists W'
    isplitr; · ipureintro; exact fun _ _ => Or.inl trivial
    iexact HO
  isplitl [Ha]; · iexact Ha
  isplitl [Hb] <;> iassumption

theorem body_text : defs₀ (F := F) .tc cfg0.body (cfg0.bodyArgs t0_0 (cfg0.slots t0_0)) = .op .deviceId fun c => runI c instrs (.ret ⟨⟩) :=
  Eq.trans (by rfl) body_eq

set_option maxRecDepth 100000 in
/-- The library's body obligation on a device. -/
theorem body_obligation (c : Dev nD) : BodyObligation (dats (F := F) m ρ 0 c) (defs₀ (F := F)) Variants.none () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  rw [body_text]
  exact body_given m ρ c

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (stA m ρ) (stB m ρ) c)
      ⊢ |={Set.univ}=> iprop(start (stA m ρ) (stB m ρ) c ∗ emp) := by
  iintro ⟨-, Hlev, Hcr, -, HG⟩
  ihave Hc := (creds (F := F) c) $$ Hcr
  unfold start given
  icases HG with ⟨%Kn, Hkn, Hlin⟩
  imodintro
  isplitl
  · isplitr [Hc]
    · iexists Kn
      isplitr [Hlin]
      · unfold ctx known
        icases Hkn with ⟨HI, HR⟩
        isplitl [HI]; · iexact HI
        isplitl [HR] <;> iassumption
      iexact Hlin
    iexact Hc
  · iempintro

theorem phi_in (c : Dev nD) :
    iprop(start (stA m ρ) (stB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (stA m ρ) (stB m ρ) c ∗ bufs (F := F) c) from rfl, ← bufs_eq]
  iintro ⟨Hs, -, Hr⟩
  isplitl [Hs] <;> iassumption

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bufs (F := F) c ∗ zeros (F := F) c) from rfl, ← bufs_eq]
  unfold zeros
  rw [← sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hk := key_stage w s
    rcases t with ⟨_ | _, ht⟩
    · exact mayWait c _ obl fun o _ => by
        rw [hk]
        cases o with
        | sg κ => exact Nat.one_pos
        | ed e => exact Nat.lt_of_lt_of_le Nat.two_pos (Nat.le_add_right 2 (lvE e))
    · exact mayWait c _ [] fun o ho => by cases ho

theorem share_eq (c : Dev nD) (w : Fin cfg0.W) : (dats (F := F) m ρ 0 c).share w = fullShare := by
  unfold Dat.share; split <;> rfl

/-- What a window's array holds after the run. -/
def finalA (c : Dev nD) (w : Fin cfg0.W) : Buf (Elt F) ((cfg0.win w).arr.view.loc (c : Thread nD τ)) := (dats m ρ 0 c).arrAt w cfg0.N

/-- Every device's arrays hold what they should. -/
def Ends (r : PUnit × MemSt nD τ sig (Elt F)) : Prop :=
  ∀ c : Dev nD, ∀ w : Fin cfg0.W, r.2.mem ((cfg0.win w).arr.view.loc (c : Thread nD τ)) = finalA m ρ c w

set_option maxRecDepth 100000 in
/-- On the mesh of sixteen devices, for any float values, from any memory with zero counters: every weakly fair
    execution of the program terminates, and every final state has the devices' arrays at the computed contents and
    every semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (stA m ρ) (stB m ρ)) (G' := given (stA m ρ) (stB m ρ)) (u₀ := u₀)
    (hu₀ := by
      unfold u₀
      iintro Hu
      ihave H := (ownU_pair _ _) $$ Hu
      icases H with ⟨HP, HX⟩
      imod (fund_rd (stA m ρ) (stB m ρ)) $$ HX with HG
      imodintro
      isplitl [HP] <;> iassumption)
    (hglob := glob (stA m ρ) (stB m ρ))
    (hA := fun _ _ => rfl) (hpf := fun _ k => k.elim0)
    (X := start (stA m ρ) (stB m ρ)) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they were; -/
theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _

end Cert.Proof

end
-- ==== Proof.Frames.lean ====
/-
  The frames: the kernel's two programs from the run of `Launch`, the reference's from its run.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 100000

noncomputable section

namespace Cert.Proof

open Idealize.ShloMosaic Idealize.SL.Sem

/-- The idealized kernel terminates, leaves its arguments and zeroes its counters. -/
theorem frame_ideal : Cert.quiescent_KernelIdeal := fun m ρ _ =>
  (θ_run Cert.KernelIdeal.defs _ _).mono
    (fun _ h => ⟨fun c => ⟨(h.1 c (0 : Fin 3)).trans (final_a m ρ c), (h.1 c (1 : Fin 3)).trans (final_b m ρ c)⟩, h.2⟩)
    (run_main (F := Ideal) m ρ)

/-- The kernel's bodies are the idealized kernel's: the two texts are the same, -/
theorem same_bodies : (@Cert.Kernel.defs₀ Bits _ _) = @Cert.KernelIdeal.defs₀ Bits _ _ :=
  congrArg Defs.onTc (funext fun ℓ => funext fun a => by
    match ℓ, a with
    | 0, (t, s) => rfl
    | ⟨_ + 1, h⟩, _ => exact absurd h (Nat.not_lt.2 (Nat.le_add_left _ _)))
/-- with the launches around them too. -/
theorem same_defs : (@Cert.Kernel.defs Bits _ _) = @Cert.KernelIdeal.defs Bits _ _ :=
  congrArg (Pipeline.defs (@Cert.Kernel.pcfgs Bits _)) same_bodies

/-- So the kernel also terminates, leaves its arguments and zeroes its counters. -/
theorem frame_kernel : Cert.quiescent_Kernel := fun m ρ _ => by
  rw [same_defs]
  exact (θ_run Cert.KernelIdeal.defs _ _).mono
    (fun _ h => ⟨fun c => ⟨(h.1 c (0 : Fin 3)).trans (final_a m ρ c), (h.1 c (1 : Fin 3)).trans (final_b m ρ c)⟩, h.2⟩)
    (run_main (F := Bits) m ρ)

/-- So does the reference. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Values.lean ====
/-
  What the payloads compute over the extended reals, at an index: a product row, a slice of a row, a sum of two, a
  maximum with zero.
-/
module

public import proofs.«01_k».proof.Proof.Cont
public import Idealize.ShloMosaic.Lib.Pointwise

@[expose] public section

set_option maxRecDepth 20000

noncomputable section

namespace Cert.Proof

open Cert.KernelIdeal Cert.KernelIdeal.Gen

open Idealize.ShloMosaic hiding ix1 ix2 ix3 ix4 ix5
open Idealize.ShloMosaic.TcCoe
open Idealize.ShloMosaic.ValueIdx Idealize.ShloMosaic.ValueKit
open Idealize.SL.Sem

/-- A column of the second group, by direction; -/
def co1 (d : Fin 2) (q : Fin 640) : Fin 2048 := ⟨768 + 640 * d.val + q.val, by omega⟩
/-- a row of a first-group piece; -/
def ro0 (f : Fin 4) (p : Fin 64) : Fin 128 :=
  match f with
  | 0 | 2 => ⟨p.val, by omega⟩
  | 1 | 3 => ⟨64 + p.val, by omega⟩
/-- a column of the first group; -/
def co0 (f : Fin 4) (q : Fin 384) : Fin 2048 :=
  match f with
  | 0 | 1 => ⟨q.val, by omega⟩
  | 2 | 3 => ⟨384 + q.val, by omega⟩
/-- a column of the first group's whole width. -/
def cw (q : Fin 768) : Fin 2048 := ⟨q.val, lt_trans q.isLt (by decide)⟩

/-- A row of the local product is the sum of the products of its factors. -/
theorem dotV_at (a : Vec Ideal S128x1024 .bf16) (b : Vec Ideal S1024x2048 .bf16) (p : Fin 128) (q : Fin 2048) :
    dotV a b (ix3 (0 : Fin 1) p q) = ∑ k : Fin 1024, (show EReal from a (ix2 p k)) * b (ix2 k q) := by
  pointwise [dotV, k0_pay1]
  rfl

/-- A second-group flow starts with its columns of the row; -/
theorem seed11_at (d : Fin 2) (row : Vec Ideal S1x128x2048 .bf16) (p : Fin 128) (q : Fin 640) :
    seed11V d row (ix3 (0 : Fin 1) p q) = row (ix3 (0 : Fin 1) p (co1 d q)) := by
  fin_cases d
  · show k0_pay4 row _ = _
    pointwise [k0_pay4]
    rfl
  · show k0_pay6 row _ = _
    pointwise [k0_pay6]
    rfl

/-- it adds them to what arrived; -/
theorem acc11_at (d : Fin 2) (row : Vec Ideal S1x128x2048 .bf16) (w : Vec Ideal S1x128x640 .bf16) (p : Fin 128) (q : Fin 640) :
    acc11V d row w (ix3 (0 : Fin 1) p q) = (show EReal from w (ix3 (0 : Fin 1) p q)) + row (ix3 (0 : Fin 1) p (co1 d q)) := by
  fin_cases d
  · show k0_pay14 row w _ = _
    pointwise [k0_pay14]
    rfl
  · show k0_pay18 row w _ = _
    pointwise [k0_pay18]
    rfl

/-- so does its last hop. -/
theorem fin11_at (d : Fin 2) (row : Vec Ideal S1x128x2048 .bf16) (w : Vec Ideal S1x128x640 .bf16) (p : Fin 128) (q : Fin 640) :
    fin11V d row w (ix4 (0 : Fin 1) (0 : Fin 1) p q) = (show EReal from w (ix3 (0 : Fin 1) p q)) + row (ix3 (0 : Fin 1) p (co1 d q)) := by
  fin_cases d
  · show k0_pay65 row w _ = _
    pointwise [k0_pay65]
    rfl
  · show k0_pay66 row w _ = _
    pointwise [k0_pay66]
    rfl

/-- The partner's columns are added to the row's. -/
theorem acc01_at (w : Vec Ideal S1x128x768 .bf16) (row : Vec Ideal S1x128x2048 .bf16) (p : Fin 128) (q : Fin 768) :
    acc01V w row (ix3 (0 : Fin 1) p q) = (show EReal from w (ix3 (0 : Fin 1) p q)) + row (ix3 (0 : Fin 1) p (cw q)) := by
  pointwise [acc01V, k0_pay68]
  rfl

/-- A first-group flow starts with its piece of the row; -/
theorem seed02_at (f : Fin 4) (row : Vec Ideal S1x128x2048 .bf16) (p : Fin 64) (q : Fin 384) :
    seed02V f row (ix3 (0 : Fin 1) p q) = row (ix3 (0 : Fin 1) (ro0 f p) (co0 f q)) := by
  fin_cases f
  · show k0_pay81 row _ = _
    pointwise [k0_pay81, k0_pay80]
    rfl
  · show k0_pay82 row _ = _
    pointwise [k0_pay82, k0_pay80]
    rfl
  · show k0_pay83 row _ = _
    pointwise [k0_pay83, k0_pay80]
    rfl
  · show k0_pay84 row _ = _
    pointwise [k0_pay84, k0_pay80]
    rfl

/-- it adds it to what arrived; -/
theorem acc02_at (f : Fin 4) (row : Vec Ideal S1x128x2048 .bf16) (w : Vec Ideal S1x64x384 .bf16) (p : Fin 64) (q : Fin 384) :
    acc02V f row w (ix3 (0 : Fin 1) p q) = (show EReal from w (ix3 (0 : Fin 1) p q)) + row (ix3 (0 : Fin 1) (ro0 f p) (co0 f q)) := by
  fin_cases f
  · show k0_pay85 row w _ = _
    pointwise [k0_pay85]
    rfl
  · show k0_pay112 row w _ = _
    pointwise [k0_pay112]
    rfl
  · show k0_pay89 row w _ = _
    pointwise [k0_pay89]
    rfl
  · show k0_pay90 row w _ = _
    pointwise [k0_pay90]
    rfl

/-- and its last hop clips the sum below at zero. -/
theorem fin02_at (f : Fin 4) (row : Vec Ideal S1x128x2048 .bf16) (w : Vec Ideal S1x64x384 .bf16) (p : Fin 64) (q : Fin 384) :
    fin02V f row w (ix3 (0 : Fin 1) p q) = max ((show EReal from w (ix3 (0 : Fin 1) p q)) + row (ix3 (0 : Fin 1) (ro0 f p) (co0 f q))) 0 := by
  fin_cases f
  · show k0_pay123 row w _ = _
    pointwise [k0_pay123]
    rfl
  · show k0_pay124 row w _ = _
    pointwise [k0_pay124]
    rfl
  · show k0_pay125 row w _ = _
    pointwise [k0_pay125]
    rfl
  · show k0_pay126 row w _ = _
    pointwise [k0_pay126]
    rfl

/-- The second group's tile is the clipped sum of the two rings' sums. -/
theorem fin13_at (w : Vec Ideal S1x128x640 .bf16) (y : Vec Ideal S1x1x128x640 .bf16) (p : Fin 128) (q : Fin 640) :
    fin13V w y (ix3 (0 : Fin 1) p q) = max ((show EReal from w (ix3 (0 : Fin 1) p q)) + y (ix4 (0 : Fin 1) (0 : Fin 1) p q)) 0 := by
  pointwise [fin13V, k0_pay129]
  rfl

end Cert.Proof

end
-- ==== Proof.Rings.lean ====
/-
  The result over the extended reals: each ring sums its eight devices' products, the partner's ring the other eight, and
  so every tile of the result is the clipped sum over all sixteen devices.
-/
module

public import proofs.«01_k».proof.Proof.Values

@[expose] public section

set_option maxRecDepth 20000

noncomputable section

namespace Cert.Proof

open Cert.KernelIdeal Cert.KernelIdeal.Gen

open Idealize.ShloMosaic hiding ix1 ix2 ix3 ix4 ix5
open Idealize.ShloMosaic.TcCoe
open Idealize.ShloMosaic.ValueIdx Idealize.ShloMosaic.ValueKit
open Idealize.SL.Sem

/-! ## The devices of two rings -/

/-- Eight steps back from a device and from its partner. -/
def walk (f : Fin 4) (c : Dev nD) : Fin 8 ⊕ Fin 8 → Dev nD
  | .inl t => (prv f)^[t.val] c
  | .inr t => (prv f)^[t.val] (nbr c 0)

/-- They meet every device, -/
theorem walk_onto : ∀ (f : Fin 4) (c x : Dev nD), (∃ t : Fin 8, (prv f)^[t.val] c = x) ∨ ∃ t : Fin 8, (prv f)^[t.val] (nbr c 0) = x := by
  decide +kernel
/-- and each once. -/
theorem walk_bij (f : Fin 4) (c : Dev nD) : Function.Bijective (walk f c) :=
  (Fintype.bijective_iff_surjective_and_card _).2
    ⟨fun x => (walk_onto f c x).elim (fun ⟨t, h⟩ => ⟨.inl t, h⟩) (fun ⟨t, h⟩ => ⟨.inr t, h⟩), by simp [nD]⟩

/-- So the sums over the two rings make the sum over all devices. -/
theorem sum_rings (f : Fin 4) (c : Dev nD) (g : Dev nD → EReal) :
    ∑ t ∈ Finset.range 8, g ((prv f)^[t] (nbr c 0)) + ∑ t ∈ Finset.range 8, g ((prv f)^[t] c) = ∑ x : Dev nD, g x := by
  rw [← (walk_bij f c).sum_comp g, Fintype.sum_sum_type, Finset.sum_range, Finset.sum_range, add_comm]
  rfl

/-- The partner's step back is the step back's partner; -/
theorem nbr_prv : ∀ (f : Fin 4) (c : Dev nD), nbr (prv f c) 0 = prv f (nbr c 0) := by decide +kernel
theorem nbr_iter (f : Fin 4) (c : Dev nD) (t : ℕ) : nbr ((prv f)^[t] c) 0 = (prv f)^[t] (nbr c 0) := by
  induction t generalizing c with
  | zero => rfl
  | succ t ih => rw [Function.iterate_succ_apply, Function.iterate_succ_apply, ih, nbr_prv]
/-- a ring keeps its lane; -/
theorem xp_iter (f : Fin 4) (c : Dev nD) (t : ℕ) : xp ((prv f)^[t] c) = xp c := by
  induction t generalizing c with
  | zero => rfl
  | succ t ih => rw [Function.iterate_succ_apply, ih, xp_prv]
/-- and the row a device sends on is the row the next one adds to. -/
theorem rowF_prv (f : Fin 4) (c : Dev nD) (g l : ℕ) (hg : g < 8) : rowF (prv f c) (gd (fdir f) g) l = rowF c (gd (fdir f) (g + 1)) l := by
  have h := prw_prv_g f c ⟨g, hg⟩
  apply Fin.ext
  show (2 * prw (prv f c) (gd (fdir f) g) + l) % 16 = (2 * prw c (gd (fdir f) (g + 1)) + l) % 16
  exact congrArg (fun x => (2 * x + l) % 16) h

variable (A : Dev nD → S2048x1024.Idx → Elt Ideal .bf16) (B : Dev nD → S1024x2048.Idx → Elt Ideal .bf16)

/-- A device's product at an element of the result. -/
abbrev D (r : Fin 16) (p : Fin 128) (q : Fin 2048) (c : Dev nD) : EReal := dotF A B c (ix3 r p q)

/-- A step of a ring's sum: what the devices before summed and the device's own. -/
theorem sum_step (f : Fin 4) (c : Dev nD) (h : ℕ) (g : Dev nD → EReal) :
    ∑ t ∈ Finset.range h, g ((prv f)^[t] (prv f c)) + g c = ∑ t ∈ Finset.range (h + 1), g ((prv f)^[t] c) := by
  rw [Finset.sum_range_succ']
  rfl

/-! ## The second group -/

/-- What a flow of the second group sends at hop `h`: the products of the `h + 1` devices it has passed. -/
theorem V11_at (f : Fin 4) (p : Fin 128) (q : Fin 640) (h : ℕ) (hh : h < 8) (c : Dev nD) :
    V11 A B f h c (ix3 (0 : Fin 1) p q)
      = ∑ t ∈ Finset.range (h + 1), D A B (rowF c (gd (fdir f) h) (flane f).val) p (co1 (fdir f) q) ((prv f)^[t] c) := by
  induction h generalizing c with
  | zero => rw [V11, seed11_at, Finset.sum_range_one]; rfl
  | succ h ih =>
    rw [V11, acc11_at, ih (by omega), rowF_prv f c h _ (by omega)]
    exact sum_step f c (h + 1) (D A B (rowF c (gd (fdir f) (h + 1)) (flane f).val) p (co1 (fdir f) q))

/-- What it ends with: the whole ring's products. -/
theorem X11_at (f : Fin 4) (p : Fin 128) (q : Fin 640) (c : Dev nD) :
    X11 A B f c (ix4 (0 : Fin 1) (0 : Fin 1) p q)
      = ∑ t ∈ Finset.range 8, D A B (rowF c (gd (fdir f) 7) (flane f).val) p (co1 (fdir f) q) ((prv f)^[t] c) := by
  rw [X11, fin11_at, V11_at A B f p q 6 (by decide), rowF_prv f c 6 _ (by decide)]
  exact sum_step f c 7 (D A B (rowF c (gd (fdir f) 7) (flane f).val) p (co1 (fdir f) q))

theorem fdir_fl_dir : ∀ d l : Fin 2, fdir (fl d.val l.val) = d := by decide
theorem flane_fl_val : ∀ d l : Fin 2, (flane (fl d.val l.val)).val = l.val := by decide
theorem rowF_nbr (c : Dev nD) (δ l : ℕ) : rowF (nbr c 0) δ l = rowF c δ l := by
  apply Fin.ext
  show (2 * ((r8 (nbr c 0) + δ) % 8) + l) % 16 = _
  rw [r8_nbr0]
  rfl

/-- The finished tile is the clipped sum over all devices. -/
theorem o13_at (d : Fin 2) (c : Dev nD) (p : Fin 128) (q : Fin 640) :
    o13 A B d c (ix3 (0 : Fin 1) p q) = max (∑ x : Dev nD, D A B (rowF c (gd d 7) (xp c)) p (co1 d q) x) 0 := by
  have e : ∀ x : Dev nD, xaF A B x (ix4 d (⟨xp c, xp_lt c⟩ : Fin 2) p q)
      = ∑ t ∈ Finset.range 8, D A B (rowF x (gd d 7) (xp c)) p (co1 d q) ((prv (fl d.val (xp c)))^[t] x) := by
    intro x
    refine (X11_at A B (fl d.val (xp c)) p q x).trans ?_
    rw [fdir_fl_dir d (⟨xp c, xp_lt c⟩ : Fin 2), flane_fl_val d (⟨xp c, xp_lt c⟩ : Fin 2)]
  rw [o13, fin13_at]
  refine congrArg (fun y : EReal => max y 0) ?_
  refine (congrArg₂ (fun y z : EReal => y + z) (e (nbr c 0)) (e c)).trans ?_
  rw [rowF_nbr]
  exact sum_rings _ c _

/-! ## The first group -/

/-- On the rows a device keeps, its first columns hold its product and its partner's. -/
theorem accF_at (c : Dev nD) (r : Fin 16) (p : Fin 128) (q : Fin 2048) (hr : r.val % 2 = xp c) (hq : q.val < 768) :
    accF A B c (ix3 r p q) = (show EReal from D A B r p q (nbr c 0)) + D A B r p q c := by
  rw [accF, dif_pos ⟨hr, hq⟩]
  exact acc01_at _ _ p (⟨q.val, hq⟩ : Fin 768)

/-- The kept row's lane. -/
theorem rowF_lane (c : Dev nD) (δ : ℕ) : (rowF c δ (xp c)).val % 2 = xp c := by
  have := xp_lt c
  rw [rowF_val c δ _ this]; omega

theorem co0_lt (f : Fin 4) (q : Fin 384) : (co0 f q).val < 768 := by
  fin_cases f <;> simp [co0] <;> omega

/-- What a flow of the first group sends at hop `h`. -/
theorem V02_at (f : Fin 4) (p : Fin 64) (q : Fin 384) (h : ℕ) (hh : h < 8) (c : Dev nD) :
    V02 A B f h c (ix3 (0 : Fin 1) p q)
      = ∑ t ∈ Finset.range (h + 1), (show EReal from accF A B ((prv f)^[t] c) (ix3 (rowF c (gd (fdir f) h) (xp c)) (ro0 f p) (co0 f q))) := by
  induction h generalizing c with
  | zero => rw [V02, seed02_at, Finset.sum_range_one]; rfl
  | succ h ih =>
    rw [V02, acc02_at, ih (by omega), xp_prv, rowF_prv f c h _ (by omega)]
    exact sum_step f c (h + 1) fun x => accF A B x (ix3 (rowF c (gd (fdir f) (h + 1)) (xp c)) (ro0 f p) (co0 f q))

/-- The finished piece is the clipped sum over all devices. -/
theorem o02_at (f : Fin 4) (c : Dev nD) (p : Fin 64) (q : Fin 384) :
    o02 A B f c (ix3 (0 : Fin 1) p q)
      = max (∑ x : Dev nD, D A B (rowF c (gd (fdir f) 7) (xp c)) (ro0 f p) (co0 f q) x) 0 := by
  rw [o02, fin02_at, V02_at A B f p q 6 (by decide), xp_prv, rowF_prv f c 6 _ (by decide)]
  refine congrArg (fun y : EReal => max y 0) ?_
  refine (sum_step f c 7 fun x => accF A B x (ix3 (rowF c (gd (fdir f) 7) (xp c)) (ro0 f p) (co0 f q))).trans ?_
  rw [← sum_rings f c, ← Finset.sum_add_distrib]
  refine Finset.sum_congr rfl fun t _ => ?_
  rw [← nbr_iter]
  exact accF_at A B _ _ _ _ (by rw [xp_iter]; exact rowF_lane c _) (co0_lt f q)

/-! ## The result -/

theorem gd_od (c : Dev nD) (d : Fin 2) : prw c (gd d 7) = prw c (od d 0) := by revert c d; decide +kernel

/-- The row an owner finishes. -/
theorem rowF_owner (r : Fin 16) (d : Fin 2) : rowF (owner r.val d) (gd d 7) (xp (owner r.val d)) = r := by
  apply Fin.ext
  rw [rowF_val _ _ _ (xp_lt _), gd_od]
  exact owner_row r d

theorem ro0_fl (d l : Fin 2) (p : Fin 128) (h : p.val / 64 = l.val) :
    ro0 (fl d.val l.val) (⟨p.val % 64, Nat.mod_lt _ (by decide)⟩ : Fin 64) = p := by
  apply Fin.ext
  fin_cases d <;> fin_cases l <;> simp [ro0] at h ⊢ <;> omega

theorem co0_fl (d l : Fin 2) (q : Fin 2048) (h : q.val / 384 = d.val) :
    co0 (fl d.val l.val) (⟨q.val % 384, Nat.mod_lt _ (by decide)⟩ : Fin 384) = q := by
  apply Fin.ext
  fin_cases d <;> fin_cases l <;> simp [co0] at h ⊢ <;> omega

/-- Every element of the result is the clipped sum of all devices' products there. -/
theorem outV_at (r : Fin 16) (p : Fin 128) (q : Fin 2048) :
    outV A B (ix3 r p q) = max (∑ x : Dev nD, D A B r p q x) 0 := by
  unfold outV
  by_cases hq : q.val < 768
  · rw [if_pos (show ((ix3 r p q : SO.Idx) 2).val < 768 from hq)]
    have hd : q.val / 384 < 2 := by omega
    have hl : p.val / 64 < 2 := by omega
    have key : ∀ (d l : Fin 2), q.val / 384 = d.val → p.val / 64 = l.val →
        o02 A B (fl d.val l.val) (owner r.val d)
            (ix3 (0 : Fin 1) (⟨p.val % 64, Nat.mod_lt _ (by decide)⟩ : Fin 64) (⟨q.val % 384, Nat.mod_lt _ (by decide)⟩ : Fin 384))
          = max (∑ x : Dev nD, D A B r p q x) 0 := by
      intro d l h1 h2
      rw [o02_at, fdir_fl_dir, rowF_owner, ro0_fl d l p h2, co0_fl d l q h1]
    refine (?_ : _ = o02 A B (fl (⟨q.val / 384, hd⟩ : Fin 2).val (⟨p.val / 64, hl⟩ : Fin 2).val) (owner r.val ⟨q.val / 384, hd⟩) _).trans
      (key ⟨q.val / 384, hd⟩ ⟨p.val / 64, hl⟩ rfl rfl)
    have e : (⟨q.val / 384 % 2, Nat.mod_lt _ (by decide)⟩ : Fin 2) = ⟨q.val / 384, hd⟩ := Fin.ext (Nat.mod_eq_of_lt hd)
    show o02 A B (fl (⟨q.val / 384 % 2, Nat.mod_lt _ (by decide)⟩ : Fin 2).val (p.val / 64)) (owner r.val ⟨q.val / 384 % 2, Nat.mod_lt _ (by decide)⟩) _ = _
    rw [e]
  · rw [if_neg (show ¬((ix3 r p q : SO.Idx) 2).val < 768 from hq)]
    have hd : (q.val - 768) / 640 < 2 := by omega
    have key : ∀ (d : Fin 2), (q.val - 768) / 640 = d.val →
        o13 A B d (owner r.val d) (ix3 (0 : Fin 1) p (⟨(q.val - 768) % 640, Nat.mod_lt _ (by decide)⟩ : Fin 640))
          = max (∑ x : Dev nD, D A B r p q x) 0 := by
      intro d h1
      have ec : co1 d (⟨(q.val - 768) % 640, Nat.mod_lt _ (by decide)⟩ : Fin 640) = q :=
        Fin.ext (show 768 + 640 * d.val + (q.val - 768) % 640 = q.val by omega)
      rw [o13_at, rowF_owner, ec]
    have e : (⟨(q.val - 768) / 640 % 2, Nat.mod_lt _ (by decide)⟩ : Fin 2) = ⟨(q.val - 768) / 640, hd⟩ := Fin.ext (Nat.mod_eq_of_lt hd)
    show o13 A B (⟨(q.val - 768) / 640 % 2, Nat.mod_lt _ (by decide)⟩ : Fin 2) (owner r.val ⟨(q.val - 768) / 640 % 2, Nat.mod_lt _ (by decide)⟩) _ = _
    rw [e]
    exact key ⟨(q.val - 768) / 640, hd⟩ rfl

/-- A device's product, as a sum over its part of the contraction. -/
theorem D_at (c : Dev nD) (r : Fin 16) (p : Fin 128) (q : Fin 2048) :
    D A B r p q c = ∑ k : Fin 1024, (show EReal from A c (ix2 (⟨r.val * 128 + p.val, by omega⟩ : Fin 2048) k)) * B c (ix2 k q) :=
  dotV_at _ _ p q

end Cert.Proof

end
-- ==== Proof.Algebraic.lean ====
/-
  The value claim: over the extended reals every device's result array ends at the reference's value.
-/
module

public import proofs.«01_k».proof.Defs
public import proofs.«01_k».proof.Proof.Launch
public import proofs.«01_k».proof.Proof.Rings
public import proofs.«01_k».proof.Proof.Gen.ReferenceIdeal.Run
public import Idealize.ShloMosaic.Lib.Layout

@[expose] public section

set_option maxRecDepth 20000

noncomputable section

namespace Cert.Proof

open Idealize.ShloMosaic hiding ix1 ix2 ix3 ix4 ix5
open Idealize.ShloMosaic.TcCoe
open Idealize.ShloMosaic.ValueIdx Idealize.ShloMosaic.ValueKit
open Idealize.SL.Sem

/-! ## The reference -/

section Ref

open Cert.ReferenceIdeal Cert.ReferenceIdeal.Gen

/-- What the reference leaves, of its two whole arrays. -/
def refOut (A : Vec Ideal S2048x16384 .bf16) (B : Vec Ideal S16384x2048 .bf16) : Vec Ideal S16x128x2048 .bf16 :=
  shapeCast S16x128x2048
    (truncf .bf16 (maximumf (Host.dotGeneral (φ₁ := .bf16) (φ₂ := .bf16) dot_S2048x16384_S16384x2048_S2048x2048_1_0_0_1_n_n none A B)
      (broadcastInDim S2048x2048 ![] bcast_S_S2048x2048 (constant S_ .f32 0x00000000#32))) bitsLt_bf16_f32 : FVec Ideal S2048x2048 .bf16)
    shapeCasts_S2048x2048_S16x128x2048

/-- An element of it: the clipped sum over the whole contraction. -/
theorem refOut_at (A : Vec Ideal S2048x16384 .bf16) (B : Vec Ideal S16384x2048 .bf16) (r : Fin 16) (p : Fin 128) (q : Fin 2048) :
    refOut A B (ix3 r p q)
      = max (∑ k : Fin 16384, (show EReal from A (ix2 (⟨r.val * 128 + p.val, by omega⟩ : Fin 2048) k)) * B (ix2 k q)) 0 := by
  pointwise [refOut]
  rfl

end Ref

/-- A sum over the whole contraction, by the devices' parts of it. -/
theorem sum_parts (g : Fin 16384 → EReal) :
    ∑ k : Fin 16384, g k = ∑ c : Fin 16, ∑ k : Fin 1024, g ⟨c.val * 1024 + k.val, by omega⟩ := by
  rw [← (finProdFinEquiv (m := 16) (n := 1024)).sum_comp g, Fintype.sum_prod_type]
  refine Finset.sum_congr rfl fun c _ => Finset.sum_congr rfl fun k _ => congrArg g (Fin.ext ?_)
  show k.val + 1024 * c.val = c.val * 1024 + k.val
  omega

/-! ## The kernel -/

section Kern

open Cert.KernelIdeal Cert.KernelIdeal.Gen

variable {F : FTy → Type} [FloatOps F] (m : (ℓ : Loc nD τ sig) → Buf (Elt F) ℓ) (ρ : Dev nD → PrngReg)

/-- What a device stages is its array. -/
theorem stA_eq (c : Dev nD) : stA m ρ c = m ((c : Thread nD τ).loc main_arg0) :=
  Memref.read_access_unit_zero (Elt F) main_arg0 (funext fun a => by fin_cases a <;> decide) (fun a => by fin_cases a <;> decide) _
theorem stB_eq (c : Dev nD) : stB m ρ c = m ((c : Thread nD τ).loc main_arg1) :=
  Memref.read_access_unit_zero (Elt F) main_arg1 (funext fun a => by fin_cases a <;> decide) (fun a => by fin_cases a <;> decide) _

/-- The result array ends at the computed contents. -/
theorem final_o (c : Dev nD) : finalA m ρ c (2 : Fin 3) = outV (stA m ρ) (stB m ρ) := by
  have h : (win0_2.blk (0 : Fin 1)).view.read (Elt F) (finalA m ρ c (2 : Fin 3)) = outV (stA m ρ) (stB m ρ) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

end Kern

/-- On blocks of two whole arrays the devices' result is the reference's. -/
theorem outV_ref (A' : Vec Ideal Cert.ReferenceIdeal.S2048x16384 .bf16) (B' : Vec Ideal Cert.ReferenceIdeal.S16384x2048 .bf16) :
    outV (fun c => Layout.block ⟨2, ![2048, 1024]⟩ ⟨2, ![2048, 16384]⟩ 1 16 c A')
        (fun c => Layout.block ⟨2, ![1024, 2048]⟩ ⟨2, ![16384, 2048]⟩ 0 16 c B')
      = refOut A' B' := by
  funext i
  rw [ValueIdx.eq_ix3 i]
  refine (outV_at _ _ (i 0) (i 1) (i 2)).trans ((refOut_at A' B' (i 0) (i 1) (i 2)).trans ?_).symm
  refine congrArg (fun y : EReal => max y 0) ?_
  rw [sum_parts]
  refine Finset.sum_congr rfl fun c _ => ((D_at _ _ c (i 0) (i 1) (i 2)).trans ?_).symm
  refine Finset.sum_congr rfl fun k _ => congrArg₂ (fun y z : EReal => y * z) (congrArg A' ?_) (congrArg B' ?_)
  · funext a
    apply Fin.ext
    fin_cases a <;> rfl
  · funext a
    apply Fin.ext
    fin_cases a <;> rfl

/-- Over the extended reals the kernel computes the reference on every device. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · have ha : stA m ρ = fun c => Layout.block ⟨2, ![2048, 1024]⟩ ⟨2, ![2048, 16384]⟩ 1 16 c _ :=
      funext fun c => (stA_eq m ρ c).trans (hagree c).1
    have hb : stB m ρ = fun c => Layout.block ⟨2, ![1024, 2048]⟩ ⟨2, ![16384, 2048]⟩ 0 16 c _ :=
      funext fun c => (stB_eq m ρ c).trans (hagree c).2
    refine (θ_run Cert.KernelIdeal.defs _ _).mono
      (fun _ h c => ⟨(h.1 c (2 : Fin 3)).trans ((final_o m ρ c).trans ?_), (h.1 c (0 : Fin 3)).trans (final_a m ρ c), (h.1 c (1 : Fin 3)).trans (final_b m ρ c)⟩)
      (run_main (F := Ideal) m ρ)
    rw [ha, hb]
    exact outV_ref _ _
  · exact (θ_run Cert.ReferenceIdeal.defs _ _).mono (fun _ h => h 0) (Cert.ReferenceIdeal.Value.run (F := Ideal) m' ρ')

end Cert.Proof

end
-- ==== Proof.lean ====
/-
  The proof of the claims: the frames and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

namespace Cert.Proof

/-- Every claim about the three programs. -/
theorem claim : Cert.Claim :=
  ⟨Cert.Kernel.Gen.facts, Cert.KernelIdeal.Gen.facts, Cert.ReferenceIdeal.Gen.facts, frame_kernel, frame_ideal, frame_ref, trivial, algebraic⟩

end Cert.Proof

end
